-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S31x64x512 : Shape := ⟨3, ![31, 64, 512]⟩
abbrev S31 : Shape := ⟨1, ![31]⟩
abbrev S_ : Shape := ⟨0, ![]⟩
abbrev S64x1024 : Shape := ⟨2, ![64, 1024]⟩
abbrev S64x2048 : Shape := ⟨2, ![64, 2048]⟩
abbrev S1 : Shape := ⟨1, ![1]⟩
abbrev S1x64x512 : Shape := ⟨3, ![1, 64, 512]⟩
abbrev S64x512 : Shape := ⟨2, ![64, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S31x64x512, .f32⟩
  | .local _ .vmem, ⟨4, _⟩ => ⟨S31x64x512, .f32⟩
  | .local _ .vmem, ⟨5, _⟩ => ⟨S31x64x512, .f32⟩
  | .local _ .vmem, ⟨6, _⟩ => ⟨S31x64x512, .f32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 499 → Bool
  | ⟨i, _⟩ => dmaSemScopedAt i

abbrev sig : RefSig :=
  (ofTc nBuf bufTy 1 499 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_159 : BitVec 32 := 1#32
  let v190 : BitVec 32 := Scalar.muli v188 c1_i32_159
  let v191 : BitVec 32 := Scalar.addi c0_i32_160 v190
  v191.toNat
def k0_dev2 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_162 : BitVec 32 := 1#32
  let v192 : BitVec 32 := Scalar.muli v126 c1_i32_162
  let v193 : BitVec 32 := Scalar.addi c0_i32_163 v192
  v193.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c64_i32 : BitVec 32 := 64#32
  let v194 : BitVec 32 := Scalar.muli v64 c64_i32
  let v195 : Index := Scalar.indexCast v194
  let c0 : Index := 0#32
  ![v195.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c64_i32_167 : BitVec 32 := 64#32
  let v201 : BitVec 32 := Scalar.muli v64 c64_i32_167
  let v202 : Index := Scalar.indexCast v201
  let c0_168 : Index := 0#32
  ![v202.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c64_i32_169 : BitVec 32 := 64#32
  let v204 : BitVec 32 := Scalar.muli v64 c64_i32_169
  let c0_i32_177 : BitVec 32 := 0#32
  ![v204.toNat, 0]
def k0_dev3 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_173 : BitVec 32 := 1#32
  let v205 : BitVec 32 := Scalar.muli v126 c1_i32_173
  let v206 : BitVec 32 := Scalar.addi c0_i32_174 v205
  v206.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c64_i32_178 : BitVec 32 := 64#32
  let v214 : BitVec 32 := Scalar.muli v64 c64_i32_178
  let c512_i32 : BitVec 32 := 512#32
  ![v214.toNat, 512]
def k0_dev4 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_182 : BitVec 32 := 1#32
  let v215 : BitVec 32 := Scalar.muli v126 c1_i32_182
  let v216 : BitVec 32 := Scalar.addi c0_i32_183 v215
  v216.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c64_i32_186 : BitVec 32 := 64#32
  let v224 : BitVec 32 := Scalar.muli v64 c64_i32_186
  let c1024_i32 : BitVec 32 := 1024#32
  ![v224.toNat, 1024]
def k0_dev5 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_190 : BitVec 32 := 1#32
  let v225 : BitVec 32 := Scalar.muli v188 c1_i32_190
  let v226 : BitVec 32 := Scalar.addi c0_i32_191 v225
  v226.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c64_i32_194 : BitVec 32 := 64#32
  let v234 : BitVec 32 := Scalar.muli v64 c64_i32_194
  let c1536_i32 : BitVec 32 := 1536#32
  ![v234.toNat, 1536]
def k0_dev6 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_198 : BitVec 32 := 1#32
  let v235 : BitVec 32 := Scalar.muli v188 c1_i32_198
  let v236 : BitVec 32 := Scalar.addi c0_i32_199 v235
  v236.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_202 : BitVec 32 := 1#32
  let v244 : BitVec 32 := Scalar.subi v64 c1_i32_202
  let c32_i32_203 : BitVec 32 := 32#32
  let c0_i32_204 : BitVec 32 := 0#32
  let v245 : BitVec 1 := Scalar.cmpi .eq c32_i32_203 c0_i32_204
  let c1_i32_205 : BitVec 32 := 1#32
  let v246 : BitVec 32 := Scalar.select v245 c1_i32_205 c32_i32_203
  let v247 : BitVec 32 := Scalar.remsi v244 v246
  let c0_i32_207 : BitVec 32 := 0#32
  let v249 : BitVec 1 := Scalar.cmpi .slt v247 c0_i32_207
  let c0_i32_208 : BitVec 32 := 0#32
  let v250 : BitVec 1 := Scalar.cmpi .slt v246 c0_i32_208
  let v251 : BitVec 1 := Scalar.xori v249 v250
  let c0_i32_206 : BitVec 32 := 0#32
  let v248 : BitVec 1 := Scalar.cmpi .ne v247 c0_i32_206
  let v252 : BitVec 1 := Scalar.andi v251 v248
  let v253 : BitVec 32 := Scalar.addi v247 v246
  let v254 : BitVec 32 := Scalar.select v252 v253 v247
  let c64_i32_216 : BitVec 32 := 64#32
  let v266 : BitVec 32 := Scalar.muli v254 c64_i32_216
  let v267 : Index := Scalar.indexCast v266
  let c0_217 : Index := 0#32
  ![v267.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_202 : BitVec 32 := 1#32
  let v244 : BitVec 32 := Scalar.subi v64 c1_i32_202
  let c32_i32_203 : BitVec 32 := 32#32
  let c0_i32_204 : BitVec 32 := 0#32
  let v245 : BitVec 1 := Scalar.cmpi .eq c32_i32_203 c0_i32_204
  let c1_i32_205 : BitVec 32 := 1#32
  let v246 : BitVec 32 := Scalar.select v245 c1_i32_205 c32_i32_203
  let v247 : BitVec 32 := Scalar.remsi v244 v246
  let c0_i32_207 : BitVec 32 := 0#32
  let v249 : BitVec 1 := Scalar.cmpi .slt v247 c0_i32_207
  let c0_i32_208 : BitVec 32 := 0#32
  let v250 : BitVec 1 := Scalar.cmpi .slt v246 c0_i32_208
  let v251 : BitVec 1 := Scalar.xori v249 v250
  let c0_i32_206 : BitVec 32 := 0#32
  let v248 : BitVec 1 := Scalar.cmpi .ne v247 c0_i32_206
  let v252 : BitVec 1 := Scalar.andi v251 v248
  let v253 : BitVec 32 := Scalar.addi v247 v246
  let v254 : BitVec 32 := Scalar.select v252 v253 v247
  let c64_i32_221 : BitVec 32 := 64#32
  let v273 : BitVec 32 := Scalar.muli v254 c64_i32_221
  let v274 : Index := Scalar.indexCast v273
  let c0_222 : Index := 0#32
  ![v274.toNat, 0]
def k0_off9 (d0 : Dev nD) (c1_i32_209 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v255 : BitVec 32 := Scalar.addi v64 c1_i32_209
  let c32_i32_210 : BitVec 32 := 32#32
  let c0_i32_211 : BitVec 32 := 0#32
  let v256 : BitVec 1 := Scalar.cmpi .eq c32_i32_210 c0_i32_211
  let c1_i32_212 : BitVec 32 := 1#32
  let v257 : BitVec 32 := Scalar.select v256 c1_i32_212 c32_i32_210
  let v258 : BitVec 32 := Scalar.remsi v255 v257
  let c0_i32_214 : BitVec 32 := 0#32
  let v260 : BitVec 1 := Scalar.cmpi .slt v258 c0_i32_214
  let c0_i32_215 : BitVec 32 := 0#32
  let v261 : BitVec 1 := Scalar.cmpi .slt v257 c0_i32_215
  let v262 : BitVec 1 := Scalar.xori v260 v261
  let c0_i32_213 : BitVec 32 := 0#32
  let v259 : BitVec 1 := Scalar.cmpi .ne v258 c0_i32_213
  let v263 : BitVec 1 := Scalar.andi v262 v259
  let v264 : BitVec 32 := Scalar.addi v258 v257
  let v265 : BitVec 32 := Scalar.select v263 v264 v258
  let c64_i32_223 : BitVec 32 := 64#32
  let v276 : BitVec 32 := Scalar.muli v265 c64_i32_223
  let v277 : Index := Scalar.indexCast v276
  let c0_224 : Index := 0#32
  ![v277.toNat, 0]
def k0_off10 (d0 : Dev nD) (c1_i32_209 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v255 : BitVec 32 := Scalar.addi v64 c1_i32_209
  let c32_i32_210 : BitVec 32 := 32#32
  let c0_i32_211 : BitVec 32 := 0#32
  let v256 : BitVec 1 := Scalar.cmpi .eq c32_i32_210 c0_i32_211
  let c1_i32_212 : BitVec 32 := 1#32
  let v257 : BitVec 32 := Scalar.select v256 c1_i32_212 c32_i32_210
  let v258 : BitVec 32 := Scalar.remsi v255 v257
  let c0_i32_214 : BitVec 32 := 0#32
  let v260 : BitVec 1 := Scalar.cmpi .slt v258 c0_i32_214
  let c0_i32_215 : BitVec 32 := 0#32
  let v261 : BitVec 1 := Scalar.cmpi .slt v257 c0_i32_215
  let v262 : BitVec 1 := Scalar.xori v260 v261
  let c0_i32_213 : BitVec 32 := 0#32
  let v259 : BitVec 1 := Scalar.cmpi .ne v258 c0_i32_213
  let v263 : BitVec 1 := Scalar.andi v262 v259
  let v264 : BitVec 32 := Scalar.addi v258 v257
  let v265 : BitVec 32 := Scalar.select v263 v264 v258
  let c64_i32_227 : BitVec 32 := 64#32
  let v283 : BitVec 32 := Scalar.muli v265 c64_i32_227
  let v284 : Index := Scalar.indexCast v283
  let c1024_228 : Index := 1024#32
  ![v284.toNat, 1024]
def k0_off11 (d0 : Dev nD) (c1_i32_229 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v286 : BitVec 32 := Scalar.subi v64 c1_i32_229
  let c32_i32_230 : BitVec 32 := 32#32
  let c0_i32_231 : BitVec 32 := 0#32
  let v287 : BitVec 1 := Scalar.cmpi .eq c32_i32_230 c0_i32_231
  let c1_i32_232 : BitVec 32 := 1#32
  let v288 : BitVec 32 := Scalar.select v287 c1_i32_232 c32_i32_230
  let v289 : BitVec 32 := Scalar.remsi v286 v288
  let c0_i32_234 : BitVec 32 := 0#32
  let v291 : BitVec 1 := Scalar.cmpi .slt v289 c0_i32_234
  let c0_i32_235 : BitVec 32 := 0#32
  let v292 : BitVec 1 := Scalar.cmpi .slt v288 c0_i32_235
  let v293 : BitVec 1 := Scalar.xori v291 v292
  let c0_i32_233 : BitVec 32 := 0#32
  let v290 : BitVec 1 := Scalar.cmpi .ne v289 c0_i32_233
  let v294 : BitVec 1 := Scalar.andi v293 v290
  let v295 : BitVec 32 := Scalar.addi v289 v288
  let v296 : BitVec 32 := Scalar.select v294 v295 v289
  let c64_i32_258 : BitVec 32 := 64#32
  let v320 : BitVec 32 := Scalar.muli v296 c64_i32_258
  let v321 : Index := Scalar.indexCast v320
  let c0_259 : Index := 0#32
  ![v321.toNat, 0]
def k0_off12 (d0 : Dev nD) (c1_i32_229 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v286 : BitVec 32 := Scalar.subi v64 c1_i32_229
  let c32_i32_230 : BitVec 32 := 32#32
  let c0_i32_231 : BitVec 32 := 0#32
  let v287 : BitVec 1 := Scalar.cmpi .eq c32_i32_230 c0_i32_231
  let c1_i32_232 : BitVec 32 := 1#32
  let v288 : BitVec 32 := Scalar.select v287 c1_i32_232 c32_i32_230
  let v289 : BitVec 32 := Scalar.remsi v286 v288
  let c0_i32_234 : BitVec 32 := 0#32
  let v291 : BitVec 1 := Scalar.cmpi .slt v289 c0_i32_234
  let c0_i32_235 : BitVec 32 := 0#32
  let v292 : BitVec 1 := Scalar.cmpi .slt v288 c0_i32_235
  let v293 : BitVec 1 := Scalar.xori v291 v292
  let c0_i32_233 : BitVec 32 := 0#32
  let v290 : BitVec 1 := Scalar.cmpi .ne v289 c0_i32_233
  let v294 : BitVec 1 := Scalar.andi v293 v290
  let v295 : BitVec 32 := Scalar.addi v289 v288
  let v296 : BitVec 32 := Scalar.select v294 v295 v289
  let c64_i32_279 : BitVec 32 := 64#32
  let v341 : BitVec 32 := Scalar.muli v296 c64_i32_279
  let v342 : Index := Scalar.indexCast v341
  let c512 : Index := 512#32
  ![v342.toNat, 512]
def k0_off13 (d0 : Dev nD) (c1_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v297 : BitVec 32 := Scalar.addi v64 c1_i32_236
  let c32_i32_237 : BitVec 32 := 32#32
  let c0_i32_238 : BitVec 32 := 0#32
  let v298 : BitVec 1 := Scalar.cmpi .eq c32_i32_237 c0_i32_238
  let c1_i32_239 : BitVec 32 := 1#32
  let v299 : BitVec 32 := Scalar.select v298 c1_i32_239 c32_i32_237
  let v300 : BitVec 32 := Scalar.remsi v297 v299
  let c0_i32_241 : BitVec 32 := 0#32
  let v302 : BitVec 1 := Scalar.cmpi .slt v300 c0_i32_241
  let c0_i32_242 : BitVec 32 := 0#32
  let v303 : BitVec 1 := Scalar.cmpi .slt v299 c0_i32_242
  let v304 : BitVec 1 := Scalar.xori v302 v303
  let c0_i32_240 : BitVec 32 := 0#32
  let v301 : BitVec 1 := Scalar.cmpi .ne v300 c0_i32_240
  let v305 : BitVec 1 := Scalar.andi v304 v301
  let v306 : BitVec 32 := Scalar.addi v300 v299
  let v307 : BitVec 32 := Scalar.select v305 v306 v300
  let c64_i32_299 : BitVec 32 := 64#32
  let v362 : BitVec 32 := Scalar.muli v307 c64_i32_299
  let v363 : Index := Scalar.indexCast v362
  let c1024_300 : Index := 1024#32
  ![v363.toNat, 1024]
def k0_off14 (d0 : Dev nD) (c1_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v297 : BitVec 32 := Scalar.addi v64 c1_i32_236
  let c32_i32_237 : BitVec 32 := 32#32
  let c0_i32_238 : BitVec 32 := 0#32
  let v298 : BitVec 1 := Scalar.cmpi .eq c32_i32_237 c0_i32_238
  let c1_i32_239 : BitVec 32 := 1#32
  let v299 : BitVec 32 := Scalar.select v298 c1_i32_239 c32_i32_237
  let v300 : BitVec 32 := Scalar.remsi v297 v299
  let c0_i32_241 : BitVec 32 := 0#32
  let v302 : BitVec 1 := Scalar.cmpi .slt v300 c0_i32_241
  let c0_i32_242 : BitVec 32 := 0#32
  let v303 : BitVec 1 := Scalar.cmpi .slt v299 c0_i32_242
  let v304 : BitVec 1 := Scalar.xori v302 v303
  let c0_i32_240 : BitVec 32 := 0#32
  let v301 : BitVec 1 := Scalar.cmpi .ne v300 c0_i32_240
  let v305 : BitVec 1 := Scalar.andi v304 v301
  let v306 : BitVec 32 := Scalar.addi v300 v299
  let v307 : BitVec 32 := Scalar.select v305 v306 v300
  let c64_i32_320 : BitVec 32 := 64#32
  let v383 : BitVec 32 := Scalar.muli v307 c64_i32_320
  let v384 : Index := Scalar.indexCast v383
  let c1536 : Index := 1536#32
  ![v384.toNat, 1536]
def k0_off15 (d0 : Dev nD) (c1_i32_229 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v286 : BitVec 32 := Scalar.subi v64 c1_i32_229
  let c32_i32_230 : BitVec 32 := 32#32
  let c0_i32_231 : BitVec 32 := 0#32
  let v287 : BitVec 1 := Scalar.cmpi .eq c32_i32_230 c0_i32_231
  let c1_i32_232 : BitVec 32 := 1#32
  let v288 : BitVec 32 := Scalar.select v287 c1_i32_232 c32_i32_230
  let v289 : BitVec 32 := Scalar.remsi v286 v288
  let c0_i32_234 : BitVec 32 := 0#32
  let v291 : BitVec 1 := Scalar.cmpi .slt v289 c0_i32_234
  let c0_i32_235 : BitVec 32 := 0#32
  let v292 : BitVec 1 := Scalar.cmpi .slt v288 c0_i32_235
  let v293 : BitVec 1 := Scalar.xori v291 v292
  let c0_i32_233 : BitVec 32 := 0#32
  let v290 : BitVec 1 := Scalar.cmpi .ne v289 c0_i32_233
  let v294 : BitVec 1 := Scalar.andi v293 v290
  let v295 : BitVec 32 := Scalar.addi v289 v288
  let v296 : BitVec 32 := Scalar.select v294 v295 v289
  let c64_i32_325 : BitVec 32 := 64#32
  let v392 : BitVec 32 := Scalar.muli v296 c64_i32_325
  let c0_i32_333 : BitVec 32 := 0#32
  ![v392.toNat, 0]
def k0_dev7 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_329 : BitVec 32 := 1#32
  let v393 : BitVec 32 := Scalar.muli v126 c1_i32_329
  let v394 : BitVec 32 := Scalar.addi c0_i32_330 v393
  v394.toNat
def k0_off16 (d0 : Dev nD) (c1_i32_229 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v286 : BitVec 32 := Scalar.subi v64 c1_i32_229
  let c32_i32_230 : BitVec 32 := 32#32
  let c0_i32_231 : BitVec 32 := 0#32
  let v287 : BitVec 1 := Scalar.cmpi .eq c32_i32_230 c0_i32_231
  let c1_i32_232 : BitVec 32 := 1#32
  let v288 : BitVec 32 := Scalar.select v287 c1_i32_232 c32_i32_230
  let v289 : BitVec 32 := Scalar.remsi v286 v288
  let c0_i32_234 : BitVec 32 := 0#32
  let v291 : BitVec 1 := Scalar.cmpi .slt v289 c0_i32_234
  let c0_i32_235 : BitVec 32 := 0#32
  let v292 : BitVec 1 := Scalar.cmpi .slt v288 c0_i32_235
  let v293 : BitVec 1 := Scalar.xori v291 v292
  let c0_i32_233 : BitVec 32 := 0#32
  let v290 : BitVec 1 := Scalar.cmpi .ne v289 c0_i32_233
  let v294 : BitVec 1 := Scalar.andi v293 v290
  let v295 : BitVec 32 := Scalar.addi v289 v288
  let v296 : BitVec 32 := Scalar.select v294 v295 v289
  let c64_i32_334 : BitVec 32 := 64#32
  let v402 : BitVec 32 := Scalar.muli v296 c64_i32_334
  let c512_i32_342 : BitVec 32 := 512#32
  ![v402.toNat, 512]
def k0_dev8 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_338 : BitVec 32 := 1#32
  let v403 : BitVec 32 := Scalar.muli v126 c1_i32_338
  let v404 : BitVec 32 := Scalar.addi c0_i32_339 v403
  v404.toNat
def k0_off17 (d0 : Dev nD) (c1_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v297 : BitVec 32 := Scalar.addi v64 c1_i32_236
  let c32_i32_237 : BitVec 32 := 32#32
  let c0_i32_238 : BitVec 32 := 0#32
  let v298 : BitVec 1 := Scalar.cmpi .eq c32_i32_237 c0_i32_238
  let c1_i32_239 : BitVec 32 := 1#32
  let v299 : BitVec 32 := Scalar.select v298 c1_i32_239 c32_i32_237
  let v300 : BitVec 32 := Scalar.remsi v297 v299
  let c0_i32_241 : BitVec 32 := 0#32
  let v302 : BitVec 1 := Scalar.cmpi .slt v300 c0_i32_241
  let c0_i32_242 : BitVec 32 := 0#32
  let v303 : BitVec 1 := Scalar.cmpi .slt v299 c0_i32_242
  let v304 : BitVec 1 := Scalar.xori v302 v303
  let c0_i32_240 : BitVec 32 := 0#32
  let v301 : BitVec 1 := Scalar.cmpi .ne v300 c0_i32_240
  let v305 : BitVec 1 := Scalar.andi v304 v301
  let v306 : BitVec 32 := Scalar.addi v300 v299
  let v307 : BitVec 32 := Scalar.select v305 v306 v300
  let c64_i32_343 : BitVec 32 := 64#32
  let v412 : BitVec 32 := Scalar.muli v307 c64_i32_343
  let c1024_i32_351 : BitVec 32 := 1024#32
  ![v412.toNat, 1024]
def k0_dev9 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_347 : BitVec 32 := 1#32
  let v413 : BitVec 32 := Scalar.muli v188 c1_i32_347
  let v414 : BitVec 32 := Scalar.addi c0_i32_348 v413
  v414.toNat
def k0_off18 (d0 : Dev nD) (c1_i32_236 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v297 : BitVec 32 := Scalar.addi v64 c1_i32_236
  let c32_i32_237 : BitVec 32 := 32#32
  let c0_i32_238 : BitVec 32 := 0#32
  let v298 : BitVec 1 := Scalar.cmpi .eq c32_i32_237 c0_i32_238
  let c1_i32_239 : BitVec 32 := 1#32
  let v299 : BitVec 32 := Scalar.select v298 c1_i32_239 c32_i32_237
  let v300 : BitVec 32 := Scalar.remsi v297 v299
  let c0_i32_241 : BitVec 32 := 0#32
  let v302 : BitVec 1 := Scalar.cmpi .slt v300 c0_i32_241
  let c0_i32_242 : BitVec 32 := 0#32
  let v303 : BitVec 1 := Scalar.cmpi .slt v299 c0_i32_242
  let v304 : BitVec 1 := Scalar.xori v302 v303
  let c0_i32_240 : BitVec 32 := 0#32
  let v301 : BitVec 1 := Scalar.cmpi .ne v300 c0_i32_240
  let v305 : BitVec 1 := Scalar.andi v304 v301
  let v306 : BitVec 32 := Scalar.addi v300 v299
  let v307 : BitVec 32 := Scalar.select v305 v306 v300
  let c64_i32_352 : BitVec 32 := 64#32
  let v422 : BitVec 32 := Scalar.muli v307 c64_i32_352
  let c1536_i32_360 : BitVec 32 := 1536#32
  ![v422.toNat, 1536]
def k0_dev10 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_356 : BitVec 32 := 1#32
  let v423 : BitVec 32 := Scalar.muli v188 c1_i32_356
  let v424 : BitVec 32 := Scalar.addi c0_i32_357 v423
  v424.toNat
def k0_off19 (d0 : Dev nD) (c1_i32_361 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v432 : BitVec 32 := Scalar.subi v64 c1_i32_361
  let c1_i32_362 : BitVec 32 := 1#32
  let v433 : BitVec 32 := Scalar.subi v432 c1_i32_362
  let c32_i32_363 : BitVec 32 := 32#32
  let c0_i32_364 : BitVec 32 := 0#32
  let v434 : BitVec 1 := Scalar.cmpi .eq c32_i32_363 c0_i32_364
  let c1_i32_365 : BitVec 32 := 1#32
  let v435 : BitVec 32 := Scalar.select v434 c1_i32_365 c32_i32_363
  let v436 : BitVec 32 := Scalar.remsi v433 v435
  let c0_i32_367 : BitVec 32 := 0#32
  let v438 : BitVec 1 := Scalar.cmpi .slt v436 c0_i32_367
  let c0_i32_368 : BitVec 32 := 0#32
  let v439 : BitVec 1 := Scalar.cmpi .slt v435 c0_i32_368
  let v440 : BitVec 1 := Scalar.xori v438 v439
  let c0_i32_366 : BitVec 32 := 0#32
  let v437 : BitVec 1 := Scalar.cmpi .ne v436 c0_i32_366
  let v441 : BitVec 1 := Scalar.andi v440 v437
  let v442 : BitVec 32 := Scalar.addi v436 v435
  let v443 : BitVec 32 := Scalar.select v441 v442 v436
  let c64_i32_376 : BitVec 32 := 64#32
  let v455 : BitVec 32 := Scalar.muli v443 c64_i32_376
  let v456 : Index := Scalar.indexCast v455
  let c0_377 : Index := 0#32
  ![v456.toNat, 0]
def k0_off20 (d0 : Dev nD) (c1_i32_361 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let v432 : BitVec 32 := Scalar.subi v64 c1_i32_361
  let c1_i32_362 : BitVec 32 := 1#32
  let v433 : BitVec 32 := Scalar.subi v432 c1_i32_362
  let c32_i32_363 : BitVec 32 := 32#32
  let c0_i32_364 : BitVec 32 := 0#32
  let v434 : BitVec 1 := Scalar.cmpi .eq c32_i32_363 c0_i32_364
  let c1_i32_365 : BitVec 32 := 1#32
  let v435 : BitVec 32 := Scalar.select v434 c1_i32_365 c32_i32_363
  let v436 : BitVec 32 := Scalar.remsi v433 v435
  let c0_i32_367 : BitVec 32 := 0#32
  let v438 : BitVec 1 := Scalar.cmpi .slt v436 c0_i32_367
  let c0_i32_368 : BitVec 32 := 0#32
  let v439 : BitVec 1 := Scalar.cmpi .slt v435 c0_i32_368
  let v440 : BitVec 1 := Scalar.xori v438 v439
  let c0_i32_366 : BitVec 32 := 0#32
  let v437 : BitVec 1 := Scalar.cmpi .ne v436 c0_i32_366
  let v441 : BitVec 1 := Scalar.andi v440 v437
  let v442 : BitVec 32 := Scalar.addi v436 v435
  let v443 : BitVec 32 := Scalar.select v441 v442 v436
  let c64_i32_381 : BitVec 32 := 64#32
  let v462 : BitVec 32 := Scalar.muli v443 c64_i32_381
  let v463 : Index := Scalar.indexCast v462
  let c0_382 : Index := 0#32
  ![v463.toNat, 0]
def k0_dev11 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_491 : BitVec 32 := 1#32
  let v582 : BitVec 32 := Scalar.muli v126 c1_i32_491
  let v583 : BitVec 32 := Scalar.addi c0_i32_492 v582
  v583.toNat
def k0_dev12 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_500 : BitVec 32 := 1#32
  let v592 : BitVec 32 := Scalar.muli v126 c1_i32_500
  let v593 : BitVec 32 := Scalar.addi c0_i32_501 v592
  v593.toNat
def k0_dev13 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_509 : BitVec 32 := 1#32
  let v602 : BitVec 32 := Scalar.muli v188 c1_i32_509
  let v603 : BitVec 32 := Scalar.addi c0_i32_510 v602
  v603.toNat
def k0_dev14 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_518 : BitVec 32 := 1#32
  let v612 : BitVec 32 := Scalar.muli v188 c1_i32_518
  let v613 : BitVec 32 := Scalar.addi c0_i32_519 v612
  v613.toNat
def k0_dev15 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_653 : BitVec 32 := 1#32
  let v771 : BitVec 32 := Scalar.muli v126 c1_i32_653
  let v772 : BitVec 32 := Scalar.addi c0_i32_654 v771
  v772.toNat
def k0_dev16 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_662 : BitVec 32 := 1#32
  let v781 : BitVec 32 := Scalar.muli v126 c1_i32_662
  let v782 : BitVec 32 := Scalar.addi c0_i32_663 v781
  v782.toNat
def k0_dev17 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_671 : BitVec 32 := 1#32
  let v791 : BitVec 32 := Scalar.muli v188 c1_i32_671
  let v792 : BitVec 32 := Scalar.addi c0_i32_672 v791
  v792.toNat
def k0_dev18 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_680 : BitVec 32 := 1#32
  let v801 : BitVec 32 := Scalar.muli v188 c1_i32_680
  let v802 : BitVec 32 := Scalar.addi c0_i32_681 v801
  v802.toNat
def k0_dev19 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_815 : BitVec 32 := 1#32
  let v960 : BitVec 32 := Scalar.muli v126 c1_i32_815
  let v961 : BitVec 32 := Scalar.addi c0_i32_816 v960
  v961.toNat
def k0_dev20 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_824 : BitVec 32 := 1#32
  let v970 : BitVec 32 := Scalar.muli v126 c1_i32_824
  let v971 : BitVec 32 := Scalar.addi c0_i32_825 v970
  v971.toNat
def k0_dev21 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_833 : BitVec 32 := 1#32
  let v980 : BitVec 32 := Scalar.muli v188 c1_i32_833
  let v981 : BitVec 32 := Scalar.addi c0_i32_834 v980
  v981.toNat
def k0_dev22 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_842 : BitVec 32 := 1#32
  let v990 : BitVec 32 := Scalar.muli v188 c1_i32_842
  let v991 : BitVec 32 := Scalar.addi c0_i32_843 v990
  v991.toNat
def k0_dev23 (d0 : Dev nD) : Nat :=
  let c0_i32_978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_977 : BitVec 32 := 1#32
  let v1149 : BitVec 32 := Scalar.muli v126 c1_i32_977
  let v1150 : BitVec 32 := Scalar.addi c0_i32_978 v1149
  v1150.toNat
def k0_dev24 (d0 : Dev nD) : Nat :=
  let c0_i32_987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_986 : BitVec 32 := 1#32
  let v1159 : BitVec 32 := Scalar.muli v126 c1_i32_986
  let v1160 : BitVec 32 := Scalar.addi c0_i32_987 v1159
  v1160.toNat
def k0_dev25 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_995 : BitVec 32 := 1#32
  let v1169 : BitVec 32 := Scalar.muli v188 c1_i32_995
  let v1170 : BitVec 32 := Scalar.addi c0_i32_996 v1169
  v1170.toNat
def k0_dev26 (d0 : Dev nD) : Nat :=
  let c0_i32_1005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1004 : BitVec 32 := 1#32
  let v1179 : BitVec 32 := Scalar.muli v188 c1_i32_1004
  let v1180 : BitVec 32 := Scalar.addi c0_i32_1005 v1179
  v1180.toNat
def k0_dev27 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1139 : BitVec 32 := 1#32
  let v1338 : BitVec 32 := Scalar.muli v126 c1_i32_1139
  let v1339 : BitVec 32 := Scalar.addi c0_i32_1140 v1338
  v1339.toNat
def k0_dev28 (d0 : Dev nD) : Nat :=
  let c0_i32_1149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1148 : BitVec 32 := 1#32
  let v1348 : BitVec 32 := Scalar.muli v126 c1_i32_1148
  let v1349 : BitVec 32 := Scalar.addi c0_i32_1149 v1348
  v1349.toNat
def k0_dev29 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1157 : BitVec 32 := 1#32
  let v1358 : BitVec 32 := Scalar.muli v188 c1_i32_1157
  let v1359 : BitVec 32 := Scalar.addi c0_i32_1158 v1358
  v1359.toNat
def k0_dev30 (d0 : Dev nD) : Nat :=
  let c0_i32_1167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1166 : BitVec 32 := 1#32
  let v1368 : BitVec 32 := Scalar.muli v188 c1_i32_1166
  let v1369 : BitVec 32 := Scalar.addi c0_i32_1167 v1368
  v1369.toNat
def k0_dev31 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1301 : BitVec 32 := 1#32
  let v1527 : BitVec 32 := Scalar.muli v126 c1_i32_1301
  let v1528 : BitVec 32 := Scalar.addi c0_i32_1302 v1527
  v1528.toNat
def k0_dev32 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1310 : BitVec 32 := 1#32
  let v1537 : BitVec 32 := Scalar.muli v126 c1_i32_1310
  let v1538 : BitVec 32 := Scalar.addi c0_i32_1311 v1537
  v1538.toNat
def k0_dev33 (d0 : Dev nD) : Nat :=
  let c0_i32_1320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1319 : BitVec 32 := 1#32
  let v1547 : BitVec 32 := Scalar.muli v188 c1_i32_1319
  let v1548 : BitVec 32 := Scalar.addi c0_i32_1320 v1547
  v1548.toNat
def k0_dev34 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1328 : BitVec 32 := 1#32
  let v1557 : BitVec 32 := Scalar.muli v188 c1_i32_1328
  let v1558 : BitVec 32 := Scalar.addi c0_i32_1329 v1557
  v1558.toNat
def k0_dev35 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1463 : BitVec 32 := 1#32
  let v1716 : BitVec 32 := Scalar.muli v126 c1_i32_1463
  let v1717 : BitVec 32 := Scalar.addi c0_i32_1464 v1716
  v1717.toNat
def k0_dev36 (d0 : Dev nD) : Nat :=
  let c0_i32_1473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1472 : BitVec 32 := 1#32
  let v1726 : BitVec 32 := Scalar.muli v126 c1_i32_1472
  let v1727 : BitVec 32 := Scalar.addi c0_i32_1473 v1726
  v1727.toNat
def k0_dev37 (d0 : Dev nD) : Nat :=
  let c0_i32_1482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1481 : BitVec 32 := 1#32
  let v1736 : BitVec 32 := Scalar.muli v188 c1_i32_1481
  let v1737 : BitVec 32 := Scalar.addi c0_i32_1482 v1736
  v1737.toNat
def k0_dev38 (d0 : Dev nD) : Nat :=
  let c0_i32_1491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1490 : BitVec 32 := 1#32
  let v1746 : BitVec 32 := Scalar.muli v188 c1_i32_1490
  let v1747 : BitVec 32 := Scalar.addi c0_i32_1491 v1746
  v1747.toNat
def k0_dev39 (d0 : Dev nD) : Nat :=
  let c0_i32_1626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1625 : BitVec 32 := 1#32
  let v1905 : BitVec 32 := Scalar.muli v126 c1_i32_1625
  let v1906 : BitVec 32 := Scalar.addi c0_i32_1626 v1905
  v1906.toNat
def k0_dev40 (d0 : Dev nD) : Nat :=
  let c0_i32_1635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1634 : BitVec 32 := 1#32
  let v1915 : BitVec 32 := Scalar.muli v126 c1_i32_1634
  let v1916 : BitVec 32 := Scalar.addi c0_i32_1635 v1915
  v1916.toNat
def k0_dev41 (d0 : Dev nD) : Nat :=
  let c0_i32_1644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1643 : BitVec 32 := 1#32
  let v1925 : BitVec 32 := Scalar.muli v188 c1_i32_1643
  let v1926 : BitVec 32 := Scalar.addi c0_i32_1644 v1925
  v1926.toNat
def k0_dev42 (d0 : Dev nD) : Nat :=
  let c0_i32_1653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1652 : BitVec 32 := 1#32
  let v1935 : BitVec 32 := Scalar.muli v188 c1_i32_1652
  let v1936 : BitVec 32 := Scalar.addi c0_i32_1653 v1935
  v1936.toNat
def k0_dev43 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1787 : BitVec 32 := 1#32
  let v2094 : BitVec 32 := Scalar.muli v126 c1_i32_1787
  let v2095 : BitVec 32 := Scalar.addi c0_i32_1788 v2094
  v2095.toNat
def k0_dev44 (d0 : Dev nD) : Nat :=
  let c0_i32_1797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1796 : BitVec 32 := 1#32
  let v2104 : BitVec 32 := Scalar.muli v126 c1_i32_1796
  let v2105 : BitVec 32 := Scalar.addi c0_i32_1797 v2104
  v2105.toNat
def k0_dev45 (d0 : Dev nD) : Nat :=
  let c0_i32_1806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1805 : BitVec 32 := 1#32
  let v2114 : BitVec 32 := Scalar.muli v188 c1_i32_1805
  let v2115 : BitVec 32 := Scalar.addi c0_i32_1806 v2114
  v2115.toNat
def k0_dev46 (d0 : Dev nD) : Nat :=
  let c0_i32_1815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1814 : BitVec 32 := 1#32
  let v2124 : BitVec 32 := Scalar.muli v188 c1_i32_1814
  let v2125 : BitVec 32 := Scalar.addi c0_i32_1815 v2124
  v2125.toNat
def k0_dev47 (d0 : Dev nD) : Nat :=
  let c0_i32_1950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1949 : BitVec 32 := 1#32
  let v2283 : BitVec 32 := Scalar.muli v126 c1_i32_1949
  let v2284 : BitVec 32 := Scalar.addi c0_i32_1950 v2283
  v2284.toNat
def k0_dev48 (d0 : Dev nD) : Nat :=
  let c0_i32_1959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_1958 : BitVec 32 := 1#32
  let v2293 : BitVec 32 := Scalar.muli v126 c1_i32_1958
  let v2294 : BitVec 32 := Scalar.addi c0_i32_1959 v2293
  v2294.toNat
def k0_dev49 (d0 : Dev nD) : Nat :=
  let c0_i32_1968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1967 : BitVec 32 := 1#32
  let v2303 : BitVec 32 := Scalar.muli v188 c1_i32_1967
  let v2304 : BitVec 32 := Scalar.addi c0_i32_1968 v2303
  v2304.toNat
def k0_dev50 (d0 : Dev nD) : Nat :=
  let c0_i32_1977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_1976 : BitVec 32 := 1#32
  let v2313 : BitVec 32 := Scalar.muli v188 c1_i32_1976
  let v2314 : BitVec 32 := Scalar.addi c0_i32_1977 v2313
  v2314.toNat
def k0_dev51 (d0 : Dev nD) : Nat :=
  let c0_i32_2112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2111 : BitVec 32 := 1#32
  let v2472 : BitVec 32 := Scalar.muli v126 c1_i32_2111
  let v2473 : BitVec 32 := Scalar.addi c0_i32_2112 v2472
  v2473.toNat
def k0_dev52 (d0 : Dev nD) : Nat :=
  let c0_i32_2121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2120 : BitVec 32 := 1#32
  let v2482 : BitVec 32 := Scalar.muli v126 c1_i32_2120
  let v2483 : BitVec 32 := Scalar.addi c0_i32_2121 v2482
  v2483.toNat
def k0_dev53 (d0 : Dev nD) : Nat :=
  let c0_i32_2130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2129 : BitVec 32 := 1#32
  let v2492 : BitVec 32 := Scalar.muli v188 c1_i32_2129
  let v2493 : BitVec 32 := Scalar.addi c0_i32_2130 v2492
  v2493.toNat
def k0_dev54 (d0 : Dev nD) : Nat :=
  let c0_i32_2139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2138 : BitVec 32 := 1#32
  let v2502 : BitVec 32 := Scalar.muli v188 c1_i32_2138
  let v2503 : BitVec 32 := Scalar.addi c0_i32_2139 v2502
  v2503.toNat
def k0_dev55 (d0 : Dev nD) : Nat :=
  let c0_i32_2274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2273 : BitVec 32 := 1#32
  let v2661 : BitVec 32 := Scalar.muli v126 c1_i32_2273
  let v2662 : BitVec 32 := Scalar.addi c0_i32_2274 v2661
  v2662.toNat
def k0_dev56 (d0 : Dev nD) : Nat :=
  let c0_i32_2283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2282 : BitVec 32 := 1#32
  let v2671 : BitVec 32 := Scalar.muli v126 c1_i32_2282
  let v2672 : BitVec 32 := Scalar.addi c0_i32_2283 v2671
  v2672.toNat
def k0_dev57 (d0 : Dev nD) : Nat :=
  let c0_i32_2292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2291 : BitVec 32 := 1#32
  let v2681 : BitVec 32 := Scalar.muli v188 c1_i32_2291
  let v2682 : BitVec 32 := Scalar.addi c0_i32_2292 v2681
  v2682.toNat
def k0_dev58 (d0 : Dev nD) : Nat :=
  let c0_i32_2301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2300 : BitVec 32 := 1#32
  let v2691 : BitVec 32 := Scalar.muli v188 c1_i32_2300
  let v2692 : BitVec 32 := Scalar.addi c0_i32_2301 v2691
  v2692.toNat
def k0_dev59 (d0 : Dev nD) : Nat :=
  let c0_i32_2436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2435 : BitVec 32 := 1#32
  let v2850 : BitVec 32 := Scalar.muli v126 c1_i32_2435
  let v2851 : BitVec 32 := Scalar.addi c0_i32_2436 v2850
  v2851.toNat
def k0_dev60 (d0 : Dev nD) : Nat :=
  let c0_i32_2445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2444 : BitVec 32 := 1#32
  let v2860 : BitVec 32 := Scalar.muli v126 c1_i32_2444
  let v2861 : BitVec 32 := Scalar.addi c0_i32_2445 v2860
  v2861.toNat
def k0_dev61 (d0 : Dev nD) : Nat :=
  let c0_i32_2454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2453 : BitVec 32 := 1#32
  let v2870 : BitVec 32 := Scalar.muli v188 c1_i32_2453
  let v2871 : BitVec 32 := Scalar.addi c0_i32_2454 v2870
  v2871.toNat
def k0_dev62 (d0 : Dev nD) : Nat :=
  let c0_i32_2463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2462 : BitVec 32 := 1#32
  let v2880 : BitVec 32 := Scalar.muli v188 c1_i32_2462
  let v2881 : BitVec 32 := Scalar.addi c0_i32_2463 v2880
  v2881.toNat
def k0_dev63 (d0 : Dev nD) : Nat :=
  let c0_i32_2598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2597 : BitVec 32 := 1#32
  let v3039 : BitVec 32 := Scalar.muli v126 c1_i32_2597
  let v3040 : BitVec 32 := Scalar.addi c0_i32_2598 v3039
  v3040.toNat
def k0_dev64 (d0 : Dev nD) : Nat :=
  let c0_i32_2607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2606 : BitVec 32 := 1#32
  let v3049 : BitVec 32 := Scalar.muli v126 c1_i32_2606
  let v3050 : BitVec 32 := Scalar.addi c0_i32_2607 v3049
  v3050.toNat
def k0_dev65 (d0 : Dev nD) : Nat :=
  let c0_i32_2616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2615 : BitVec 32 := 1#32
  let v3059 : BitVec 32 := Scalar.muli v188 c1_i32_2615
  let v3060 : BitVec 32 := Scalar.addi c0_i32_2616 v3059
  v3060.toNat
def k0_dev66 (d0 : Dev nD) : Nat :=
  let c0_i32_2625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2624 : BitVec 32 := 1#32
  let v3069 : BitVec 32 := Scalar.muli v188 c1_i32_2624
  let v3070 : BitVec 32 := Scalar.addi c0_i32_2625 v3069
  v3070.toNat
def k0_dev67 (d0 : Dev nD) : Nat :=
  let c0_i32_2760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2759 : BitVec 32 := 1#32
  let v3228 : BitVec 32 := Scalar.muli v126 c1_i32_2759
  let v3229 : BitVec 32 := Scalar.addi c0_i32_2760 v3228
  v3229.toNat
def k0_dev68 (d0 : Dev nD) : Nat :=
  let c0_i32_2769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2768 : BitVec 32 := 1#32
  let v3238 : BitVec 32 := Scalar.muli v126 c1_i32_2768
  let v3239 : BitVec 32 := Scalar.addi c0_i32_2769 v3238
  v3239.toNat
def k0_dev69 (d0 : Dev nD) : Nat :=
  let c0_i32_2778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2777 : BitVec 32 := 1#32
  let v3248 : BitVec 32 := Scalar.muli v188 c1_i32_2777
  let v3249 : BitVec 32 := Scalar.addi c0_i32_2778 v3248
  v3249.toNat
def k0_dev70 (d0 : Dev nD) : Nat :=
  let c0_i32_2787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2786 : BitVec 32 := 1#32
  let v3258 : BitVec 32 := Scalar.muli v188 c1_i32_2786
  let v3259 : BitVec 32 := Scalar.addi c0_i32_2787 v3258
  v3259.toNat
def k0_dev71 (d0 : Dev nD) : Nat :=
  let c0_i32_2922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2921 : BitVec 32 := 1#32
  let v3417 : BitVec 32 := Scalar.muli v126 c1_i32_2921
  let v3418 : BitVec 32 := Scalar.addi c0_i32_2922 v3417
  v3418.toNat
def k0_dev72 (d0 : Dev nD) : Nat :=
  let c0_i32_2931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_2930 : BitVec 32 := 1#32
  let v3427 : BitVec 32 := Scalar.muli v126 c1_i32_2930
  let v3428 : BitVec 32 := Scalar.addi c0_i32_2931 v3427
  v3428.toNat
def k0_dev73 (d0 : Dev nD) : Nat :=
  let c0_i32_2940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2939 : BitVec 32 := 1#32
  let v3437 : BitVec 32 := Scalar.muli v188 c1_i32_2939
  let v3438 : BitVec 32 := Scalar.addi c0_i32_2940 v3437
  v3438.toNat
def k0_dev74 (d0 : Dev nD) : Nat :=
  let c0_i32_2949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_2948 : BitVec 32 := 1#32
  let v3447 : BitVec 32 := Scalar.muli v188 c1_i32_2948
  let v3448 : BitVec 32 := Scalar.addi c0_i32_2949 v3447
  v3448.toNat
def k0_dev75 (d0 : Dev nD) : Nat :=
  let c0_i32_3084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3083 : BitVec 32 := 1#32
  let v3606 : BitVec 32 := Scalar.muli v126 c1_i32_3083
  let v3607 : BitVec 32 := Scalar.addi c0_i32_3084 v3606
  v3607.toNat
def k0_dev76 (d0 : Dev nD) : Nat :=
  let c0_i32_3093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3092 : BitVec 32 := 1#32
  let v3616 : BitVec 32 := Scalar.muli v126 c1_i32_3092
  let v3617 : BitVec 32 := Scalar.addi c0_i32_3093 v3616
  v3617.toNat
def k0_dev77 (d0 : Dev nD) : Nat :=
  let c0_i32_3102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3101 : BitVec 32 := 1#32
  let v3626 : BitVec 32 := Scalar.muli v188 c1_i32_3101
  let v3627 : BitVec 32 := Scalar.addi c0_i32_3102 v3626
  v3627.toNat
def k0_dev78 (d0 : Dev nD) : Nat :=
  let c0_i32_3111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3110 : BitVec 32 := 1#32
  let v3636 : BitVec 32 := Scalar.muli v188 c1_i32_3110
  let v3637 : BitVec 32 := Scalar.addi c0_i32_3111 v3636
  v3637.toNat
def k0_dev79 (d0 : Dev nD) : Nat :=
  let c0_i32_3246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3245 : BitVec 32 := 1#32
  let v3795 : BitVec 32 := Scalar.muli v126 c1_i32_3245
  let v3796 : BitVec 32 := Scalar.addi c0_i32_3246 v3795
  v3796.toNat
def k0_dev80 (d0 : Dev nD) : Nat :=
  let c0_i32_3255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3254 : BitVec 32 := 1#32
  let v3805 : BitVec 32 := Scalar.muli v126 c1_i32_3254
  let v3806 : BitVec 32 := Scalar.addi c0_i32_3255 v3805
  v3806.toNat
def k0_dev81 (d0 : Dev nD) : Nat :=
  let c0_i32_3264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3263 : BitVec 32 := 1#32
  let v3815 : BitVec 32 := Scalar.muli v188 c1_i32_3263
  let v3816 : BitVec 32 := Scalar.addi c0_i32_3264 v3815
  v3816.toNat
def k0_dev82 (d0 : Dev nD) : Nat :=
  let c0_i32_3273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3272 : BitVec 32 := 1#32
  let v3825 : BitVec 32 := Scalar.muli v188 c1_i32_3272
  let v3826 : BitVec 32 := Scalar.addi c0_i32_3273 v3825
  v3826.toNat
def k0_dev83 (d0 : Dev nD) : Nat :=
  let c0_i32_3408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3407 : BitVec 32 := 1#32
  let v3984 : BitVec 32 := Scalar.muli v126 c1_i32_3407
  let v3985 : BitVec 32 := Scalar.addi c0_i32_3408 v3984
  v3985.toNat
def k0_dev84 (d0 : Dev nD) : Nat :=
  let c0_i32_3417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3416 : BitVec 32 := 1#32
  let v3994 : BitVec 32 := Scalar.muli v126 c1_i32_3416
  let v3995 : BitVec 32 := Scalar.addi c0_i32_3417 v3994
  v3995.toNat
def k0_dev85 (d0 : Dev nD) : Nat :=
  let c0_i32_3426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3425 : BitVec 32 := 1#32
  let v4004 : BitVec 32 := Scalar.muli v188 c1_i32_3425
  let v4005 : BitVec 32 := Scalar.addi c0_i32_3426 v4004
  v4005.toNat
def k0_dev86 (d0 : Dev nD) : Nat :=
  let c0_i32_3435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3434 : BitVec 32 := 1#32
  let v4014 : BitVec 32 := Scalar.muli v188 c1_i32_3434
  let v4015 : BitVec 32 := Scalar.addi c0_i32_3435 v4014
  v4015.toNat
def k0_dev87 (d0 : Dev nD) : Nat :=
  let c0_i32_3570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3569 : BitVec 32 := 1#32
  let v4173 : BitVec 32 := Scalar.muli v126 c1_i32_3569
  let v4174 : BitVec 32 := Scalar.addi c0_i32_3570 v4173
  v4174.toNat
def k0_dev88 (d0 : Dev nD) : Nat :=
  let c0_i32_3579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3578 : BitVec 32 := 1#32
  let v4183 : BitVec 32 := Scalar.muli v126 c1_i32_3578
  let v4184 : BitVec 32 := Scalar.addi c0_i32_3579 v4183
  v4184.toNat
def k0_dev89 (d0 : Dev nD) : Nat :=
  let c0_i32_3588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3587 : BitVec 32 := 1#32
  let v4193 : BitVec 32 := Scalar.muli v188 c1_i32_3587
  let v4194 : BitVec 32 := Scalar.addi c0_i32_3588 v4193
  v4194.toNat
def k0_dev90 (d0 : Dev nD) : Nat :=
  let c0_i32_3597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3596 : BitVec 32 := 1#32
  let v4203 : BitVec 32 := Scalar.muli v188 c1_i32_3596
  let v4204 : BitVec 32 := Scalar.addi c0_i32_3597 v4203
  v4204.toNat
def k0_dev91 (d0 : Dev nD) : Nat :=
  let c0_i32_3732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3731 : BitVec 32 := 1#32
  let v4362 : BitVec 32 := Scalar.muli v126 c1_i32_3731
  let v4363 : BitVec 32 := Scalar.addi c0_i32_3732 v4362
  v4363.toNat
def k0_dev92 (d0 : Dev nD) : Nat :=
  let c0_i32_3741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3740 : BitVec 32 := 1#32
  let v4372 : BitVec 32 := Scalar.muli v126 c1_i32_3740
  let v4373 : BitVec 32 := Scalar.addi c0_i32_3741 v4372
  v4373.toNat
def k0_dev93 (d0 : Dev nD) : Nat :=
  let c0_i32_3750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3749 : BitVec 32 := 1#32
  let v4382 : BitVec 32 := Scalar.muli v188 c1_i32_3749
  let v4383 : BitVec 32 := Scalar.addi c0_i32_3750 v4382
  v4383.toNat
def k0_dev94 (d0 : Dev nD) : Nat :=
  let c0_i32_3759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3758 : BitVec 32 := 1#32
  let v4392 : BitVec 32 := Scalar.muli v188 c1_i32_3758
  let v4393 : BitVec 32 := Scalar.addi c0_i32_3759 v4392
  v4393.toNat
def k0_dev95 (d0 : Dev nD) : Nat :=
  let c0_i32_3894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3893 : BitVec 32 := 1#32
  let v4551 : BitVec 32 := Scalar.muli v126 c1_i32_3893
  let v4552 : BitVec 32 := Scalar.addi c0_i32_3894 v4551
  v4552.toNat
def k0_dev96 (d0 : Dev nD) : Nat :=
  let c0_i32_3903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_3902 : BitVec 32 := 1#32
  let v4561 : BitVec 32 := Scalar.muli v126 c1_i32_3902
  let v4562 : BitVec 32 := Scalar.addi c0_i32_3903 v4561
  v4562.toNat
def k0_dev97 (d0 : Dev nD) : Nat :=
  let c0_i32_3912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3911 : BitVec 32 := 1#32
  let v4571 : BitVec 32 := Scalar.muli v188 c1_i32_3911
  let v4572 : BitVec 32 := Scalar.addi c0_i32_3912 v4571
  v4572.toNat
def k0_dev98 (d0 : Dev nD) : Nat :=
  let c0_i32_3921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_3920 : BitVec 32 := 1#32
  let v4581 : BitVec 32 := Scalar.muli v188 c1_i32_3920
  let v4582 : BitVec 32 := Scalar.addi c0_i32_3921 v4581
  v4582.toNat
def k0_dev99 (d0 : Dev nD) : Nat :=
  let c0_i32_4056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4055 : BitVec 32 := 1#32
  let v4740 : BitVec 32 := Scalar.muli v126 c1_i32_4055
  let v4741 : BitVec 32 := Scalar.addi c0_i32_4056 v4740
  v4741.toNat
def k0_dev100 (d0 : Dev nD) : Nat :=
  let c0_i32_4065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4064 : BitVec 32 := 1#32
  let v4750 : BitVec 32 := Scalar.muli v126 c1_i32_4064
  let v4751 : BitVec 32 := Scalar.addi c0_i32_4065 v4750
  v4751.toNat
def k0_dev101 (d0 : Dev nD) : Nat :=
  let c0_i32_4074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4073 : BitVec 32 := 1#32
  let v4760 : BitVec 32 := Scalar.muli v188 c1_i32_4073
  let v4761 : BitVec 32 := Scalar.addi c0_i32_4074 v4760
  v4761.toNat
def k0_dev102 (d0 : Dev nD) : Nat :=
  let c0_i32_4083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4082 : BitVec 32 := 1#32
  let v4770 : BitVec 32 := Scalar.muli v188 c1_i32_4082
  let v4771 : BitVec 32 := Scalar.addi c0_i32_4083 v4770
  v4771.toNat
def k0_dev103 (d0 : Dev nD) : Nat :=
  let c0_i32_4218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4217 : BitVec 32 := 1#32
  let v4929 : BitVec 32 := Scalar.muli v126 c1_i32_4217
  let v4930 : BitVec 32 := Scalar.addi c0_i32_4218 v4929
  v4930.toNat
def k0_dev104 (d0 : Dev nD) : Nat :=
  let c0_i32_4227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4226 : BitVec 32 := 1#32
  let v4939 : BitVec 32 := Scalar.muli v126 c1_i32_4226
  let v4940 : BitVec 32 := Scalar.addi c0_i32_4227 v4939
  v4940.toNat
def k0_dev105 (d0 : Dev nD) : Nat :=
  let c0_i32_4236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4235 : BitVec 32 := 1#32
  let v4949 : BitVec 32 := Scalar.muli v188 c1_i32_4235
  let v4950 : BitVec 32 := Scalar.addi c0_i32_4236 v4949
  v4950.toNat
def k0_dev106 (d0 : Dev nD) : Nat :=
  let c0_i32_4245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4244 : BitVec 32 := 1#32
  let v4959 : BitVec 32 := Scalar.muli v188 c1_i32_4244
  let v4960 : BitVec 32 := Scalar.addi c0_i32_4245 v4959
  v4960.toNat
def k0_dev107 (d0 : Dev nD) : Nat :=
  let c0_i32_4380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4379 : BitVec 32 := 1#32
  let v5118 : BitVec 32 := Scalar.muli v126 c1_i32_4379
  let v5119 : BitVec 32 := Scalar.addi c0_i32_4380 v5118
  v5119.toNat
def k0_dev108 (d0 : Dev nD) : Nat :=
  let c0_i32_4389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4388 : BitVec 32 := 1#32
  let v5128 : BitVec 32 := Scalar.muli v126 c1_i32_4388
  let v5129 : BitVec 32 := Scalar.addi c0_i32_4389 v5128
  v5129.toNat
def k0_dev109 (d0 : Dev nD) : Nat :=
  let c0_i32_4398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4397 : BitVec 32 := 1#32
  let v5138 : BitVec 32 := Scalar.muli v188 c1_i32_4397
  let v5139 : BitVec 32 := Scalar.addi c0_i32_4398 v5138
  v5139.toNat
def k0_dev110 (d0 : Dev nD) : Nat :=
  let c0_i32_4407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4406 : BitVec 32 := 1#32
  let v5148 : BitVec 32 := Scalar.muli v188 c1_i32_4406
  let v5149 : BitVec 32 := Scalar.addi c0_i32_4407 v5148
  v5149.toNat
def k0_dev111 (d0 : Dev nD) : Nat :=
  let c0_i32_4542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4541 : BitVec 32 := 1#32
  let v5307 : BitVec 32 := Scalar.muli v126 c1_i32_4541
  let v5308 : BitVec 32 := Scalar.addi c0_i32_4542 v5307
  v5308.toNat
def k0_dev112 (d0 : Dev nD) : Nat :=
  let c0_i32_4551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4550 : BitVec 32 := 1#32
  let v5317 : BitVec 32 := Scalar.muli v126 c1_i32_4550
  let v5318 : BitVec 32 := Scalar.addi c0_i32_4551 v5317
  v5318.toNat
def k0_dev113 (d0 : Dev nD) : Nat :=
  let c0_i32_4560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4559 : BitVec 32 := 1#32
  let v5327 : BitVec 32 := Scalar.muli v188 c1_i32_4559
  let v5328 : BitVec 32 := Scalar.addi c0_i32_4560 v5327
  v5328.toNat
def k0_dev114 (d0 : Dev nD) : Nat :=
  let c0_i32_4569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4568 : BitVec 32 := 1#32
  let v5337 : BitVec 32 := Scalar.muli v188 c1_i32_4568
  let v5338 : BitVec 32 := Scalar.addi c0_i32_4569 v5337
  v5338.toNat
def k0_dev115 (d0 : Dev nD) : Nat :=
  let c0_i32_4704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4703 : BitVec 32 := 1#32
  let v5496 : BitVec 32 := Scalar.muli v126 c1_i32_4703
  let v5497 : BitVec 32 := Scalar.addi c0_i32_4704 v5496
  v5497.toNat
def k0_dev116 (d0 : Dev nD) : Nat :=
  let c0_i32_4713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4712 : BitVec 32 := 1#32
  let v5506 : BitVec 32 := Scalar.muli v126 c1_i32_4712
  let v5507 : BitVec 32 := Scalar.addi c0_i32_4713 v5506
  v5507.toNat
def k0_dev117 (d0 : Dev nD) : Nat :=
  let c0_i32_4722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4721 : BitVec 32 := 1#32
  let v5516 : BitVec 32 := Scalar.muli v188 c1_i32_4721
  let v5517 : BitVec 32 := Scalar.addi c0_i32_4722 v5516
  v5517.toNat
def k0_dev118 (d0 : Dev nD) : Nat :=
  let c0_i32_4731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4730 : BitVec 32 := 1#32
  let v5526 : BitVec 32 := Scalar.muli v188 c1_i32_4730
  let v5527 : BitVec 32 := Scalar.addi c0_i32_4731 v5526
  v5527.toNat
def k0_dev119 (d0 : Dev nD) : Nat :=
  let c0_i32_4866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4865 : BitVec 32 := 1#32
  let v5685 : BitVec 32 := Scalar.muli v126 c1_i32_4865
  let v5686 : BitVec 32 := Scalar.addi c0_i32_4866 v5685
  v5686.toNat
def k0_dev120 (d0 : Dev nD) : Nat :=
  let c0_i32_4875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_4874 : BitVec 32 := 1#32
  let v5695 : BitVec 32 := Scalar.muli v126 c1_i32_4874
  let v5696 : BitVec 32 := Scalar.addi c0_i32_4875 v5695
  v5696.toNat
def k0_dev121 (d0 : Dev nD) : Nat :=
  let c0_i32_4884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4883 : BitVec 32 := 1#32
  let v5705 : BitVec 32 := Scalar.muli v188 c1_i32_4883
  let v5706 : BitVec 32 := Scalar.addi c0_i32_4884 v5705
  v5706.toNat
def k0_dev122 (d0 : Dev nD) : Nat :=
  let c0_i32_4893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_4892 : BitVec 32 := 1#32
  let v5715 : BitVec 32 := Scalar.muli v188 c1_i32_4892
  let v5716 : BitVec 32 := Scalar.addi c0_i32_4893 v5715
  v5716.toNat
def k0_dev123 (d0 : Dev nD) : Nat :=
  let c0_i32_5028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5027 : BitVec 32 := 1#32
  let v5874 : BitVec 32 := Scalar.muli v126 c1_i32_5027
  let v5875 : BitVec 32 := Scalar.addi c0_i32_5028 v5874
  v5875.toNat
def k0_dev124 (d0 : Dev nD) : Nat :=
  let c0_i32_5037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5036 : BitVec 32 := 1#32
  let v5884 : BitVec 32 := Scalar.muli v126 c1_i32_5036
  let v5885 : BitVec 32 := Scalar.addi c0_i32_5037 v5884
  v5885.toNat
def k0_dev125 (d0 : Dev nD) : Nat :=
  let c0_i32_5046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5045 : BitVec 32 := 1#32
  let v5894 : BitVec 32 := Scalar.muli v188 c1_i32_5045
  let v5895 : BitVec 32 := Scalar.addi c0_i32_5046 v5894
  v5895.toNat
def k0_dev126 (d0 : Dev nD) : Nat :=
  let c0_i32_5055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5054 : BitVec 32 := 1#32
  let v5904 : BitVec 32 := Scalar.muli v188 c1_i32_5054
  let v5905 : BitVec 32 := Scalar.addi c0_i32_5055 v5904
  v5905.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5088 : BitVec 32 := 1#32
  let v5956 : BitVec 32 := Scalar.addi v64 c1_i32_5088
  let c32_i32_5089 : BitVec 32 := 32#32
  let c0_i32_5090 : BitVec 32 := 0#32
  let v5957 : BitVec 1 := Scalar.cmpi .eq c32_i32_5089 c0_i32_5090
  let c1_i32_5091 : BitVec 32 := 1#32
  let v5958 : BitVec 32 := Scalar.select v5957 c1_i32_5091 c32_i32_5089
  let v5959 : BitVec 32 := Scalar.remsi v5956 v5958
  let c0_i32_5093 : BitVec 32 := 0#32
  let v5961 : BitVec 1 := Scalar.cmpi .slt v5959 c0_i32_5093
  let c0_i32_5094 : BitVec 32 := 0#32
  let v5962 : BitVec 1 := Scalar.cmpi .slt v5958 c0_i32_5094
  let v5963 : BitVec 1 := Scalar.xori v5961 v5962
  let c0_i32_5092 : BitVec 32 := 0#32
  let v5960 : BitVec 1 := Scalar.cmpi .ne v5959 c0_i32_5092
  let v5964 : BitVec 1 := Scalar.andi v5963 v5960
  let v5965 : BitVec 32 := Scalar.addi v5959 v5958
  let v5966 : BitVec 32 := Scalar.select v5964 v5965 v5959
  let c64_i32_5117 : BitVec 32 := 64#32
  let v5990 : BitVec 32 := Scalar.muli v5966 c64_i32_5117
  let v5991 : Index := Scalar.indexCast v5990
  let c0_5118 : Index := 0#32
  ![v5991.toNat, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5088 : BitVec 32 := 1#32
  let v5956 : BitVec 32 := Scalar.addi v64 c1_i32_5088
  let c32_i32_5089 : BitVec 32 := 32#32
  let c0_i32_5090 : BitVec 32 := 0#32
  let v5957 : BitVec 1 := Scalar.cmpi .eq c32_i32_5089 c0_i32_5090
  let c1_i32_5091 : BitVec 32 := 1#32
  let v5958 : BitVec 32 := Scalar.select v5957 c1_i32_5091 c32_i32_5089
  let v5959 : BitVec 32 := Scalar.remsi v5956 v5958
  let c0_i32_5093 : BitVec 32 := 0#32
  let v5961 : BitVec 1 := Scalar.cmpi .slt v5959 c0_i32_5093
  let c0_i32_5094 : BitVec 32 := 0#32
  let v5962 : BitVec 1 := Scalar.cmpi .slt v5958 c0_i32_5094
  let v5963 : BitVec 1 := Scalar.xori v5961 v5962
  let c0_i32_5092 : BitVec 32 := 0#32
  let v5960 : BitVec 1 := Scalar.cmpi .ne v5959 c0_i32_5092
  let v5964 : BitVec 1 := Scalar.andi v5963 v5960
  let v5965 : BitVec 32 := Scalar.addi v5959 v5958
  let v5966 : BitVec 32 := Scalar.select v5964 v5965 v5959
  let c64_i32_5137 : BitVec 32 := 64#32
  let v6011 : BitVec 32 := Scalar.muli v5966 c64_i32_5137
  let v6012 : Index := Scalar.indexCast v6011
  let c512_5138 : Index := 512#32
  ![v6012.toNat, 512]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5095 : BitVec 32 := 1#32
  let v5967 : BitVec 32 := Scalar.subi v64 c1_i32_5095
  let c32_i32_5096 : BitVec 32 := 32#32
  let c0_i32_5097 : BitVec 32 := 0#32
  let v5968 : BitVec 1 := Scalar.cmpi .eq c32_i32_5096 c0_i32_5097
  let c1_i32_5098 : BitVec 32 := 1#32
  let v5969 : BitVec 32 := Scalar.select v5968 c1_i32_5098 c32_i32_5096
  let v5970 : BitVec 32 := Scalar.remsi v5967 v5969
  let c0_i32_5100 : BitVec 32 := 0#32
  let v5972 : BitVec 1 := Scalar.cmpi .slt v5970 c0_i32_5100
  let c0_i32_5101 : BitVec 32 := 0#32
  let v5973 : BitVec 1 := Scalar.cmpi .slt v5969 c0_i32_5101
  let v5974 : BitVec 1 := Scalar.xori v5972 v5973
  let c0_i32_5099 : BitVec 32 := 0#32
  let v5971 : BitVec 1 := Scalar.cmpi .ne v5970 c0_i32_5099
  let v5975 : BitVec 1 := Scalar.andi v5974 v5971
  let v5976 : BitVec 32 := Scalar.addi v5970 v5969
  let v5977 : BitVec 32 := Scalar.select v5975 v5976 v5970
  let c64_i32_5158 : BitVec 32 := 64#32
  let v6032 : BitVec 32 := Scalar.muli v5977 c64_i32_5158
  let v6033 : Index := Scalar.indexCast v6032
  let c1024_5159 : Index := 1024#32
  ![v6033.toNat, 1024]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5095 : BitVec 32 := 1#32
  let v5967 : BitVec 32 := Scalar.subi v64 c1_i32_5095
  let c32_i32_5096 : BitVec 32 := 32#32
  let c0_i32_5097 : BitVec 32 := 0#32
  let v5968 : BitVec 1 := Scalar.cmpi .eq c32_i32_5096 c0_i32_5097
  let c1_i32_5098 : BitVec 32 := 1#32
  let v5969 : BitVec 32 := Scalar.select v5968 c1_i32_5098 c32_i32_5096
  let v5970 : BitVec 32 := Scalar.remsi v5967 v5969
  let c0_i32_5100 : BitVec 32 := 0#32
  let v5972 : BitVec 1 := Scalar.cmpi .slt v5970 c0_i32_5100
  let c0_i32_5101 : BitVec 32 := 0#32
  let v5973 : BitVec 1 := Scalar.cmpi .slt v5969 c0_i32_5101
  let v5974 : BitVec 1 := Scalar.xori v5972 v5973
  let c0_i32_5099 : BitVec 32 := 0#32
  let v5971 : BitVec 1 := Scalar.cmpi .ne v5970 c0_i32_5099
  let v5975 : BitVec 1 := Scalar.andi v5974 v5971
  let v5976 : BitVec 32 := Scalar.addi v5970 v5969
  let v5977 : BitVec 32 := Scalar.select v5975 v5976 v5970
  let c64_i32_5179 : BitVec 32 := 64#32
  let v6053 : BitVec 32 := Scalar.muli v5977 c64_i32_5179
  let v6054 : Index := Scalar.indexCast v6053
  let c1536_5180 : Index := 1536#32
  ![v6054.toNat, 1536]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5088 : BitVec 32 := 1#32
  let v5956 : BitVec 32 := Scalar.addi v64 c1_i32_5088
  let c32_i32_5089 : BitVec 32 := 32#32
  let c0_i32_5090 : BitVec 32 := 0#32
  let v5957 : BitVec 1 := Scalar.cmpi .eq c32_i32_5089 c0_i32_5090
  let c1_i32_5091 : BitVec 32 := 1#32
  let v5958 : BitVec 32 := Scalar.select v5957 c1_i32_5091 c32_i32_5089
  let v5959 : BitVec 32 := Scalar.remsi v5956 v5958
  let c0_i32_5093 : BitVec 32 := 0#32
  let v5961 : BitVec 1 := Scalar.cmpi .slt v5959 c0_i32_5093
  let c0_i32_5094 : BitVec 32 := 0#32
  let v5962 : BitVec 1 := Scalar.cmpi .slt v5958 c0_i32_5094
  let v5963 : BitVec 1 := Scalar.xori v5961 v5962
  let c0_i32_5092 : BitVec 32 := 0#32
  let v5960 : BitVec 1 := Scalar.cmpi .ne v5959 c0_i32_5092
  let v5964 : BitVec 1 := Scalar.andi v5963 v5960
  let v5965 : BitVec 32 := Scalar.addi v5959 v5958
  let v5966 : BitVec 32 := Scalar.select v5964 v5965 v5959
  let c64_i32_5185 : BitVec 32 := 64#32
  let v6062 : BitVec 32 := Scalar.muli v5966 c64_i32_5185
  let v6063 : Index := Scalar.indexCast v6062
  let c0_5186 : Index := 0#32
  ![v6063.toNat, 0]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5095 : BitVec 32 := 1#32
  let v5967 : BitVec 32 := Scalar.subi v64 c1_i32_5095
  let c32_i32_5096 : BitVec 32 := 32#32
  let c0_i32_5097 : BitVec 32 := 0#32
  let v5968 : BitVec 1 := Scalar.cmpi .eq c32_i32_5096 c0_i32_5097
  let c1_i32_5098 : BitVec 32 := 1#32
  let v5969 : BitVec 32 := Scalar.select v5968 c1_i32_5098 c32_i32_5096
  let v5970 : BitVec 32 := Scalar.remsi v5967 v5969
  let c0_i32_5100 : BitVec 32 := 0#32
  let v5972 : BitVec 1 := Scalar.cmpi .slt v5970 c0_i32_5100
  let c0_i32_5101 : BitVec 32 := 0#32
  let v5973 : BitVec 1 := Scalar.cmpi .slt v5969 c0_i32_5101
  let v5974 : BitVec 1 := Scalar.xori v5972 v5973
  let c0_i32_5099 : BitVec 32 := 0#32
  let v5971 : BitVec 1 := Scalar.cmpi .ne v5970 c0_i32_5099
  let v5975 : BitVec 1 := Scalar.andi v5974 v5971
  let v5976 : BitVec 32 := Scalar.addi v5970 v5969
  let v5977 : BitVec 32 := Scalar.select v5975 v5976 v5970
  let c64_i32_5193 : BitVec 32 := 64#32
  let v6082 : BitVec 32 := Scalar.muli v5977 c64_i32_5193
  let v6083 : Index := Scalar.indexCast v6082
  let c1024_5194 : Index := 1024#32
  ![v6083.toNat, 1024]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5088 : BitVec 32 := 1#32
  let v5956 : BitVec 32 := Scalar.addi v64 c1_i32_5088
  let c32_i32_5089 : BitVec 32 := 32#32
  let c0_i32_5090 : BitVec 32 := 0#32
  let v5957 : BitVec 1 := Scalar.cmpi .eq c32_i32_5089 c0_i32_5090
  let c1_i32_5091 : BitVec 32 := 1#32
  let v5958 : BitVec 32 := Scalar.select v5957 c1_i32_5091 c32_i32_5089
  let v5959 : BitVec 32 := Scalar.remsi v5956 v5958
  let c0_i32_5093 : BitVec 32 := 0#32
  let v5961 : BitVec 1 := Scalar.cmpi .slt v5959 c0_i32_5093
  let c0_i32_5094 : BitVec 32 := 0#32
  let v5962 : BitVec 1 := Scalar.cmpi .slt v5958 c0_i32_5094
  let v5963 : BitVec 1 := Scalar.xori v5961 v5962
  let c0_i32_5092 : BitVec 32 := 0#32
  let v5960 : BitVec 1 := Scalar.cmpi .ne v5959 c0_i32_5092
  let v5964 : BitVec 1 := Scalar.andi v5963 v5960
  let v5965 : BitVec 32 := Scalar.addi v5959 v5958
  let v5966 : BitVec 32 := Scalar.select v5964 v5965 v5959
  let c64_i32_5202 : BitVec 32 := 64#32
  let v6103 : BitVec 32 := Scalar.muli v5966 c64_i32_5202
  let c0_i32_5207 : BitVec 32 := 0#32
  ![v6103.toNat, 0]
def k0_dev127 (d0 : Dev nD) : Nat :=
  let c0_i32_5206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5205 : BitVec 32 := 1#32
  let v6104 : BitVec 32 := Scalar.muli v126 c1_i32_5205
  let v6105 : BitVec 32 := Scalar.addi c0_i32_5206 v6104
  v6105.toNat
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5088 : BitVec 32 := 1#32
  let v5956 : BitVec 32 := Scalar.addi v64 c1_i32_5088
  let c32_i32_5089 : BitVec 32 := 32#32
  let c0_i32_5090 : BitVec 32 := 0#32
  let v5957 : BitVec 1 := Scalar.cmpi .eq c32_i32_5089 c0_i32_5090
  let c1_i32_5091 : BitVec 32 := 1#32
  let v5958 : BitVec 32 := Scalar.select v5957 c1_i32_5091 c32_i32_5089
  let v5959 : BitVec 32 := Scalar.remsi v5956 v5958
  let c0_i32_5093 : BitVec 32 := 0#32
  let v5961 : BitVec 1 := Scalar.cmpi .slt v5959 c0_i32_5093
  let c0_i32_5094 : BitVec 32 := 0#32
  let v5962 : BitVec 1 := Scalar.cmpi .slt v5958 c0_i32_5094
  let v5963 : BitVec 1 := Scalar.xori v5961 v5962
  let c0_i32_5092 : BitVec 32 := 0#32
  let v5960 : BitVec 1 := Scalar.cmpi .ne v5959 c0_i32_5092
  let v5964 : BitVec 1 := Scalar.andi v5963 v5960
  let v5965 : BitVec 32 := Scalar.addi v5959 v5958
  let v5966 : BitVec 32 := Scalar.select v5964 v5965 v5959
  let c64_i32_5210 : BitVec 32 := 64#32
  let v6113 : BitVec 32 := Scalar.muli v5966 c64_i32_5210
  let c512_i32_5215 : BitVec 32 := 512#32
  ![v6113.toNat, 512]
def k0_dev128 (d0 : Dev nD) : Nat :=
  let c0_i32_5214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5213 : BitVec 32 := 1#32
  let v6114 : BitVec 32 := Scalar.muli v126 c1_i32_5213
  let v6115 : BitVec 32 := Scalar.addi c0_i32_5214 v6114
  v6115.toNat
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5095 : BitVec 32 := 1#32
  let v5967 : BitVec 32 := Scalar.subi v64 c1_i32_5095
  let c32_i32_5096 : BitVec 32 := 32#32
  let c0_i32_5097 : BitVec 32 := 0#32
  let v5968 : BitVec 1 := Scalar.cmpi .eq c32_i32_5096 c0_i32_5097
  let c1_i32_5098 : BitVec 32 := 1#32
  let v5969 : BitVec 32 := Scalar.select v5968 c1_i32_5098 c32_i32_5096
  let v5970 : BitVec 32 := Scalar.remsi v5967 v5969
  let c0_i32_5100 : BitVec 32 := 0#32
  let v5972 : BitVec 1 := Scalar.cmpi .slt v5970 c0_i32_5100
  let c0_i32_5101 : BitVec 32 := 0#32
  let v5973 : BitVec 1 := Scalar.cmpi .slt v5969 c0_i32_5101
  let v5974 : BitVec 1 := Scalar.xori v5972 v5973
  let c0_i32_5099 : BitVec 32 := 0#32
  let v5971 : BitVec 1 := Scalar.cmpi .ne v5970 c0_i32_5099
  let v5975 : BitVec 1 := Scalar.andi v5974 v5971
  let v5976 : BitVec 32 := Scalar.addi v5970 v5969
  let v5977 : BitVec 32 := Scalar.select v5975 v5976 v5970
  let c64_i32_5218 : BitVec 32 := 64#32
  let v6123 : BitVec 32 := Scalar.muli v5977 c64_i32_5218
  let c1024_i32_5223 : BitVec 32 := 1024#32
  ![v6123.toNat, 1024]
def k0_dev129 (d0 : Dev nD) : Nat :=
  let c0_i32_5222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5221 : BitVec 32 := 1#32
  let v6124 : BitVec 32 := Scalar.muli v188 c1_i32_5221
  let v6125 : BitVec 32 := Scalar.addi c0_i32_5222 v6124
  v6125.toNat
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5095 : BitVec 32 := 1#32
  let v5967 : BitVec 32 := Scalar.subi v64 c1_i32_5095
  let c32_i32_5096 : BitVec 32 := 32#32
  let c0_i32_5097 : BitVec 32 := 0#32
  let v5968 : BitVec 1 := Scalar.cmpi .eq c32_i32_5096 c0_i32_5097
  let c1_i32_5098 : BitVec 32 := 1#32
  let v5969 : BitVec 32 := Scalar.select v5968 c1_i32_5098 c32_i32_5096
  let v5970 : BitVec 32 := Scalar.remsi v5967 v5969
  let c0_i32_5100 : BitVec 32 := 0#32
  let v5972 : BitVec 1 := Scalar.cmpi .slt v5970 c0_i32_5100
  let c0_i32_5101 : BitVec 32 := 0#32
  let v5973 : BitVec 1 := Scalar.cmpi .slt v5969 c0_i32_5101
  let v5974 : BitVec 1 := Scalar.xori v5972 v5973
  let c0_i32_5099 : BitVec 32 := 0#32
  let v5971 : BitVec 1 := Scalar.cmpi .ne v5970 c0_i32_5099
  let v5975 : BitVec 1 := Scalar.andi v5974 v5971
  let v5976 : BitVec 32 := Scalar.addi v5970 v5969
  let v5977 : BitVec 32 := Scalar.select v5975 v5976 v5970
  let c64_i32_5226 : BitVec 32 := 64#32
  let v6133 : BitVec 32 := Scalar.muli v5977 c64_i32_5226
  let c1536_i32_5231 : BitVec 32 := 1536#32
  ![v6133.toNat, 1536]
def k0_dev130 (d0 : Dev nD) : Nat :=
  let c0_i32_5230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5229 : BitVec 32 := 1#32
  let v6134 : BitVec 32 := Scalar.muli v188 c1_i32_5229
  let v6135 : BitVec 32 := Scalar.addi c0_i32_5230 v6134
  v6135.toNat
def k0_off31 (d0 : Dev nD) (c1_i32_5278 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5277 : BitVec 32 := 1#32
  let v6182 : BitVec 32 := Scalar.addi v64 c1_i32_5277
  let v6183 : BitVec 32 := Scalar.subi v6182 c1_i32_5278
  let c32_i32_5279 : BitVec 32 := 32#32
  let c0_i32_5280 : BitVec 32 := 0#32
  let v6184 : BitVec 1 := Scalar.cmpi .eq c32_i32_5279 c0_i32_5280
  let c1_i32_5281 : BitVec 32 := 1#32
  let v6185 : BitVec 32 := Scalar.select v6184 c1_i32_5281 c32_i32_5279
  let v6186 : BitVec 32 := Scalar.remsi v6183 v6185
  let c0_i32_5283 : BitVec 32 := 0#32
  let v6188 : BitVec 1 := Scalar.cmpi .slt v6186 c0_i32_5283
  let c0_i32_5284 : BitVec 32 := 0#32
  let v6189 : BitVec 1 := Scalar.cmpi .slt v6185 c0_i32_5284
  let v6190 : BitVec 1 := Scalar.xori v6188 v6189
  let c0_i32_5282 : BitVec 32 := 0#32
  let v6187 : BitVec 1 := Scalar.cmpi .ne v6186 c0_i32_5282
  let v6191 : BitVec 1 := Scalar.andi v6190 v6187
  let v6192 : BitVec 32 := Scalar.addi v6186 v6185
  let v6193 : BitVec 32 := Scalar.select v6191 v6192 v6186
  let c64_i32_5293 : BitVec 32 := 64#32
  let v6206 : BitVec 32 := Scalar.muli v6193 c64_i32_5293
  let c0_i32_5298 : BitVec 32 := 0#32
  ![v6206.toNat, 0]
def k0_dev131 (d0 : Dev nD) : Nat :=
  let c0_i32_5297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5296 : BitVec 32 := 1#32
  let v6207 : BitVec 32 := Scalar.muli v126 c1_i32_5296
  let v6208 : BitVec 32 := Scalar.addi c0_i32_5297 v6207
  v6208.toNat
def k0_off32 (d0 : Dev nD) (c1_i32_5278 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_30 : BitVec 32 := 31#32
  let v63 : BitVec 1 := Scalar.cmpi .eq v2 c31_i32_30
  let c12_i32_31 : BitVec 32 := 12#32
  let c30_i32_28 : BitVec 32 := 30#32
  let v61 : BitVec 1 := Scalar.cmpi .eq v2 c30_i32_28
  let c19_i32_29 : BitVec 32 := 19#32
  let c29_i32_26 : BitVec 32 := 29#32
  let v59 : BitVec 1 := Scalar.cmpi .eq v2 c29_i32_26
  let c18_i32_27 : BitVec 32 := 18#32
  let c28_i32_24 : BitVec 32 := 28#32
  let v57 : BitVec 1 := Scalar.cmpi .eq v2 c28_i32_24
  let c13_i32_25 : BitVec 32 := 13#32
  let c27_i32_22 : BitVec 32 := 27#32
  let v55 : BitVec 1 := Scalar.cmpi .eq v2 c27_i32_22
  let c14_i32_23 : BitVec 32 := 14#32
  let c26_i32_20 : BitVec 32 := 26#32
  let v53 : BitVec 1 := Scalar.cmpi .eq v2 c26_i32_20
  let c17_i32_21 : BitVec 32 := 17#32
  let c25_i32_18 : BitVec 32 := 25#32
  let v51 : BitVec 1 := Scalar.cmpi .eq v2 c25_i32_18
  let c16_i32_19 : BitVec 32 := 16#32
  let c24_i32_16 : BitVec 32 := 24#32
  let v49 : BitVec 1 := Scalar.cmpi .eq v2 c24_i32_16
  let c15_i32_17 : BitVec 32 := 15#32
  let c23_i32_14 : BitVec 32 := 23#32
  let v47 : BitVec 1 := Scalar.cmpi .eq v2 c23_i32_14
  let c11_i32_15 : BitVec 32 := 11#32
  let c22_i32_12 : BitVec 32 := 22#32
  let v45 : BitVec 1 := Scalar.cmpi .eq v2 c22_i32_12
  let c20_i32_13 : BitVec 32 := 20#32
  let c21_i32 : BitVec 32 := 21#32
  let v43 : BitVec 1 := Scalar.cmpi .eq v2 c21_i32
  let c21_i32_11 : BitVec 32 := 21#32
  let c20_i32 : BitVec 32 := 20#32
  let v41 : BitVec 1 := Scalar.cmpi .eq v2 c20_i32
  let c10_i32_10 : BitVec 32 := 10#32
  let c19_i32 : BitVec 32 := 19#32
  let v39 : BitVec 1 := Scalar.cmpi .eq v2 c19_i32
  let c9_i32_9 : BitVec 32 := 9#32
  let c18_i32 : BitVec 32 := 18#32
  let v37 : BitVec 1 := Scalar.cmpi .eq v2 c18_i32
  let c22_i32 : BitVec 32 := 22#32
  let c17_i32 : BitVec 32 := 17#32
  let v35 : BitVec 1 := Scalar.cmpi .eq v2 c17_i32
  let c23_i32 : BitVec 32 := 23#32
  let c16_i32 : BitVec 32 := 16#32
  let v33 : BitVec 1 := Scalar.cmpi .eq v2 c16_i32
  let c8_i32_8 : BitVec 32 := 8#32
  let c15_i32 : BitVec 32 := 15#32
  let v31 : BitVec 1 := Scalar.cmpi .eq v2 c15_i32
  let c4_i32_7 : BitVec 32 := 4#32
  let c14_i32 : BitVec 32 := 14#32
  let v29 : BitVec 1 := Scalar.cmpi .eq v2 c14_i32
  let c27_i32 : BitVec 32 := 27#32
  let c13_i32 : BitVec 32 := 13#32
  let v27 : BitVec 1 := Scalar.cmpi .eq v2 c13_i32
  let c26_i32 : BitVec 32 := 26#32
  let c12_i32 : BitVec 32 := 12#32
  let v25 : BitVec 1 := Scalar.cmpi .eq v2 c12_i32
  let c5_i32_6 : BitVec 32 := 5#32
  let c11_i32 : BitVec 32 := 11#32
  let v23 : BitVec 1 := Scalar.cmpi .eq v2 c11_i32
  let c6_i32_5 : BitVec 32 := 6#32
  let c10_i32 : BitVec 32 := 10#32
  let v21 : BitVec 1 := Scalar.cmpi .eq v2 c10_i32
  let c25_i32 : BitVec 32 := 25#32
  let c9_i32 : BitVec 32 := 9#32
  let v19 : BitVec 1 := Scalar.cmpi .eq v2 c9_i32
  let c24_i32 : BitVec 32 := 24#32
  let c8_i32 : BitVec 32 := 8#32
  let v17 : BitVec 1 := Scalar.cmpi .eq v2 c8_i32
  let c7_i32_4 : BitVec 32 := 7#32
  let c7_i32 : BitVec 32 := 7#32
  let v15 : BitVec 1 := Scalar.cmpi .eq v2 c7_i32
  let c3_i32_3 : BitVec 32 := 3#32
  let c6_i32 : BitVec 32 := 6#32
  let v13 : BitVec 1 := Scalar.cmpi .eq v2 c6_i32
  let c28_i32 : BitVec 32 := 28#32
  let c5_i32 : BitVec 32 := 5#32
  let v11 : BitVec 1 := Scalar.cmpi .eq v2 c5_i32
  let c29_i32 : BitVec 32 := 29#32
  let c4_i32 : BitVec 32 := 4#32
  let v9 : BitVec 1 := Scalar.cmpi .eq v2 c4_i32
  let c2_i32_2 : BitVec 32 := 2#32
  let c3_i32 : BitVec 32 := 3#32
  let v7 : BitVec 1 := Scalar.cmpi .eq v2 c3_i32
  let c1_i32_1 : BitVec 32 := 1#32
  let c2_i32 : BitVec 32 := 2#32
  let v5 : BitVec 1 := Scalar.cmpi .eq v2 c2_i32
  let c30_i32 : BitVec 32 := 30#32
  let c1_i32_0 : BitVec 32 := 1#32
  let v3 : BitVec 1 := Scalar.cmpi .eq v2 c1_i32_0
  let c31_i32 : BitVec 32 := 31#32
  let c0_i32 : BitVec 32 := 0#32
  let v4 : BitVec 32 := Scalar.select v3 c31_i32 c0_i32
  let v6 : BitVec 32 := Scalar.select v5 c30_i32 v4
  let v8 : BitVec 32 := Scalar.select v7 c1_i32_1 v6
  let v10 : BitVec 32 := Scalar.select v9 c2_i32_2 v8
  let v12 : BitVec 32 := Scalar.select v11 c29_i32 v10
  let v14 : BitVec 32 := Scalar.select v13 c28_i32 v12
  let v16 : BitVec 32 := Scalar.select v15 c3_i32_3 v14
  let v18 : BitVec 32 := Scalar.select v17 c7_i32_4 v16
  let v20 : BitVec 32 := Scalar.select v19 c24_i32 v18
  let v22 : BitVec 32 := Scalar.select v21 c25_i32 v20
  let v24 : BitVec 32 := Scalar.select v23 c6_i32_5 v22
  let v26 : BitVec 32 := Scalar.select v25 c5_i32_6 v24
  let v28 : BitVec 32 := Scalar.select v27 c26_i32 v26
  let v30 : BitVec 32 := Scalar.select v29 c27_i32 v28
  let v32 : BitVec 32 := Scalar.select v31 c4_i32_7 v30
  let v34 : BitVec 32 := Scalar.select v33 c8_i32_8 v32
  let v36 : BitVec 32 := Scalar.select v35 c23_i32 v34
  let v38 : BitVec 32 := Scalar.select v37 c22_i32 v36
  let v40 : BitVec 32 := Scalar.select v39 c9_i32_9 v38
  let v42 : BitVec 32 := Scalar.select v41 c10_i32_10 v40
  let v44 : BitVec 32 := Scalar.select v43 c21_i32_11 v42
  let v46 : BitVec 32 := Scalar.select v45 c20_i32_13 v44
  let v48 : BitVec 32 := Scalar.select v47 c11_i32_15 v46
  let v50 : BitVec 32 := Scalar.select v49 c15_i32_17 v48
  let v52 : BitVec 32 := Scalar.select v51 c16_i32_19 v50
  let v54 : BitVec 32 := Scalar.select v53 c17_i32_21 v52
  let v56 : BitVec 32 := Scalar.select v55 c14_i32_23 v54
  let v58 : BitVec 32 := Scalar.select v57 c13_i32_25 v56
  let v60 : BitVec 32 := Scalar.select v59 c18_i32_27 v58
  let v62 : BitVec 32 := Scalar.select v61 c19_i32_29 v60
  let v64 : BitVec 32 := Scalar.select v63 c12_i32_31 v62
  let c1_i32_5277 : BitVec 32 := 1#32
  let v6182 : BitVec 32 := Scalar.addi v64 c1_i32_5277
  let v6183 : BitVec 32 := Scalar.subi v6182 c1_i32_5278
  let c32_i32_5279 : BitVec 32 := 32#32
  let c0_i32_5280 : BitVec 32 := 0#32
  let v6184 : BitVec 1 := Scalar.cmpi .eq c32_i32_5279 c0_i32_5280
  let c1_i32_5281 : BitVec 32 := 1#32
  let v6185 : BitVec 32 := Scalar.select v6184 c1_i32_5281 c32_i32_5279
  let v6186 : BitVec 32 := Scalar.remsi v6183 v6185
  let c0_i32_5283 : BitVec 32 := 0#32
  let v6188 : BitVec 1 := Scalar.cmpi .slt v6186 c0_i32_5283
  let c0_i32_5284 : BitVec 32 := 0#32
  let v6189 : BitVec 1 := Scalar.cmpi .slt v6185 c0_i32_5284
  let v6190 : BitVec 1 := Scalar.xori v6188 v6189
  let c0_i32_5282 : BitVec 32 := 0#32
  let v6187 : BitVec 1 := Scalar.cmpi .ne v6186 c0_i32_5282
  let v6191 : BitVec 1 := Scalar.andi v6190 v6187
  let v6192 : BitVec 32 := Scalar.addi v6186 v6185
  let v6193 : BitVec 32 := Scalar.select v6191 v6192 v6186
  let c64_i32_5301 : BitVec 32 := 64#32
  let v6216 : BitVec 32 := Scalar.muli v6193 c64_i32_5301
  let c512_i32_5306 : BitVec 32 := 512#32
  ![v6216.toNat, 512]
def k0_dev132 (d0 : Dev nD) : Nat :=
  let c0_i32_5305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5304 : BitVec 32 := 1#32
  let v6217 : BitVec 32 := Scalar.muli v126 c1_i32_5304
  let v6218 : BitVec 32 := Scalar.addi c0_i32_5305 v6217
  v6218.toNat
def k0_dev133 (d0 : Dev nD) : Nat :=
  let c0_i32_5313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5312 : BitVec 32 := 1#32
  let v6227 : BitVec 32 := Scalar.muli v188 c1_i32_5312
  let v6228 : BitVec 32 := Scalar.addi c0_i32_5313 v6227
  v6228.toNat
def k0_dev134 (d0 : Dev nD) : Nat :=
  let c0_i32_5321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5320 : BitVec 32 := 1#32
  let v6237 : BitVec 32 := Scalar.muli v188 c1_i32_5320
  let v6238 : BitVec 32 := Scalar.addi c0_i32_5321 v6237
  v6238.toNat
def k0_dev135 (d0 : Dev nD) : Nat :=
  let c0_i32_5388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5387 : BitVec 32 := 1#32
  let v6310 : BitVec 32 := Scalar.muli v126 c1_i32_5387
  let v6311 : BitVec 32 := Scalar.addi c0_i32_5388 v6310
  v6311.toNat
def k0_dev136 (d0 : Dev nD) : Nat :=
  let c0_i32_5396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5395 : BitVec 32 := 1#32
  let v6320 : BitVec 32 := Scalar.muli v126 c1_i32_5395
  let v6321 : BitVec 32 := Scalar.addi c0_i32_5396 v6320
  v6321.toNat
def k0_dev137 (d0 : Dev nD) : Nat :=
  let c0_i32_5404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5403 : BitVec 32 := 1#32
  let v6330 : BitVec 32 := Scalar.muli v188 c1_i32_5403
  let v6331 : BitVec 32 := Scalar.addi c0_i32_5404 v6330
  v6331.toNat
def k0_dev138 (d0 : Dev nD) : Nat :=
  let c0_i32_5412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5411 : BitVec 32 := 1#32
  let v6340 : BitVec 32 := Scalar.muli v188 c1_i32_5411
  let v6341 : BitVec 32 := Scalar.addi c0_i32_5412 v6340
  v6341.toNat
def k0_dev139 (d0 : Dev nD) : Nat :=
  let c0_i32_5479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5478 : BitVec 32 := 1#32
  let v6413 : BitVec 32 := Scalar.muli v126 c1_i32_5478
  let v6414 : BitVec 32 := Scalar.addi c0_i32_5479 v6413
  v6414.toNat
def k0_dev140 (d0 : Dev nD) : Nat :=
  let c0_i32_5487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5486 : BitVec 32 := 1#32
  let v6423 : BitVec 32 := Scalar.muli v126 c1_i32_5486
  let v6424 : BitVec 32 := Scalar.addi c0_i32_5487 v6423
  v6424.toNat
def k0_dev141 (d0 : Dev nD) : Nat :=
  let c0_i32_5495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5494 : BitVec 32 := 1#32
  let v6433 : BitVec 32 := Scalar.muli v188 c1_i32_5494
  let v6434 : BitVec 32 := Scalar.addi c0_i32_5495 v6433
  v6434.toNat
def k0_dev142 (d0 : Dev nD) : Nat :=
  let c0_i32_5503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5502 : BitVec 32 := 1#32
  let v6443 : BitVec 32 := Scalar.muli v188 c1_i32_5502
  let v6444 : BitVec 32 := Scalar.addi c0_i32_5503 v6443
  v6444.toNat
def k0_dev143 (d0 : Dev nD) : Nat :=
  let c0_i32_5570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5569 : BitVec 32 := 1#32
  let v6516 : BitVec 32 := Scalar.muli v126 c1_i32_5569
  let v6517 : BitVec 32 := Scalar.addi c0_i32_5570 v6516
  v6517.toNat
def k0_dev144 (d0 : Dev nD) : Nat :=
  let c0_i32_5578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5577 : BitVec 32 := 1#32
  let v6526 : BitVec 32 := Scalar.muli v126 c1_i32_5577
  let v6527 : BitVec 32 := Scalar.addi c0_i32_5578 v6526
  v6527.toNat
def k0_dev145 (d0 : Dev nD) : Nat :=
  let c0_i32_5586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5585 : BitVec 32 := 1#32
  let v6536 : BitVec 32 := Scalar.muli v188 c1_i32_5585
  let v6537 : BitVec 32 := Scalar.addi c0_i32_5586 v6536
  v6537.toNat
def k0_dev146 (d0 : Dev nD) : Nat :=
  let c0_i32_5594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5593 : BitVec 32 := 1#32
  let v6546 : BitVec 32 := Scalar.muli v188 c1_i32_5593
  let v6547 : BitVec 32 := Scalar.addi c0_i32_5594 v6546
  v6547.toNat
def k0_dev147 (d0 : Dev nD) : Nat :=
  let c0_i32_5661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5660 : BitVec 32 := 1#32
  let v6619 : BitVec 32 := Scalar.muli v126 c1_i32_5660
  let v6620 : BitVec 32 := Scalar.addi c0_i32_5661 v6619
  v6620.toNat
def k0_dev148 (d0 : Dev nD) : Nat :=
  let c0_i32_5669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5668 : BitVec 32 := 1#32
  let v6629 : BitVec 32 := Scalar.muli v126 c1_i32_5668
  let v6630 : BitVec 32 := Scalar.addi c0_i32_5669 v6629
  v6630.toNat
def k0_dev149 (d0 : Dev nD) : Nat :=
  let c0_i32_5677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5676 : BitVec 32 := 1#32
  let v6639 : BitVec 32 := Scalar.muli v188 c1_i32_5676
  let v6640 : BitVec 32 := Scalar.addi c0_i32_5677 v6639
  v6640.toNat
def k0_dev150 (d0 : Dev nD) : Nat :=
  let c0_i32_5685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5684 : BitVec 32 := 1#32
  let v6649 : BitVec 32 := Scalar.muli v188 c1_i32_5684
  let v6650 : BitVec 32 := Scalar.addi c0_i32_5685 v6649
  v6650.toNat
def k0_dev151 (d0 : Dev nD) : Nat :=
  let c0_i32_5752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5751 : BitVec 32 := 1#32
  let v6722 : BitVec 32 := Scalar.muli v126 c1_i32_5751
  let v6723 : BitVec 32 := Scalar.addi c0_i32_5752 v6722
  v6723.toNat
def k0_dev152 (d0 : Dev nD) : Nat :=
  let c0_i32_5760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5759 : BitVec 32 := 1#32
  let v6732 : BitVec 32 := Scalar.muli v126 c1_i32_5759
  let v6733 : BitVec 32 := Scalar.addi c0_i32_5760 v6732
  v6733.toNat
def k0_dev153 (d0 : Dev nD) : Nat :=
  let c0_i32_5768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5767 : BitVec 32 := 1#32
  let v6742 : BitVec 32 := Scalar.muli v188 c1_i32_5767
  let v6743 : BitVec 32 := Scalar.addi c0_i32_5768 v6742
  v6743.toNat
def k0_dev154 (d0 : Dev nD) : Nat :=
  let c0_i32_5776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5775 : BitVec 32 := 1#32
  let v6752 : BitVec 32 := Scalar.muli v188 c1_i32_5775
  let v6753 : BitVec 32 := Scalar.addi c0_i32_5776 v6752
  v6753.toNat
def k0_dev155 (d0 : Dev nD) : Nat :=
  let c0_i32_5843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5842 : BitVec 32 := 1#32
  let v6825 : BitVec 32 := Scalar.muli v126 c1_i32_5842
  let v6826 : BitVec 32 := Scalar.addi c0_i32_5843 v6825
  v6826.toNat
def k0_dev156 (d0 : Dev nD) : Nat :=
  let c0_i32_5851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5850 : BitVec 32 := 1#32
  let v6835 : BitVec 32 := Scalar.muli v126 c1_i32_5850
  let v6836 : BitVec 32 := Scalar.addi c0_i32_5851 v6835
  v6836.toNat
def k0_dev157 (d0 : Dev nD) : Nat :=
  let c0_i32_5859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5858 : BitVec 32 := 1#32
  let v6845 : BitVec 32 := Scalar.muli v188 c1_i32_5858
  let v6846 : BitVec 32 := Scalar.addi c0_i32_5859 v6845
  v6846.toNat
def k0_dev158 (d0 : Dev nD) : Nat :=
  let c0_i32_5867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5866 : BitVec 32 := 1#32
  let v6855 : BitVec 32 := Scalar.muli v188 c1_i32_5866
  let v6856 : BitVec 32 := Scalar.addi c0_i32_5867 v6855
  v6856.toNat
def k0_dev159 (d0 : Dev nD) : Nat :=
  let c0_i32_5934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5933 : BitVec 32 := 1#32
  let v6928 : BitVec 32 := Scalar.muli v126 c1_i32_5933
  let v6929 : BitVec 32 := Scalar.addi c0_i32_5934 v6928
  v6929.toNat
def k0_dev160 (d0 : Dev nD) : Nat :=
  let c0_i32_5942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_5941 : BitVec 32 := 1#32
  let v6938 : BitVec 32 := Scalar.muli v126 c1_i32_5941
  let v6939 : BitVec 32 := Scalar.addi c0_i32_5942 v6938
  v6939.toNat
def k0_dev161 (d0 : Dev nD) : Nat :=
  let c0_i32_5950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5949 : BitVec 32 := 1#32
  let v6948 : BitVec 32 := Scalar.muli v188 c1_i32_5949
  let v6949 : BitVec 32 := Scalar.addi c0_i32_5950 v6948
  v6949.toNat
def k0_dev162 (d0 : Dev nD) : Nat :=
  let c0_i32_5958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_5957 : BitVec 32 := 1#32
  let v6958 : BitVec 32 := Scalar.muli v188 c1_i32_5957
  let v6959 : BitVec 32 := Scalar.addi c0_i32_5958 v6958
  v6959.toNat
def k0_dev163 (d0 : Dev nD) : Nat :=
  let c0_i32_6025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6024 : BitVec 32 := 1#32
  let v7031 : BitVec 32 := Scalar.muli v126 c1_i32_6024
  let v7032 : BitVec 32 := Scalar.addi c0_i32_6025 v7031
  v7032.toNat
def k0_dev164 (d0 : Dev nD) : Nat :=
  let c0_i32_6033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6032 : BitVec 32 := 1#32
  let v7041 : BitVec 32 := Scalar.muli v126 c1_i32_6032
  let v7042 : BitVec 32 := Scalar.addi c0_i32_6033 v7041
  v7042.toNat
def k0_dev165 (d0 : Dev nD) : Nat :=
  let c0_i32_6041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6040 : BitVec 32 := 1#32
  let v7051 : BitVec 32 := Scalar.muli v188 c1_i32_6040
  let v7052 : BitVec 32 := Scalar.addi c0_i32_6041 v7051
  v7052.toNat
def k0_dev166 (d0 : Dev nD) : Nat :=
  let c0_i32_6049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6048 : BitVec 32 := 1#32
  let v7061 : BitVec 32 := Scalar.muli v188 c1_i32_6048
  let v7062 : BitVec 32 := Scalar.addi c0_i32_6049 v7061
  v7062.toNat
def k0_dev167 (d0 : Dev nD) : Nat :=
  let c0_i32_6116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6115 : BitVec 32 := 1#32
  let v7134 : BitVec 32 := Scalar.muli v126 c1_i32_6115
  let v7135 : BitVec 32 := Scalar.addi c0_i32_6116 v7134
  v7135.toNat
def k0_dev168 (d0 : Dev nD) : Nat :=
  let c0_i32_6124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6123 : BitVec 32 := 1#32
  let v7144 : BitVec 32 := Scalar.muli v126 c1_i32_6123
  let v7145 : BitVec 32 := Scalar.addi c0_i32_6124 v7144
  v7145.toNat
def k0_dev169 (d0 : Dev nD) : Nat :=
  let c0_i32_6132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6131 : BitVec 32 := 1#32
  let v7154 : BitVec 32 := Scalar.muli v188 c1_i32_6131
  let v7155 : BitVec 32 := Scalar.addi c0_i32_6132 v7154
  v7155.toNat
def k0_dev170 (d0 : Dev nD) : Nat :=
  let c0_i32_6140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6139 : BitVec 32 := 1#32
  let v7164 : BitVec 32 := Scalar.muli v188 c1_i32_6139
  let v7165 : BitVec 32 := Scalar.addi c0_i32_6140 v7164
  v7165.toNat
def k0_dev171 (d0 : Dev nD) : Nat :=
  let c0_i32_6207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6206 : BitVec 32 := 1#32
  let v7237 : BitVec 32 := Scalar.muli v126 c1_i32_6206
  let v7238 : BitVec 32 := Scalar.addi c0_i32_6207 v7237
  v7238.toNat
def k0_dev172 (d0 : Dev nD) : Nat :=
  let c0_i32_6215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6214 : BitVec 32 := 1#32
  let v7247 : BitVec 32 := Scalar.muli v126 c1_i32_6214
  let v7248 : BitVec 32 := Scalar.addi c0_i32_6215 v7247
  v7248.toNat
def k0_dev173 (d0 : Dev nD) : Nat :=
  let c0_i32_6223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6222 : BitVec 32 := 1#32
  let v7257 : BitVec 32 := Scalar.muli v188 c1_i32_6222
  let v7258 : BitVec 32 := Scalar.addi c0_i32_6223 v7257
  v7258.toNat
def k0_dev174 (d0 : Dev nD) : Nat :=
  let c0_i32_6231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6230 : BitVec 32 := 1#32
  let v7267 : BitVec 32 := Scalar.muli v188 c1_i32_6230
  let v7268 : BitVec 32 := Scalar.addi c0_i32_6231 v7267
  v7268.toNat
def k0_dev175 (d0 : Dev nD) : Nat :=
  let c0_i32_6298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6297 : BitVec 32 := 1#32
  let v7340 : BitVec 32 := Scalar.muli v126 c1_i32_6297
  let v7341 : BitVec 32 := Scalar.addi c0_i32_6298 v7340
  v7341.toNat
def k0_dev176 (d0 : Dev nD) : Nat :=
  let c0_i32_6306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6305 : BitVec 32 := 1#32
  let v7350 : BitVec 32 := Scalar.muli v126 c1_i32_6305
  let v7351 : BitVec 32 := Scalar.addi c0_i32_6306 v7350
  v7351.toNat
def k0_dev177 (d0 : Dev nD) : Nat :=
  let c0_i32_6314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6313 : BitVec 32 := 1#32
  let v7360 : BitVec 32 := Scalar.muli v188 c1_i32_6313
  let v7361 : BitVec 32 := Scalar.addi c0_i32_6314 v7360
  v7361.toNat
def k0_dev178 (d0 : Dev nD) : Nat :=
  let c0_i32_6322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6321 : BitVec 32 := 1#32
  let v7370 : BitVec 32 := Scalar.muli v188 c1_i32_6321
  let v7371 : BitVec 32 := Scalar.addi c0_i32_6322 v7370
  v7371.toNat
def k0_dev179 (d0 : Dev nD) : Nat :=
  let c0_i32_6389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6388 : BitVec 32 := 1#32
  let v7443 : BitVec 32 := Scalar.muli v126 c1_i32_6388
  let v7444 : BitVec 32 := Scalar.addi c0_i32_6389 v7443
  v7444.toNat
def k0_dev180 (d0 : Dev nD) : Nat :=
  let c0_i32_6397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6396 : BitVec 32 := 1#32
  let v7453 : BitVec 32 := Scalar.muli v126 c1_i32_6396
  let v7454 : BitVec 32 := Scalar.addi c0_i32_6397 v7453
  v7454.toNat
def k0_dev181 (d0 : Dev nD) : Nat :=
  let c0_i32_6405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6404 : BitVec 32 := 1#32
  let v7463 : BitVec 32 := Scalar.muli v188 c1_i32_6404
  let v7464 : BitVec 32 := Scalar.addi c0_i32_6405 v7463
  v7464.toNat
def k0_dev182 (d0 : Dev nD) : Nat :=
  let c0_i32_6413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6412 : BitVec 32 := 1#32
  let v7473 : BitVec 32 := Scalar.muli v188 c1_i32_6412
  let v7474 : BitVec 32 := Scalar.addi c0_i32_6413 v7473
  v7474.toNat
def k0_dev183 (d0 : Dev nD) : Nat :=
  let c0_i32_6480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6479 : BitVec 32 := 1#32
  let v7546 : BitVec 32 := Scalar.muli v126 c1_i32_6479
  let v7547 : BitVec 32 := Scalar.addi c0_i32_6480 v7546
  v7547.toNat
def k0_dev184 (d0 : Dev nD) : Nat :=
  let c0_i32_6488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6487 : BitVec 32 := 1#32
  let v7556 : BitVec 32 := Scalar.muli v126 c1_i32_6487
  let v7557 : BitVec 32 := Scalar.addi c0_i32_6488 v7556
  v7557.toNat
def k0_dev185 (d0 : Dev nD) : Nat :=
  let c0_i32_6496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6495 : BitVec 32 := 1#32
  let v7566 : BitVec 32 := Scalar.muli v188 c1_i32_6495
  let v7567 : BitVec 32 := Scalar.addi c0_i32_6496 v7566
  v7567.toNat
def k0_dev186 (d0 : Dev nD) : Nat :=
  let c0_i32_6504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6503 : BitVec 32 := 1#32
  let v7576 : BitVec 32 := Scalar.muli v188 c1_i32_6503
  let v7577 : BitVec 32 := Scalar.addi c0_i32_6504 v7576
  v7577.toNat
def k0_dev187 (d0 : Dev nD) : Nat :=
  let c0_i32_6571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6570 : BitVec 32 := 1#32
  let v7649 : BitVec 32 := Scalar.muli v126 c1_i32_6570
  let v7650 : BitVec 32 := Scalar.addi c0_i32_6571 v7649
  v7650.toNat
def k0_dev188 (d0 : Dev nD) : Nat :=
  let c0_i32_6579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6578 : BitVec 32 := 1#32
  let v7659 : BitVec 32 := Scalar.muli v126 c1_i32_6578
  let v7660 : BitVec 32 := Scalar.addi c0_i32_6579 v7659
  v7660.toNat
def k0_dev189 (d0 : Dev nD) : Nat :=
  let c0_i32_6587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6586 : BitVec 32 := 1#32
  let v7669 : BitVec 32 := Scalar.muli v188 c1_i32_6586
  let v7670 : BitVec 32 := Scalar.addi c0_i32_6587 v7669
  v7670.toNat
def k0_dev190 (d0 : Dev nD) : Nat :=
  let c0_i32_6595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6594 : BitVec 32 := 1#32
  let v7679 : BitVec 32 := Scalar.muli v188 c1_i32_6594
  let v7680 : BitVec 32 := Scalar.addi c0_i32_6595 v7679
  v7680.toNat
def k0_dev191 (d0 : Dev nD) : Nat :=
  let c0_i32_6662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6661 : BitVec 32 := 1#32
  let v7752 : BitVec 32 := Scalar.muli v126 c1_i32_6661
  let v7753 : BitVec 32 := Scalar.addi c0_i32_6662 v7752
  v7753.toNat
def k0_dev192 (d0 : Dev nD) : Nat :=
  let c0_i32_6670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6669 : BitVec 32 := 1#32
  let v7762 : BitVec 32 := Scalar.muli v126 c1_i32_6669
  let v7763 : BitVec 32 := Scalar.addi c0_i32_6670 v7762
  v7763.toNat
def k0_dev193 (d0 : Dev nD) : Nat :=
  let c0_i32_6678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6677 : BitVec 32 := 1#32
  let v7772 : BitVec 32 := Scalar.muli v188 c1_i32_6677
  let v7773 : BitVec 32 := Scalar.addi c0_i32_6678 v7772
  v7773.toNat
def k0_dev194 (d0 : Dev nD) : Nat :=
  let c0_i32_6686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6685 : BitVec 32 := 1#32
  let v7782 : BitVec 32 := Scalar.muli v188 c1_i32_6685
  let v7783 : BitVec 32 := Scalar.addi c0_i32_6686 v7782
  v7783.toNat
def k0_dev195 (d0 : Dev nD) : Nat :=
  let c0_i32_6753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6752 : BitVec 32 := 1#32
  let v7855 : BitVec 32 := Scalar.muli v126 c1_i32_6752
  let v7856 : BitVec 32 := Scalar.addi c0_i32_6753 v7855
  v7856.toNat
def k0_dev196 (d0 : Dev nD) : Nat :=
  let c0_i32_6761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6760 : BitVec 32 := 1#32
  let v7865 : BitVec 32 := Scalar.muli v126 c1_i32_6760
  let v7866 : BitVec 32 := Scalar.addi c0_i32_6761 v7865
  v7866.toNat
def k0_dev197 (d0 : Dev nD) : Nat :=
  let c0_i32_6769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6768 : BitVec 32 := 1#32
  let v7875 : BitVec 32 := Scalar.muli v188 c1_i32_6768
  let v7876 : BitVec 32 := Scalar.addi c0_i32_6769 v7875
  v7876.toNat
def k0_dev198 (d0 : Dev nD) : Nat :=
  let c0_i32_6777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6776 : BitVec 32 := 1#32
  let v7885 : BitVec 32 := Scalar.muli v188 c1_i32_6776
  let v7886 : BitVec 32 := Scalar.addi c0_i32_6777 v7885
  v7886.toNat
def k0_dev199 (d0 : Dev nD) : Nat :=
  let c0_i32_6844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6843 : BitVec 32 := 1#32
  let v7958 : BitVec 32 := Scalar.muli v126 c1_i32_6843
  let v7959 : BitVec 32 := Scalar.addi c0_i32_6844 v7958
  v7959.toNat
def k0_dev200 (d0 : Dev nD) : Nat :=
  let c0_i32_6852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6851 : BitVec 32 := 1#32
  let v7968 : BitVec 32 := Scalar.muli v126 c1_i32_6851
  let v7969 : BitVec 32 := Scalar.addi c0_i32_6852 v7968
  v7969.toNat
def k0_dev201 (d0 : Dev nD) : Nat :=
  let c0_i32_6860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6859 : BitVec 32 := 1#32
  let v7978 : BitVec 32 := Scalar.muli v188 c1_i32_6859
  let v7979 : BitVec 32 := Scalar.addi c0_i32_6860 v7978
  v7979.toNat
def k0_dev202 (d0 : Dev nD) : Nat :=
  let c0_i32_6868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6867 : BitVec 32 := 1#32
  let v7988 : BitVec 32 := Scalar.muli v188 c1_i32_6867
  let v7989 : BitVec 32 := Scalar.addi c0_i32_6868 v7988
  v7989.toNat
def k0_dev203 (d0 : Dev nD) : Nat :=
  let c0_i32_6935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6934 : BitVec 32 := 1#32
  let v8061 : BitVec 32 := Scalar.muli v126 c1_i32_6934
  let v8062 : BitVec 32 := Scalar.addi c0_i32_6935 v8061
  v8062.toNat
def k0_dev204 (d0 : Dev nD) : Nat :=
  let c0_i32_6943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_6942 : BitVec 32 := 1#32
  let v8071 : BitVec 32 := Scalar.muli v126 c1_i32_6942
  let v8072 : BitVec 32 := Scalar.addi c0_i32_6943 v8071
  v8072.toNat
def k0_dev205 (d0 : Dev nD) : Nat :=
  let c0_i32_6951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6950 : BitVec 32 := 1#32
  let v8081 : BitVec 32 := Scalar.muli v188 c1_i32_6950
  let v8082 : BitVec 32 := Scalar.addi c0_i32_6951 v8081
  v8082.toNat
def k0_dev206 (d0 : Dev nD) : Nat :=
  let c0_i32_6959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_6958 : BitVec 32 := 1#32
  let v8091 : BitVec 32 := Scalar.muli v188 c1_i32_6958
  let v8092 : BitVec 32 := Scalar.addi c0_i32_6959 v8091
  v8092.toNat
def k0_dev207 (d0 : Dev nD) : Nat :=
  let c0_i32_7026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7025 : BitVec 32 := 1#32
  let v8164 : BitVec 32 := Scalar.muli v126 c1_i32_7025
  let v8165 : BitVec 32 := Scalar.addi c0_i32_7026 v8164
  v8165.toNat
def k0_dev208 (d0 : Dev nD) : Nat :=
  let c0_i32_7034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7033 : BitVec 32 := 1#32
  let v8174 : BitVec 32 := Scalar.muli v126 c1_i32_7033
  let v8175 : BitVec 32 := Scalar.addi c0_i32_7034 v8174
  v8175.toNat
def k0_dev209 (d0 : Dev nD) : Nat :=
  let c0_i32_7042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7041 : BitVec 32 := 1#32
  let v8184 : BitVec 32 := Scalar.muli v188 c1_i32_7041
  let v8185 : BitVec 32 := Scalar.addi c0_i32_7042 v8184
  v8185.toNat
def k0_dev210 (d0 : Dev nD) : Nat :=
  let c0_i32_7050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7049 : BitVec 32 := 1#32
  let v8194 : BitVec 32 := Scalar.muli v188 c1_i32_7049
  let v8195 : BitVec 32 := Scalar.addi c0_i32_7050 v8194
  v8195.toNat
def k0_dev211 (d0 : Dev nD) : Nat :=
  let c0_i32_7117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7116 : BitVec 32 := 1#32
  let v8267 : BitVec 32 := Scalar.muli v126 c1_i32_7116
  let v8268 : BitVec 32 := Scalar.addi c0_i32_7117 v8267
  v8268.toNat
def k0_dev212 (d0 : Dev nD) : Nat :=
  let c0_i32_7125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7124 : BitVec 32 := 1#32
  let v8277 : BitVec 32 := Scalar.muli v126 c1_i32_7124
  let v8278 : BitVec 32 := Scalar.addi c0_i32_7125 v8277
  v8278.toNat
def k0_dev213 (d0 : Dev nD) : Nat :=
  let c0_i32_7133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7132 : BitVec 32 := 1#32
  let v8287 : BitVec 32 := Scalar.muli v188 c1_i32_7132
  let v8288 : BitVec 32 := Scalar.addi c0_i32_7133 v8287
  v8288.toNat
def k0_dev214 (d0 : Dev nD) : Nat :=
  let c0_i32_7141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7140 : BitVec 32 := 1#32
  let v8297 : BitVec 32 := Scalar.muli v188 c1_i32_7140
  let v8298 : BitVec 32 := Scalar.addi c0_i32_7141 v8297
  v8298.toNat
def k0_dev215 (d0 : Dev nD) : Nat :=
  let c0_i32_7208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7207 : BitVec 32 := 1#32
  let v8370 : BitVec 32 := Scalar.muli v126 c1_i32_7207
  let v8371 : BitVec 32 := Scalar.addi c0_i32_7208 v8370
  v8371.toNat
def k0_dev216 (d0 : Dev nD) : Nat :=
  let c0_i32_7216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7215 : BitVec 32 := 1#32
  let v8380 : BitVec 32 := Scalar.muli v126 c1_i32_7215
  let v8381 : BitVec 32 := Scalar.addi c0_i32_7216 v8380
  v8381.toNat
def k0_dev217 (d0 : Dev nD) : Nat :=
  let c0_i32_7224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7223 : BitVec 32 := 1#32
  let v8390 : BitVec 32 := Scalar.muli v188 c1_i32_7223
  let v8391 : BitVec 32 := Scalar.addi c0_i32_7224 v8390
  v8391.toNat
def k0_dev218 (d0 : Dev nD) : Nat :=
  let c0_i32_7232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7231 : BitVec 32 := 1#32
  let v8400 : BitVec 32 := Scalar.muli v188 c1_i32_7231
  let v8401 : BitVec 32 := Scalar.addi c0_i32_7232 v8400
  v8401.toNat
def k0_dev219 (d0 : Dev nD) : Nat :=
  let c0_i32_7299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7298 : BitVec 32 := 1#32
  let v8473 : BitVec 32 := Scalar.muli v126 c1_i32_7298
  let v8474 : BitVec 32 := Scalar.addi c0_i32_7299 v8473
  v8474.toNat
def k0_dev220 (d0 : Dev nD) : Nat :=
  let c0_i32_7307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7306 : BitVec 32 := 1#32
  let v8483 : BitVec 32 := Scalar.muli v126 c1_i32_7306
  let v8484 : BitVec 32 := Scalar.addi c0_i32_7307 v8483
  v8484.toNat
def k0_dev221 (d0 : Dev nD) : Nat :=
  let c0_i32_7315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7314 : BitVec 32 := 1#32
  let v8493 : BitVec 32 := Scalar.muli v188 c1_i32_7314
  let v8494 : BitVec 32 := Scalar.addi c0_i32_7315 v8493
  v8494.toNat
def k0_dev222 (d0 : Dev nD) : Nat :=
  let c0_i32_7323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7322 : BitVec 32 := 1#32
  let v8503 : BitVec 32 := Scalar.muli v188 c1_i32_7322
  let v8504 : BitVec 32 := Scalar.addi c0_i32_7323 v8503
  v8504.toNat
def k0_dev223 (d0 : Dev nD) : Nat :=
  let c0_i32_7390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7389 : BitVec 32 := 1#32
  let v8576 : BitVec 32 := Scalar.muli v126 c1_i32_7389
  let v8577 : BitVec 32 := Scalar.addi c0_i32_7390 v8576
  v8577.toNat
def k0_dev224 (d0 : Dev nD) : Nat :=
  let c0_i32_7398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7397 : BitVec 32 := 1#32
  let v8586 : BitVec 32 := Scalar.muli v126 c1_i32_7397
  let v8587 : BitVec 32 := Scalar.addi c0_i32_7398 v8586
  v8587.toNat
def k0_dev225 (d0 : Dev nD) : Nat :=
  let c0_i32_7406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7405 : BitVec 32 := 1#32
  let v8596 : BitVec 32 := Scalar.muli v188 c1_i32_7405
  let v8597 : BitVec 32 := Scalar.addi c0_i32_7406 v8596
  v8597.toNat
def k0_dev226 (d0 : Dev nD) : Nat :=
  let c0_i32_7414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7413 : BitVec 32 := 1#32
  let v8606 : BitVec 32 := Scalar.muli v188 c1_i32_7413
  let v8607 : BitVec 32 := Scalar.addi c0_i32_7414 v8606
  v8607.toNat
def k0_dev227 (d0 : Dev nD) : Nat :=
  let c0_i32_7481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7480 : BitVec 32 := 1#32
  let v8679 : BitVec 32 := Scalar.muli v126 c1_i32_7480
  let v8680 : BitVec 32 := Scalar.addi c0_i32_7481 v8679
  v8680.toNat
def k0_dev228 (d0 : Dev nD) : Nat :=
  let c0_i32_7489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7488 : BitVec 32 := 1#32
  let v8689 : BitVec 32 := Scalar.muli v126 c1_i32_7488
  let v8690 : BitVec 32 := Scalar.addi c0_i32_7489 v8689
  v8690.toNat
def k0_dev229 (d0 : Dev nD) : Nat :=
  let c0_i32_7497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7496 : BitVec 32 := 1#32
  let v8699 : BitVec 32 := Scalar.muli v188 c1_i32_7496
  let v8700 : BitVec 32 := Scalar.addi c0_i32_7497 v8699
  v8700.toNat
def k0_dev230 (d0 : Dev nD) : Nat :=
  let c0_i32_7505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7504 : BitVec 32 := 1#32
  let v8709 : BitVec 32 := Scalar.muli v188 c1_i32_7504
  let v8710 : BitVec 32 := Scalar.addi c0_i32_7505 v8709
  v8710.toNat
def k0_dev231 (d0 : Dev nD) : Nat :=
  let c0_i32_7572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7571 : BitVec 32 := 1#32
  let v8782 : BitVec 32 := Scalar.muli v126 c1_i32_7571
  let v8783 : BitVec 32 := Scalar.addi c0_i32_7572 v8782
  v8783.toNat
def k0_dev232 (d0 : Dev nD) : Nat :=
  let c0_i32_7580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7579 : BitVec 32 := 1#32
  let v8792 : BitVec 32 := Scalar.muli v126 c1_i32_7579
  let v8793 : BitVec 32 := Scalar.addi c0_i32_7580 v8792
  v8793.toNat
def k0_dev233 (d0 : Dev nD) : Nat :=
  let c0_i32_7588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7587 : BitVec 32 := 1#32
  let v8802 : BitVec 32 := Scalar.muli v188 c1_i32_7587
  let v8803 : BitVec 32 := Scalar.addi c0_i32_7588 v8802
  v8803.toNat
def k0_dev234 (d0 : Dev nD) : Nat :=
  let c0_i32_7596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7595 : BitVec 32 := 1#32
  let v8812 : BitVec 32 := Scalar.muli v188 c1_i32_7595
  let v8813 : BitVec 32 := Scalar.addi c0_i32_7596 v8812
  v8813.toNat
def k0_dev235 (d0 : Dev nD) : Nat :=
  let c0_i32_7663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7662 : BitVec 32 := 1#32
  let v8885 : BitVec 32 := Scalar.muli v126 c1_i32_7662
  let v8886 : BitVec 32 := Scalar.addi c0_i32_7663 v8885
  v8886.toNat
def k0_dev236 (d0 : Dev nD) : Nat :=
  let c0_i32_7671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7670 : BitVec 32 := 1#32
  let v8895 : BitVec 32 := Scalar.muli v126 c1_i32_7670
  let v8896 : BitVec 32 := Scalar.addi c0_i32_7671 v8895
  v8896.toNat
def k0_dev237 (d0 : Dev nD) : Nat :=
  let c0_i32_7679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7678 : BitVec 32 := 1#32
  let v8905 : BitVec 32 := Scalar.muli v188 c1_i32_7678
  let v8906 : BitVec 32 := Scalar.addi c0_i32_7679 v8905
  v8906.toNat
def k0_dev238 (d0 : Dev nD) : Nat :=
  let c0_i32_7687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7686 : BitVec 32 := 1#32
  let v8915 : BitVec 32 := Scalar.muli v188 c1_i32_7686
  let v8916 : BitVec 32 := Scalar.addi c0_i32_7687 v8915
  v8916.toNat
def k0_dev239 (d0 : Dev nD) : Nat :=
  let c0_i32_7754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7753 : BitVec 32 := 1#32
  let v8988 : BitVec 32 := Scalar.muli v126 c1_i32_7753
  let v8989 : BitVec 32 := Scalar.addi c0_i32_7754 v8988
  v8989.toNat
def k0_dev240 (d0 : Dev nD) : Nat :=
  let c0_i32_7762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7761 : BitVec 32 := 1#32
  let v8998 : BitVec 32 := Scalar.muli v126 c1_i32_7761
  let v8999 : BitVec 32 := Scalar.addi c0_i32_7762 v8998
  v8999.toNat
def k0_dev241 (d0 : Dev nD) : Nat :=
  let c0_i32_7770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7769 : BitVec 32 := 1#32
  let v9008 : BitVec 32 := Scalar.muli v188 c1_i32_7769
  let v9009 : BitVec 32 := Scalar.addi c0_i32_7770 v9008
  v9009.toNat
def k0_dev242 (d0 : Dev nD) : Nat :=
  let c0_i32_7778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7777 : BitVec 32 := 1#32
  let v9018 : BitVec 32 := Scalar.muli v188 c1_i32_7777
  let v9019 : BitVec 32 := Scalar.addi c0_i32_7778 v9018
  v9019.toNat
def k0_dev243 (d0 : Dev nD) : Nat :=
  let c0_i32_7845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7844 : BitVec 32 := 1#32
  let v9091 : BitVec 32 := Scalar.muli v126 c1_i32_7844
  let v9092 : BitVec 32 := Scalar.addi c0_i32_7845 v9091
  v9092.toNat
def k0_dev244 (d0 : Dev nD) : Nat :=
  let c0_i32_7853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7852 : BitVec 32 := 1#32
  let v9101 : BitVec 32 := Scalar.muli v126 c1_i32_7852
  let v9102 : BitVec 32 := Scalar.addi c0_i32_7853 v9101
  v9102.toNat
def k0_dev245 (d0 : Dev nD) : Nat :=
  let c0_i32_7861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7860 : BitVec 32 := 1#32
  let v9111 : BitVec 32 := Scalar.muli v188 c1_i32_7860
  let v9112 : BitVec 32 := Scalar.addi c0_i32_7861 v9111
  v9112.toNat
def k0_dev246 (d0 : Dev nD) : Nat :=
  let c0_i32_7869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7868 : BitVec 32 := 1#32
  let v9121 : BitVec 32 := Scalar.muli v188 c1_i32_7868
  let v9122 : BitVec 32 := Scalar.addi c0_i32_7869 v9121
  v9122.toNat
def k0_dev247 (d0 : Dev nD) : Nat :=
  let c0_i32_7936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7935 : BitVec 32 := 1#32
  let v9194 : BitVec 32 := Scalar.muli v126 c1_i32_7935
  let v9195 : BitVec 32 := Scalar.addi c0_i32_7936 v9194
  v9195.toNat
def k0_dev248 (d0 : Dev nD) : Nat :=
  let c0_i32_7944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_93 : BitVec 32 := 31#32
  let v125 : BitVec 1 := Scalar.cmpi .eq v2 c31_i32_93
  let c28_i32_94 : BitVec 32 := 28#32
  let c30_i32_91 : BitVec 32 := 30#32
  let v123 : BitVec 1 := Scalar.cmpi .eq v2 c30_i32_91
  let c22_i32_92 : BitVec 32 := 22#32
  let c29_i32_89 : BitVec 32 := 29#32
  let v121 : BitVec 1 := Scalar.cmpi .eq v2 c29_i32_89
  let c30_i32_90 : BitVec 32 := 30#32
  let c28_i32_87 : BitVec 32 := 28#32
  let v119 : BitVec 1 := Scalar.cmpi .eq v2 c28_i32_87
  let c27_i32_88 : BitVec 32 := 27#32
  let c27_i32_85 : BitVec 32 := 27#32
  let v117 : BitVec 1 := Scalar.cmpi .eq v2 c27_i32_85
  let c24_i32_86 : BitVec 32 := 24#32
  let c26_i32_83 : BitVec 32 := 26#32
  let v115 : BitVec 1 := Scalar.cmpi .eq v2 c26_i32_83
  let c29_i32_84 : BitVec 32 := 29#32
  let c25_i32_81 : BitVec 32 := 25#32
  let v113 : BitVec 1 := Scalar.cmpi .eq v2 c25_i32_81
  let c26_i32_82 : BitVec 32 := 26#32
  let c24_i32_79 : BitVec 32 := 24#32
  let v111 : BitVec 1 := Scalar.cmpi .eq v2 c24_i32_79
  let c25_i32_80 : BitVec 32 := 25#32
  let c23_i32_77 : BitVec 32 := 23#32
  let v109 : BitVec 1 := Scalar.cmpi .eq v2 c23_i32_77
  let c31_i32_78 : BitVec 32 := 31#32
  let c22_i32_75 : BitVec 32 := 22#32
  let v107 : BitVec 1 := Scalar.cmpi .eq v2 c22_i32_75
  let c21_i32_76 : BitVec 32 := 21#32
  let c21_i32_73 : BitVec 32 := 21#32
  let v105 : BitVec 1 := Scalar.cmpi .eq v2 c21_i32_73
  let c18_i32_74 : BitVec 32 := 18#32
  let c20_i32_71 : BitVec 32 := 20#32
  let v103 : BitVec 1 := Scalar.cmpi .eq v2 c20_i32_71
  let c23_i32_72 : BitVec 32 := 23#32
  let c19_i32_69 : BitVec 32 := 19#32
  let v101 : BitVec 1 := Scalar.cmpi .eq v2 c19_i32_69
  let c20_i32_70 : BitVec 32 := 20#32
  let c18_i32_67 : BitVec 32 := 18#32
  let v99 : BitVec 1 := Scalar.cmpi .eq v2 c18_i32_67
  let c17_i32_68 : BitVec 32 := 17#32
  let c17_i32_65 : BitVec 32 := 17#32
  let v97 : BitVec 1 := Scalar.cmpi .eq v2 c17_i32_65
  let c9_i32_66 : BitVec 32 := 9#32
  let c16_i32_63 : BitVec 32 := 16#32
  let v95 : BitVec 1 := Scalar.cmpi .eq v2 c16_i32_63
  let c19_i32_64 : BitVec 32 := 19#32
  let c15_i32_61 : BitVec 32 := 15#32
  let v93 : BitVec 1 := Scalar.cmpi .eq v2 c15_i32_61
  let c12_i32_62 : BitVec 32 := 12#32
  let c14_i32_59 : BitVec 32 := 14#32
  let v91 : BitVec 1 := Scalar.cmpi .eq v2 c14_i32_59
  let c6_i32_60 : BitVec 32 := 6#32
  let c13_i32_57 : BitVec 32 := 13#32
  let v89 : BitVec 1 := Scalar.cmpi .eq v2 c13_i32_57
  let c14_i32_58 : BitVec 32 := 14#32
  let c12_i32_55 : BitVec 32 := 12#32
  let v87 : BitVec 1 := Scalar.cmpi .eq v2 c12_i32_55
  let c11_i32_56 : BitVec 32 := 11#32
  let c11_i32_53 : BitVec 32 := 11#32
  let v85 : BitVec 1 := Scalar.cmpi .eq v2 c11_i32_53
  let c8_i32_54 : BitVec 32 := 8#32
  let c10_i32_51 : BitVec 32 := 10#32
  let v83 : BitVec 1 := Scalar.cmpi .eq v2 c10_i32_51
  let c13_i32_52 : BitVec 32 := 13#32
  let c9_i32_49 : BitVec 32 := 9#32
  let v81 : BitVec 1 := Scalar.cmpi .eq v2 c9_i32_49
  let c10_i32_50 : BitVec 32 := 10#32
  let c8_i32_47 : BitVec 32 := 8#32
  let v79 : BitVec 1 := Scalar.cmpi .eq v2 c8_i32_47
  let c16_i32_48 : BitVec 32 := 16#32
  let c7_i32_45 : BitVec 32 := 7#32
  let v77 : BitVec 1 := Scalar.cmpi .eq v2 c7_i32_45
  let c15_i32_46 : BitVec 32 := 15#32
  let c6_i32_43 : BitVec 32 := 6#32
  let v75 : BitVec 1 := Scalar.cmpi .eq v2 c6_i32_43
  let c5_i32_44 : BitVec 32 := 5#32
  let c5_i32_41 : BitVec 32 := 5#32
  let v73 : BitVec 1 := Scalar.cmpi .eq v2 c5_i32_41
  let c2_i32_42 : BitVec 32 := 2#32
  let c4_i32_39 : BitVec 32 := 4#32
  let v71 : BitVec 1 := Scalar.cmpi .eq v2 c4_i32_39
  let c7_i32_40 : BitVec 32 := 7#32
  let c3_i32_37 : BitVec 32 := 3#32
  let v69 : BitVec 1 := Scalar.cmpi .eq v2 c3_i32_37
  let c4_i32_38 : BitVec 32 := 4#32
  let c2_i32_35 : BitVec 32 := 2#32
  let v67 : BitVec 1 := Scalar.cmpi .eq v2 c2_i32_35
  let c1_i32_36 : BitVec 32 := 1#32
  let c1_i32_32 : BitVec 32 := 1#32
  let v65 : BitVec 1 := Scalar.cmpi .eq v2 c1_i32_32
  let c0_i32_33 : BitVec 32 := 0#32
  let c3_i32_34 : BitVec 32 := 3#32
  let v66 : BitVec 32 := Scalar.select v65 c0_i32_33 c3_i32_34
  let v68 : BitVec 32 := Scalar.select v67 c1_i32_36 v66
  let v70 : BitVec 32 := Scalar.select v69 c4_i32_38 v68
  let v72 : BitVec 32 := Scalar.select v71 c7_i32_40 v70
  let v74 : BitVec 32 := Scalar.select v73 c2_i32_42 v72
  let v76 : BitVec 32 := Scalar.select v75 c5_i32_44 v74
  let v78 : BitVec 32 := Scalar.select v77 c15_i32_46 v76
  let v80 : BitVec 32 := Scalar.select v79 c16_i32_48 v78
  let v82 : BitVec 32 := Scalar.select v81 c10_i32_50 v80
  let v84 : BitVec 32 := Scalar.select v83 c13_i32_52 v82
  let v86 : BitVec 32 := Scalar.select v85 c8_i32_54 v84
  let v88 : BitVec 32 := Scalar.select v87 c11_i32_56 v86
  let v90 : BitVec 32 := Scalar.select v89 c14_i32_58 v88
  let v92 : BitVec 32 := Scalar.select v91 c6_i32_60 v90
  let v94 : BitVec 32 := Scalar.select v93 c12_i32_62 v92
  let v96 : BitVec 32 := Scalar.select v95 c19_i32_64 v94
  let v98 : BitVec 32 := Scalar.select v97 c9_i32_66 v96
  let v100 : BitVec 32 := Scalar.select v99 c17_i32_68 v98
  let v102 : BitVec 32 := Scalar.select v101 c20_i32_70 v100
  let v104 : BitVec 32 := Scalar.select v103 c23_i32_72 v102
  let v106 : BitVec 32 := Scalar.select v105 c18_i32_74 v104
  let v108 : BitVec 32 := Scalar.select v107 c21_i32_76 v106
  let v110 : BitVec 32 := Scalar.select v109 c31_i32_78 v108
  let v112 : BitVec 32 := Scalar.select v111 c25_i32_80 v110
  let v114 : BitVec 32 := Scalar.select v113 c26_i32_82 v112
  let v116 : BitVec 32 := Scalar.select v115 c29_i32_84 v114
  let v118 : BitVec 32 := Scalar.select v117 c24_i32_86 v116
  let v120 : BitVec 32 := Scalar.select v119 c27_i32_88 v118
  let v122 : BitVec 32 := Scalar.select v121 c30_i32_90 v120
  let v124 : BitVec 32 := Scalar.select v123 c22_i32_92 v122
  let v126 : BitVec 32 := Scalar.select v125 c28_i32_94 v124
  let c1_i32_7943 : BitVec 32 := 1#32
  let v9204 : BitVec 32 := Scalar.muli v126 c1_i32_7943
  let v9205 : BitVec 32 := Scalar.addi c0_i32_7944 v9204
  v9205.toNat

variable {F : FTy → Type} [FloatOps F]

def k0_dev249 (d0 : Dev nD) : Nat :=
  let c0_i32_7952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7951 : BitVec 32 := 1#32
  let v9214 : BitVec 32 := Scalar.muli v188 c1_i32_7951
  let v9215 : BitVec 32 := Scalar.addi c0_i32_7952 v9214
  v9215.toNat
def k0_dev250 (d0 : Dev nD) : Nat :=
  let c0_i32_7960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_156 : BitVec 32 := 31#32
  let v187 : BitVec 1 := Scalar.cmpi .eq v2 c31_i32_156
  let c23_i32_157 : BitVec 32 := 23#32
  let c30_i32_154 : BitVec 32 := 30#32
  let v185 : BitVec 1 := Scalar.cmpi .eq v2 c30_i32_154
  let c29_i32_155 : BitVec 32 := 29#32
  let c29_i32_152 : BitVec 32 := 29#32
  let v183 : BitVec 1 := Scalar.cmpi .eq v2 c29_i32_152
  let c26_i32_153 : BitVec 32 := 26#32
  let c28_i32_150 : BitVec 32 := 28#32
  let v181 : BitVec 1 := Scalar.cmpi .eq v2 c28_i32_150
  let c31_i32_151 : BitVec 32 := 31#32
  let c27_i32_148 : BitVec 32 := 27#32
  let v179 : BitVec 1 := Scalar.cmpi .eq v2 c27_i32_148
  let c28_i32_149 : BitVec 32 := 28#32
  let c26_i32_146 : BitVec 32 := 26#32
  let v177 : BitVec 1 := Scalar.cmpi .eq v2 c26_i32_146
  let c25_i32_147 : BitVec 32 := 25#32
  let c25_i32_144 : BitVec 32 := 25#32
  let v175 : BitVec 1 := Scalar.cmpi .eq v2 c25_i32_144
  let c24_i32_145 : BitVec 32 := 24#32
  let c24_i32_142 : BitVec 32 := 24#32
  let v173 : BitVec 1 := Scalar.cmpi .eq v2 c24_i32_142
  let c27_i32_143 : BitVec 32 := 27#32
  let c23_i32_140 : BitVec 32 := 23#32
  let v171 : BitVec 1 := Scalar.cmpi .eq v2 c23_i32_140
  let c20_i32_141 : BitVec 32 := 20#32
  let c22_i32_138 : BitVec 32 := 22#32
  let v169 : BitVec 1 := Scalar.cmpi .eq v2 c22_i32_138
  let c30_i32_139 : BitVec 32 := 30#32
  let c21_i32_136 : BitVec 32 := 21#32
  let v167 : BitVec 1 := Scalar.cmpi .eq v2 c21_i32_136
  let c22_i32_137 : BitVec 32 := 22#32
  let c20_i32_134 : BitVec 32 := 20#32
  let v165 : BitVec 1 := Scalar.cmpi .eq v2 c20_i32_134
  let c19_i32_135 : BitVec 32 := 19#32
  let c19_i32_132 : BitVec 32 := 19#32
  let v163 : BitVec 1 := Scalar.cmpi .eq v2 c19_i32_132
  let c16_i32_133 : BitVec 32 := 16#32
  let c18_i32_130 : BitVec 32 := 18#32
  let v161 : BitVec 1 := Scalar.cmpi .eq v2 c18_i32_130
  let c21_i32_131 : BitVec 32 := 21#32
  let c17_i32_128 : BitVec 32 := 17#32
  let v159 : BitVec 1 := Scalar.cmpi .eq v2 c17_i32_128
  let c18_i32_129 : BitVec 32 := 18#32
  let c16_i32_126 : BitVec 32 := 16#32
  let v157 : BitVec 1 := Scalar.cmpi .eq v2 c16_i32_126
  let c8_i32_127 : BitVec 32 := 8#32
  let c15_i32_124 : BitVec 32 := 15#32
  let v155 : BitVec 1 := Scalar.cmpi .eq v2 c15_i32_124
  let c7_i32_125 : BitVec 32 := 7#32
  let c14_i32_122 : BitVec 32 := 14#32
  let v153 : BitVec 1 := Scalar.cmpi .eq v2 c14_i32_122
  let c13_i32_123 : BitVec 32 := 13#32
  let c13_i32_120 : BitVec 32 := 13#32
  let v151 : BitVec 1 := Scalar.cmpi .eq v2 c13_i32_120
  let c10_i32_121 : BitVec 32 := 10#32
  let c12_i32_118 : BitVec 32 := 12#32
  let v149 : BitVec 1 := Scalar.cmpi .eq v2 c12_i32_118
  let c15_i32_119 : BitVec 32 := 15#32
  let c11_i32_116 : BitVec 32 := 11#32
  let v147 : BitVec 1 := Scalar.cmpi .eq v2 c11_i32_116
  let c12_i32_117 : BitVec 32 := 12#32
  let c10_i32_114 : BitVec 32 := 10#32
  let v145 : BitVec 1 := Scalar.cmpi .eq v2 c10_i32_114
  let c9_i32_115 : BitVec 32 := 9#32
  let c9_i32_112 : BitVec 32 := 9#32
  let v143 : BitVec 1 := Scalar.cmpi .eq v2 c9_i32_112
  let c17_i32_113 : BitVec 32 := 17#32
  let c8_i32_110 : BitVec 32 := 8#32
  let v141 : BitVec 1 := Scalar.cmpi .eq v2 c8_i32_110
  let c11_i32_111 : BitVec 32 := 11#32
  let c7_i32_108 : BitVec 32 := 7#32
  let v139 : BitVec 1 := Scalar.cmpi .eq v2 c7_i32_108
  let c4_i32_109 : BitVec 32 := 4#32
  let c6_i32_106 : BitVec 32 := 6#32
  let v137 : BitVec 1 := Scalar.cmpi .eq v2 c6_i32_106
  let c14_i32_107 : BitVec 32 := 14#32
  let c5_i32_104 : BitVec 32 := 5#32
  let v135 : BitVec 1 := Scalar.cmpi .eq v2 c5_i32_104
  let c6_i32_105 : BitVec 32 := 6#32
  let c4_i32_102 : BitVec 32 := 4#32
  let v133 : BitVec 1 := Scalar.cmpi .eq v2 c4_i32_102
  let c3_i32_103 : BitVec 32 := 3#32
  let c3_i32_100 : BitVec 32 := 3#32
  let v131 : BitVec 1 := Scalar.cmpi .eq v2 c3_i32_100
  let c0_i32_101 : BitVec 32 := 0#32
  let c2_i32_98 : BitVec 32 := 2#32
  let v129 : BitVec 1 := Scalar.cmpi .eq v2 c2_i32_98
  let c5_i32_99 : BitVec 32 := 5#32
  let c1_i32_95 : BitVec 32 := 1#32
  let v127 : BitVec 1 := Scalar.cmpi .eq v2 c1_i32_95
  let c2_i32_96 : BitVec 32 := 2#32
  let c1_i32_97 : BitVec 32 := 1#32
  let v128 : BitVec 32 := Scalar.select v127 c2_i32_96 c1_i32_97
  let v130 : BitVec 32 := Scalar.select v129 c5_i32_99 v128
  let v132 : BitVec 32 := Scalar.select v131 c0_i32_101 v130
  let v134 : BitVec 32 := Scalar.select v133 c3_i32_103 v132
  let v136 : BitVec 32 := Scalar.select v135 c6_i32_105 v134
  let v138 : BitVec 32 := Scalar.select v137 c14_i32_107 v136
  let v140 : BitVec 32 := Scalar.select v139 c4_i32_109 v138
  let v142 : BitVec 32 := Scalar.select v141 c11_i32_111 v140
  let v144 : BitVec 32 := Scalar.select v143 c17_i32_113 v142
  let v146 : BitVec 32 := Scalar.select v145 c9_i32_115 v144
  let v148 : BitVec 32 := Scalar.select v147 c12_i32_117 v146
  let v150 : BitVec 32 := Scalar.select v149 c15_i32_119 v148
  let v152 : BitVec 32 := Scalar.select v151 c10_i32_121 v150
  let v154 : BitVec 32 := Scalar.select v153 c13_i32_123 v152
  let v156 : BitVec 32 := Scalar.select v155 c7_i32_125 v154
  let v158 : BitVec 32 := Scalar.select v157 c8_i32_127 v156
  let v160 : BitVec 32 := Scalar.select v159 c18_i32_129 v158
  let v162 : BitVec 32 := Scalar.select v161 c21_i32_131 v160
  let v164 : BitVec 32 := Scalar.select v163 c16_i32_133 v162
  let v166 : BitVec 32 := Scalar.select v165 c19_i32_135 v164
  let v168 : BitVec 32 := Scalar.select v167 c22_i32_137 v166
  let v170 : BitVec 32 := Scalar.select v169 c30_i32_139 v168
  let v172 : BitVec 32 := Scalar.select v171 c20_i32_141 v170
  let v174 : BitVec 32 := Scalar.select v173 c27_i32_143 v172
  let v176 : BitVec 32 := Scalar.select v175 c24_i32_145 v174
  let v178 : BitVec 32 := Scalar.select v177 c25_i32_147 v176
  let v180 : BitVec 32 := Scalar.select v179 c28_i32_149 v178
  let v182 : BitVec 32 := Scalar.select v181 c31_i32_151 v180
  let v184 : BitVec 32 := Scalar.select v183 c26_i32_153 v182
  let v186 : BitVec 32 := Scalar.select v185 c29_i32_155 v184
  let v188 : BitVec 32 := Scalar.select v187 c23_i32_157 v186
  let c1_i32_7959 : BitVec 32 := 1#32
  let v9224 : BitVec 32 := Scalar.muli v188 c1_i32_7959
  let v9225 : BitVec 32 := Scalar.addi c0_i32_7960 v9224
  v9225.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32768x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ring.lean ====
/-
  The ring of thirty-two devices and the tiles that travel on it. A device has a place on the ring; a stream goes to
  the right or to the left; at stage `k` a stream of the device at place `r` works on tile `tile i k r`. All of it is
  arithmetic modulo thirty-two.
-/
module

public import Idealize.ShloMosaic.Lib.ValueIdxCore
public import Idealize.ShloMosaic.Lib.ValueIdxCoords
public import Idealize.ShloMosaic.Lib.Tactic

@[expose] public section

namespace Cert.Proof.Ring

open Idealize.ShloMosaic

/-- The place of a device on the ring. -/
def pos : Fin 32 → Fin 32 := ![0, 31, 30, 1, 2, 29, 28, 3, 7, 24, 25, 6, 5, 26, 27, 4, 8, 23, 22, 9, 10, 21, 20, 11, 15, 16, 17, 14, 13,
  18, 19, 12]

/-- The device at a place of the ring. -/
def dev : Fin 32 → Fin 32 := ![0, 3, 4, 7, 15, 12, 11, 8, 16, 19, 20, 23, 31, 28, 27, 24, 25, 26, 29, 30, 22, 21, 18, 17, 9, 10, 13, 14, 6,
  5, 2, 1]

theorem dev_pos (c : Fin 32) : dev (pos c) = c := by revert c; decide
theorem pos_dev (r : Fin 32) : pos (dev r) = r := by revert r; decide

/-- The neighbour to the right and the one to the left. -/
def right (c : Fin 32) : Fin 32 := dev (pos c + 1)
def left (c : Fin 32) : Fin 32 := dev (pos c + 31)

theorem right_left (c : Fin 32) : right (left c) = c := by revert c; decide
theorem left_right (c : Fin 32) : left (right c) = c := by revert c; decide

/-- Streams 0 and 1 go to the right, streams 2 and 3 to the left. -/
def peer (i : Fin 4) (c : Fin 32) : Fin 32 := if i.val < 2 then right c else left c

/-- The stream that goes the other way. -/
def mir (i : Fin 4) : Fin 4 := i + 2

theorem mir_mir (i : Fin 4) : mir (mir i) = i := by revert i; decide
theorem peer_mir (i : Fin 4) (c : Fin 32) : peer i (peer (mir i) c) = c := by revert i c; decide
theorem peer_mir' (i : Fin 4) (c : Fin 32) : peer (mir i) (peer i c) = c := by revert i c; decide

/-- The way around the ring, as a permutation of the devices. -/
def around (i : Fin 4) : Fin 32 ≃ Fin 32 := ⟨peer i, peer (mir i), peer_mir' i, peer_mir i⟩

/-- The streams matched with those that go the other way. -/
def mirror : Fin 4 ≃ Fin 4 := ⟨mir, mir, mir_mir, mir_mir⟩

/-- How far a stream's tile moves in a stage: one back or one on. -/
def way (i : Fin 4) : ℕ := if i.val < 2 then 31 else 1

/-- The tile that stream `i` of the device at place `r` works on at stage `k`. -/
def tile (i : Fin 4) (k : ℕ) (r : Fin 32) : Fin 32 := ⟨(r.val + way i * k) % 32, Nat.mod_lt _ (by decide)⟩

/-- The tile of device `c`. -/
abbrev tileOf (i : Fin 4) (k : ℕ) (c : Fin 32) : Fin 32 := tile i k (pos c)

theorem pos_peer (i : Fin 4) (c : Fin 32) : (pos (peer i c)).val = ((pos c).val + 32 - way i) % 32 := by
  revert i c; decide

theorem way_cases (i : Fin 4) : way i = 31 ∨ way i = 1 := by unfold way; split <;> simp

/-- The tile arrives at the neighbour as its next. -/
theorem tile_peer (i : Fin 4) (k : ℕ) (c : Fin 32) : tileOf i (k + 1) (peer i c) = tileOf i k c := by
  apply Fin.ext
  show ((pos (peer i c)).val + way i * (k + 1)) % 32 = ((pos c).val + way i * k) % 32
  rw [pos_peer]
  rcases way_cases i with h | h <;> rw [h] <;> omega

theorem tile_period (i : Fin 4) (k : ℕ) (r : Fin 32) : tile i (k + 32) r = tile i k r := by
  apply Fin.ext
  show (r.val + way i * (k + 32)) % 32 = (r.val + way i * k) % 32
  rcases way_cases i with h | h <;> rw [h] <;> omega

theorem tile_zero (i : Fin 4) (r : Fin 32) : tile i 0 r = r := by
  apply Fin.ext
  show (r.val + way i * 0) % 32 = r.val
  omega

/-- The two streams of a half of the columns work on the same tiles. -/
theorem tile_half (i i' : Fin 4) (h : i.val / 2 = i'.val / 2) (k : ℕ) (r : Fin 32) : tile i k r = tile i' k r := by
  have : way i = way i' := by
    revert i i'; decide
  apply Fin.ext
  show (r.val + way i * k) % 32 = (r.val + way i' * k) % 32
  rw [this]

/-- Every tile is worked on within thirty-two stages. -/
theorem tile_inj (i : Fin 4) (a : ℕ) (r : Fin 32) {k k' : ℕ} (hk : a ≤ k ∧ k < a + 32) (hk' : a ≤ k' ∧ k' < a + 32)
    (h : tile i k r = tile i k' r) : k = k' := by
  have h' : (r.val + way i * k) % 32 = (r.val + way i * k') % 32 := congrArg Fin.val h
  rcases way_cases i with h₁ | h₁ <;> rw [h₁] at h' <;> omega

theorem tile_cover (i : Fin 4) (a : ℕ) (r : Fin 32) : (Finset.Ico a (a + 32)).image (fun k => tile i k r) = Finset.univ := by
  apply Finset.eq_univ_of_card
  rw [Finset.card_image_of_injOn, Nat.card_Ico]
  · simp
  · intro k hk k' hk' h
    exact tile_inj i a r (by simpa using hk) (by simpa using hk') h

/-- The device where stream `i`'s tile `t` is finished. -/
def owner (i : Fin 4) (t : Fin 32) : Fin 32 := dev (tile i 1 t)

theorem owner_tile (i : Fin 4) (c : Fin 32) : owner i (tileOf i 31 c) = c := by
  unfold owner
  have : tile i 1 (tileOf i 31 c) = pos c := by
    apply Fin.ext
    show (((pos c).val + way i * 31) % 32 + way i * 1) % 32 = (pos c).val
    rcases way_cases i with h | h <;> rw [h] <;> omega
  rw [this, dev_pos]

/-! ## The parts of the arrays -/

abbrev So : Shape := ⟨2, ![2048, 2048]⟩
abbrev Sa : Shape := ⟨2, ![2048, 1024]⟩
abbrev Sb : Shape := ⟨2, ![1024, 2048]⟩
abbrev Sl : Shape := ⟨3, ![31, 64, 512]⟩
abbrev St : Shape := ⟨2, ![64, 512]⟩
abbrev Sh : Shape := ⟨2, ![64, 1024]⟩
abbrev Sr : Shape := ⟨2, ![64, 2048]⟩
abbrev Ss : Shape := ⟨3, ![1, 64, 512]⟩
abbrev Sq : Shape := ⟨2, ![1024, 1024]⟩

/-- Which row block and which stream an element of the result belongs to. -/
def rowOf (x : So.Idx) : Fin 32 := ⟨(x 0).val / 64, by have h : (x 0).val < 2048 := (x 0).isLt; omega⟩
def strmOf (x : So.Idx) : Fin 4 := ⟨(x 1).val / 512, by have h : (x 1).val < 2048 := (x 1).isLt; omega⟩

/-- The tile of row block `t` and stream `i`; the half `j` of row block `t`; the whole row block. -/
def tileSet (i : Fin 4) (t : Fin 32) : Finset So.Idx := Finset.univ.filter fun x => rowOf x = t ∧ strmOf x = i
def halfSet (j : Fin 2) (t : Fin 32) : Finset So.Idx :=
  Finset.univ.filter fun x => rowOf x = t ∧ (strmOf x).val / 2 = j.val
def rowSet (t : Fin 32) : Finset So.Idx := Finset.univ.filter fun x => rowOf x = t

/-- Slot `k` of a landing buffer. -/
def slotSet (k : ℕ) : Finset Sl.Idx := Finset.univ.filter fun z => (z 0).val = k

theorem mem_tileSet {i : Fin 4} {t : Fin 32} {x : So.Idx} : x ∈ tileSet i t ↔ rowOf x = t ∧ strmOf x = i := by
  simp [tileSet]
theorem mem_halfSet {j : Fin 2} {t : Fin 32} {x : So.Idx} : x ∈ halfSet j t ↔ rowOf x = t ∧ (strmOf x).val / 2 = j.val := by
  simp [halfSet]
theorem mem_rowSet {t : Fin 32} {x : So.Idx} : x ∈ rowSet t ↔ rowOf x = t := by simp [rowSet]
theorem mem_slotSet {k : ℕ} {z : Sl.Idx} : z ∈ slotSet k ↔ (z 0).val = k := by simp [slotSet]

theorem tileSet_disjoint (i : Fin 4) {t t' : Fin 32} (h : t ≠ t') : Disjoint (tileSet i t) (tileSet i t') :=
  Finset.disjoint_left.mpr fun x hx hx' => h ((mem_tileSet.mp hx).1.symm.trans (mem_tileSet.mp hx').1)

theorem halfSet_disjoint (j : Fin 2) {t t' : Fin 32} (h : t ≠ t') : Disjoint (halfSet j t) (halfSet j t') :=
  Finset.disjoint_left.mpr fun x hx hx' => h ((mem_halfSet.mp hx).1.symm.trans (mem_halfSet.mp hx').1)

theorem slotSet_disjoint {k k' : ℕ} (h : k ≠ k') : Disjoint (slotSet k) (slotSet k') :=
  Finset.disjoint_left.mpr fun x hx hx' => h ((mem_slotSet.mp hx).symm.trans (mem_slotSet.mp hx'))

/-- A half of a row block is two tiles. -/
theorem halfSet_zero (t : Fin 32) : halfSet 0 t = tileSet 0 t ∪ tileSet 1 t := by
  ext x
  have h := (strmOf x).isLt
  simp only [mem_halfSet, mem_tileSet, Finset.mem_union, Fin.ext_iff]
  show _ ∧ _ = 0 ↔ (_ ∧ _ = 0) ∨ (_ ∧ _ = 1)
  omega

theorem halfSet_one (t : Fin 32) : halfSet 1 t = tileSet 2 t ∪ tileSet 3 t := by
  ext x
  have h := (strmOf x).isLt
  simp only [mem_halfSet, mem_tileSet, Finset.mem_union, Fin.ext_iff]
  show _ ∧ _ = 1 ↔ (_ ∧ _ = 2) ∨ (_ ∧ _ = 3)
  omega

theorem tiles_disjoint {i i' : Fin 4} (h : i ≠ i') (t t' : Fin 32) : Disjoint (tileSet i t) (tileSet i' t') :=
  Finset.disjoint_left.mpr fun x hx hx' => h ((mem_tileSet.mp hx).2.symm.trans (mem_tileSet.mp hx').2)

theorem halves_disjoint (t t' : Fin 32) : Disjoint (halfSet 0 t) (halfSet 1 t') :=
  Finset.disjoint_left.mpr fun x hx hx' => by
    have h := (mem_halfSet.mp hx).2
    have h' := (mem_halfSet.mp hx').2
    have : (0 : ℕ) = 1 := h.symm.trans h'
    omega

/-- The result is its two halves, a half its thirty-two row blocks, taken in the order a stream meets them. -/
theorem univ_halves (i i' : Fin 4) (a : ℕ) (r : Fin 32) :
    (Finset.univ : Finset So.Idx) = ((Finset.Ico a (a + 32)).biUnion fun k => halfSet 0 (tile i k r)) ∪
      ((Finset.Ico a (a + 32)).biUnion fun k => halfSet 1 (tile i' k r)) := by
  ext x
  simp only [Finset.mem_univ, true_iff, Finset.mem_union, Finset.mem_biUnion, mem_halfSet]
  have hx := (strmOf x).isLt
  by_cases h : (strmOf x).val / 2 = 0
  · have := tile_cover i a r ▸ Finset.mem_univ (rowOf x)
    obtain ⟨k, hk, e⟩ := Finset.mem_image.mp this
    exact Or.inl ⟨k, hk, e.symm, h⟩
  · have := tile_cover i' a r ▸ Finset.mem_univ (rowOf x)
    obtain ⟨k, hk, e⟩ := Finset.mem_image.mp this
    refine Or.inr ⟨k, hk, e.symm, ?_⟩
    show (strmOf x).val / 2 = 1
    omega

/-- The result is the tiles of the four streams. -/
theorem univ_tiles (a : ℕ) (r : Fin 32) :
    (Finset.univ : Finset So.Idx) =
      Finset.univ.biUnion fun i : Fin 4 => (Finset.Ico a (a + 32)).biUnion fun k => tileSet i (tile i k r) := by
  ext x
  simp only [Finset.mem_univ, true_iff, Finset.mem_biUnion, mem_tileSet, true_and]
  have := tile_cover (strmOf x) a r ▸ Finset.mem_univ (rowOf x)
  obtain ⟨k, hk, e⟩ := Finset.mem_image.mp this
  exact ⟨strmOf x, k, hk, e.symm, rfl⟩

/-- A landing buffer is its slots. -/
theorem univ_slots : (Finset.univ : Finset Sl.Idx) = (Finset.range 31).biUnion slotSet := by
  ext z
  have h : (z 0).val < 31 := (z 0).isLt
  simp only [Finset.mem_univ, true_iff, Finset.mem_biUnion, mem_slotSet]
  exact ⟨(z 0).val, Finset.mem_range.mpr h, rfl⟩

/-! ## The rectangles the kernel names -/

section Rects

theorem tile_inb (i : Fin 4) (t : Fin 32) (a : Fin So.rank) : (![64 * t.val, 512 * i.val] : Fin 2 → ℕ) a + St.size a ≤ So.size a := by
  have hi := i.isLt
  have ht := t.isLt
  fin_cases a
  · show 64 * t.val + 64 ≤ 2048; omega
  · show 512 * i.val + 512 ≤ 2048; omega

theorem half_inb (j : Fin 2) (t : Fin 32) (a : Fin So.rank) :
    (![64 * t.val, 1024 * j.val] : Fin 2 → ℕ) a + Sh.size a ≤ So.size a := by
  have hi := j.isLt
  have ht := t.isLt
  fin_cases a
  · show 64 * t.val + 64 ≤ 2048; omega
  · show 1024 * j.val + 1024 ≤ 2048; omega

theorem row_inb (t : Fin 32) (a : Fin So.rank) : (![64 * t.val, 0] : Fin 2 → ℕ) a + Sr.size a ≤ So.size a := by
  have ht := t.isLt
  fin_cases a
  · show 64 * t.val + 64 ≤ 2048; omega
  · show 0 + 2048 ≤ 2048; omega

theorem arow_inb (t : Fin 32) (a : Fin Sa.rank) : (![64 * t.val, 0] : Fin 2 → ℕ) a + Sh.size a ≤ Sa.size a := by
  have ht := t.isLt
  fin_cases a
  · show 64 * t.val + 64 ≤ 2048; omega
  · show 0 + 1024 ≤ 1024; omega

abbrev tileRect (i : Fin 4) (t : Fin 32) : Rect So := Rect.unit (s := So) ![64 * t.val, 512 * i.val] St.size (tile_inb i t)
abbrev halfRect (j : Fin 2) (t : Fin 32) : Rect So := Rect.unit (s := So) ![64 * t.val, 1024 * j.val] Sh.size (half_inb j t)
abbrev rowRect (t : Fin 32) : Rect So := Rect.unit (s := So) ![64 * t.val, 0] Sr.size (row_inb t)
abbrev arowRect (t : Fin 32) : Rect Sa := Rect.unit (s := Sa) ![64 * t.val, 0] Sh.size (arow_inb t)

theorem set_tileRect (i : Fin 4) (t : Fin 32) : (tileRect i t).set = tileSet i t := by
  ext x
  rw [Rect.mem_set_unit, mem_tileSet, Fin.forall_fin_two, Fin.ext_iff, Fin.ext_iff]
  show (64 * t.val ≤ (x 0).val ∧ (x 0).val < 64 * t.val + 64) ∧ (512 * i.val ≤ (x 1).val ∧ (x 1).val < 512 * i.val + 512) ↔
    (x 0).val / 64 = t.val ∧ (x 1).val / 512 = i.val
  omega

theorem set_halfRect (j : Fin 2) (t : Fin 32) : (halfRect j t).set = halfSet j t := by
  ext x
  rw [Rect.mem_set_unit, mem_halfSet, Fin.forall_fin_two, Fin.ext_iff]
  show (64 * t.val ≤ (x 0).val ∧ (x 0).val < 64 * t.val + 64) ∧ (1024 * j.val ≤ (x 1).val ∧ (x 1).val < 1024 * j.val + 1024) ↔
    (x 0).val / 64 = t.val ∧ (x 1).val / 512 / 2 = j.val
  omega

theorem set_rowRect (t : Fin 32) : (rowRect t).set = rowSet t := by
  ext x
  have hx : (x 1).val < 2048 := (x 1).isLt
  rw [Rect.mem_set_unit, mem_rowSet, Fin.forall_fin_two, Fin.ext_iff]
  show (64 * t.val ≤ (x 0).val ∧ (x 0).val < 64 * t.val + 64) ∧ (0 ≤ (x 1).val ∧ (x 1).val < 0 + 2048) ↔
    (x 0).val / 64 = t.val
  omega

theorem rowSet_halves (t : Fin 32) : rowSet t = halfSet 0 t ∪ halfSet 1 t := by
  ext x
  have h := (strmOf x).isLt
  simp only [mem_rowSet, mem_halfSet, Finset.mem_union]
  show _ ↔ (_ ∧ _ = 0) ∨ (_ ∧ _ = 1)
  omega

/-- Where an index of a rectangle lies in the array. -/
theorem emb_tile (i : Fin 4) (t : Fin 32) (y : (tileRect i t).shape.Idx) :
    ((tileRect i t).emb y 0).val = 64 * t.val + (y 0).val ∧ ((tileRect i t).emb y 1).val = 512 * i.val + (y 1).val :=
  ⟨by show 64 * t.val + 1 * (y 0).val = _; omega, by show 512 * i.val + 1 * (y 1).val = _; omega⟩

theorem emb_half (j : Fin 2) (t : Fin 32) (y : (halfRect j t).shape.Idx) :
    ((halfRect j t).emb y 0).val = 64 * t.val + (y 0).val ∧ ((halfRect j t).emb y 1).val = 1024 * j.val + (y 1).val :=
  ⟨by show 64 * t.val + 1 * (y 0).val = _; omega, by show 1024 * j.val + 1 * (y 1).val = _; omega⟩

theorem emb_row (t : Fin 32) (y : (rowRect t).shape.Idx) :
    ((rowRect t).emb y 0).val = 64 * t.val + (y 0).val ∧ ((rowRect t).emb y 1).val = (y 1).val :=
  ⟨by show 64 * t.val + 1 * (y 0).val = _; omega, by show 0 + 1 * (y 1).val = _; omega⟩

end Rects

end Cert.Proof.Ring
-- ==== Proof.Region.lean ====
/-
  A part of a whole buffer held at given values. Device memory is owned by element sets at raw buffer contents; here
  the set is a set of indices of the array the buffer holds, and the contents a function of those indices.
-/
module

public import Idealize.ShloMosaic.Lib.Pipeline.Launch
public import Idealize.ShloMosaic.Lib.Pipeline.Kit
public import Idealize.ShloMosaic.Lib.WholeRead
public import Idealize.ShloMosaic.Lib.Tactic

@[expose] public section

noncomputable section

namespace Cert.Proof.Region

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable (c : Thread nD τ) {sp : Space} {s : Shape} {e : EltTy} {m : Memref sig c.2.kind sp s e} (h : m.IsWhole)

/-- The elements of the buffer behind `m` whose indices lie in `R`. -/
abbrev elems (R : Finset s.Idx) : Finset (Idx (m.view.loc c)) := m.view.setOn R

/-- The elements of the buffer behind `m` whose indices lie in `R`, held with the values of `X` there. -/
def reg (R : Finset s.Idx) (X : s.Idx → Val e) : sProp 𝕄 := m.view.loc c ↦[m.view.setOn R]{fullShare} h.unread X

instance reg_storable (R : Finset s.Idx) (X : s.Idx → Val e) :
    BI.Storable (upEmb : UEmb _ 𝕄) (reg (Ix := Ix) (Name := Name) (U := U) (Lvl := Lvl) c h R X) := by
  unfold reg; infer_instance

theorem unread_emb {X Y : s.Idx → Val e} {x : s.Idx} (hx : X x = Y x) :
    h.unread X (m.view.emb x) = h.unread Y (m.view.emb x) := by
  have h1 := congrFun (h.read_unread X) x
  have h2 := congrFun (h.read_unread Y) x
  rw [View.read_apply] at h1 h2
  exact eq_of_heq ((cast_heq _ _).symm.trans ((heq_of_eq (h1.trans (hx.trans h2.symm))).trans (cast_heq _ _)))

/-- Only the values on `R` matter. -/
theorem reg_congr {R : Finset s.Idx} {X Y : s.Idx → Val e} (hXY : ∀ x ∈ R, X x = Y x) :
    (reg c h R X : sProp 𝕄) = reg c h R Y := by
  unfold reg
  refine pointsTo_congr fun i hi => ?_
  obtain ⟨x, hx, rfl⟩ := Finset.mem_map.mp hi
  exact unread_emb c h (hXY x hx)

/-- Two separate parts at the same values are held together. -/
theorem reg_union {R R' : Finset s.Idx} (hd : Disjoint R R') (X : s.Idx → Val e) :
    (reg c h (R ∪ R') X : sProp 𝕄) = iprop(reg c h R X ∗ reg c h R' X) := by
  unfold reg
  rw [show m.view.setOn (R ∪ R') = m.view.setOn R ∪ m.view.setOn R' from Finset.map_union _ _]
  have hd' : Disjoint (α := Finset (Idx (m.view.loc c))) (m.view.setOn R) (m.view.setOn R') :=
    (Finset.disjoint_map _).mpr hd
  exact BI.equiv_iff.mp ⟨(pointsTo_union hd').1, (pointsTo_union hd').2⟩

omit [DecidableEq Ix] [DecidableEq Name] [URA U] in
theorem setOn_biUnion {T : Type} (S : Finset T) (K : T → Finset s.Idx) :
    (m.view.setOn (S.biUnion K) : Finset m.view.ty.Idx) = S.biUnion fun t => m.view.setOn (K t) := by
  ext i
  simp only [View.setOn, Finset.mem_map, Finset.mem_biUnion]
  constructor
  · rintro ⟨x, ⟨t, ht, hx⟩, rfl⟩; exact ⟨t, ht, x, hx, rfl⟩
  · rintro ⟨t, ht, x, hx, rfl⟩; exact ⟨x, ⟨t, ht, hx⟩, rfl⟩

/-- A family of separate parts at the same values is held together. -/
theorem reg_biUnion {T : Type} (S : Finset T) (K : T → Finset s.Idx)
    (hd : ∀ t ∈ S, ∀ t' ∈ S, t ≠ t' → Disjoint (K t) (K t')) (X : s.Idx → Val e) :
    (reg c h (S.biUnion K) X : sProp 𝕄) = bigSep S fun t => reg c h (K t) X := by
  have hd' : ∀ t ∈ S, ∀ t' ∈ S, t ≠ t' →
      Disjoint (α := Finset (Idx (m.view.loc c))) (m.view.setOn (K t)) (m.view.setOn (K t')) :=
    fun t ht t' ht' hn => (Finset.disjoint_map _).mpr (hd t ht t' ht' hn)
  have hs : elems c (m := m) (S.biUnion K) = S.biUnion fun t => elems c (m := m) (K t) :=
    setOn_biUnion c S K
  have h1 := pointsTo_biUnion (Ix := Ix) (Name := Name) (U := U) (Lvl := Lvl) (q := fullShare) (f := h.unread X) S
    (fun t => elems c (m := m) (K t)) hd'
  rw [← hs] at h1
  exact h1

/-- What is written through a rectangle of the array. -/
theorem slice_write (r : Rect s) (X : s.Idx → Val e) (w : r.shape.Idx → Val e) :
    (m.view.slice r).write Val (h.unread X) w Finset.univ = h.unread (r.overlay X w) := by
  refine h.eq_unread (funext fun x => ?_)
  by_cases hx : x ∈ r.set
  · obtain ⟨y, rfl⟩ := r.exists_idx_of_mem hx
    show (m.view.slice r).read Val _ y = r.overlay X w (r.emb y)
    rw [View.read_write_univ, Rect.overlay_emb]
  · rw [Rect.overlay_of_not_mem _ _ _ hx]
    have : m.view.emb x ∉ (m.view.slice r).setOn Finset.univ := by
      rw [View.setOn_univ, View.set_slice]
      intro hm
      obtain ⟨y, hy, he⟩ := Finset.mem_map.mp hm
      exact hx (m.view.emb.injective he ▸ hy)
    rw [View.read_apply, View.write_of_not_mem _ _ _ this, ← View.read_apply, h.read_unread]

/-- A whole buffer, held at raw contents. -/
theorem reg_univ (f : Buf Val (m.view.loc c)) :
    (m.view.loc c ↦[m.view.set]{fullShare} f : sProp 𝕄) = reg c h Finset.univ (m.view.read Val f) := by
  unfold reg; rw [View.setOn_univ, h.unread_read]

/-- The elements under a rectangle of the array. -/
theorem reg_slice (r : Rect s) (X : s.Idx → Val e) :
    (m.view.loc c ↦[(m.view.slice r).set]{fullShare} h.unread X : sProp 𝕄) = reg c h r.set X := by
  unfold reg; rw [View.set_slice]; rfl

/-- The view of a rectangle of the array has the rectangle's indices, those of the array under the whole view. -/
theorem access_setOn (r : Rect s) : (m.access r).setOn Finset.univ = m.view.setOn r.set := by
  rw [View.setOn_univ, View.set_slice]; rfl

section Access

variable {cs : CoreSpace} {m : Memref sig c.2.kind cs s e} (h : m.IsWhole)
variable {Λ : Labels} [Preorder Lvl] {defs : Defs nD τ sig Val Λ} (𝒱 : Variants) (bd : Option 𝒱.V)
variable {Γ : PendingWaitsCtx sig Ix} (Es : Set Name) {α : Type} {Q : α → sProp (MT nD τ sig Ix Val Name U Lvl)}

/-- A load of a rectangle among the elements held reads their values. -/
theorem wp_load_reg {r : Rect s} {hl : m.view.LoadsAt r.toLoadRect}
    {k : (r.shape.Idx → Val e) → Prog (TpuEff nD τ sig Val Λ c.2) α} {R : Finset s.Idx} {X : s.Idx → Val e}
    (hR : r.set ⊆ R) :
    (reg c h R X : sProp 𝕄)
      ⊢ iprop((reg c h R X -∗ wp frame (wpE' defs 𝒱 c bd Γ) Es (k fun x => X (r.emb x)) Q)
        -∗ wp frame (wpE' defs 𝒱 c bd Γ) Es (.op (.load m r.toLoadRect hl) k) Q) := by
  have h1 := wp_load (defs := defs) 𝒱 c bd (Γ := Γ) Es (Q := Q) (m := m) (r := r.toLoadRect) (hl := hl) (k := k)
    (q := fullShare) (f := h.unread X) (S := m.view.setOn R) (Finset.map_subset_map.mpr hR)
  rw [show m.view.readAt Val r.toLoadRect (h.unread X) = fun x => X (r.emb x) from
    funext fun x => h.readAt_unread X r.toLoadRect x] at h1
  exact h1

/-- A store into a rectangle among the elements held replaces their values. -/
theorem wp_store_reg {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {R : Finset s.Idx} {X : s.Idx → Val e} (hR : r.set ⊆ R) :
    (reg c h R X : sProp 𝕄)
      ⊢ iprop((reg c h R (r.overlay X w) -∗ wp frame (wpE' defs 𝒱 c bd Γ) Es (k ⟨⟩) Q)
        -∗ wp frame (wpE' defs 𝒱 c bd Γ) Es (.op (.store m r w Finset.univ hx hm) k) Q) := by
  have h1 := wp_store (defs := defs) 𝒱 c bd (Γ := Γ) Es (Q := Q) (m := m) (r := r) (w := w) (hx := hx) (hm := hm)
    (k := k) (f := h.unread X) (S := m.view.setOn R)
    (by rw [access_setOn]; exact Finset.map_subset_map.mpr hR)
  rw [show (m.access r).write Val (h.unread X) w Finset.univ = h.unread (r.overlay X w) from slice_write c h r X w] at h1
  exact h1

end Access

end Cert.Proof.Region

end
-- ==== Proof.Fold.lean ====
/-
  Families of assertions over the four streams and over runs of stages.
-/
module

public import proofs.«01_k».proof.Proof.Ring
public import proofs.«01_k».proof.Proof.Region
public import Idealize.SL.BI.BigOpNat

@[expose] public section

noncomputable section

namespace Cert.Proof.Fold

open Idealize.SL Idealize.SL.RA Idealize.SL.BI
open scoped Idealize.SL.BI
open Idealize.SL.BI.BIBase Idealize.SL.BI.Laws Idealize.SL.ProofMode
open Cert.Proof.Ring

universe u
variable {M : Type u} [URA M]

/-- One assertion per stream. -/
def q4 (P : Fin 4 → sProp M) : sProp M := iprop(P 0 ∗ P 1 ∗ P 2 ∗ P 3)

theorem q4_eq (P : Fin 4 → sProp M) : q4 P = bigSep Finset.univ P := by
  rw [bigSep_univ_eq_bigSepL [(0 : Fin 4), 1, 2, 3] (by decide) (by decide)]
  simp only [bigSepL_cons_cons, bigSepL_singleton]
  rfl

theorem q4_sep (P Q : Fin 4 → sProp M) : q4 (fun i => iprop(P i ∗ Q i)) = iprop(q4 P ∗ q4 Q) := by
  rw [q4_eq, q4_eq, q4_eq]
  exact bigSep_sep _ _ _

theorem q4_mono {P Q : Fin 4 → sProp M} (h : ∀ i, P i ⊢ Q i) : q4 P ⊢ q4 Q := by
  rw [q4_eq, q4_eq]
  exact bigSep_mono fun i _ => h i

theorem q4_mir (P : Fin 4 → sProp M) : q4 (fun i => P (mir i)) = q4 P := by
  rw [q4_eq, q4_eq]
  exact (bigSep_univ_equiv mirror P).symm

theorem q4_range (n : ℕ) (Φ : Fin 4 → ℕ → sProp M) :
    bigSep (Finset.range n) (fun k => q4 fun i => Φ i k) = q4 fun i => bigSep (Finset.range n) (Φ i) := by
  unfold q4
  exact (bigSep_sep _ _ _).trans (congrArg _ ((bigSep_sep _ _ _).trans (congrArg _ (bigSep_sep _ _ _))))

theorem via {P Q R : sProp M} (h : P ⊢ Q) (h' : Q ⊢ R) : P ⊢ R := h.trans h'

theorem both {P P' Q Q' : sProp M} (h : P ⊢ P') (h' : Q ⊢ Q') : iprop(P ∗ Q) ⊢ iprop(P' ∗ Q') := by
  iintro ⟨HP, HQ⟩
  isplitl [HP]
  · iapply h; iexact HP
  · iapply h'; iexact HQ

theorem onRight {P Q Q' : sProp M} (h : Q ⊢ Q') : iprop(P ∗ Q) ⊢ iprop(P ∗ Q') := both .rfl h

theorem each {I : Type} {S : Finset I} {Φ Ψ : I → sProp M} (h : ∀ i ∈ S, Φ i ⊢ Ψ i) : bigSep S Φ ⊢ bigSep S Ψ :=
  bigSep_mono h

theorem zip {I : Type} (S : Finset I) (Φ Ψ : I → sProp M) :
    (bigSep S fun i => iprop(Φ i ∗ Ψ i)) = iprop(bigSep S Φ ∗ bigSep S Ψ) := bigSep_sep S Φ Ψ

theorem swap (P Q R : sProp M) : iprop(P ∗ Q ∗ R) ⊢ iprop(Q ∗ P ∗ R) := by
  iintro ⟨HP, HQ, HR⟩
  isplitl [HQ]; · iexact HQ
  isplitl [HP]; · iexact HP
  iexact HR

theorem pairs_mp (P Q R S : sProp M) : iprop((P ∗ Q) ∗ R ∗ S) ⊢ iprop(P ∗ Q ∗ R ∗ S) := by
  iintro ⟨⟨H0, H1⟩, H2, H3⟩
  isplitl [H0]; · iexact H0
  isplitl [H1]; · iexact H1
  isplitl [H2]; · iexact H2
  iexact H3

theorem pairs_mpr (P Q R S : sProp M) : iprop(P ∗ Q ∗ R ∗ S) ⊢ iprop((P ∗ Q) ∗ R ∗ S) := by
  iintro ⟨H0, H1, H2, H3⟩
  isplitl [H0 H1]
  · isplitl [H0]; · iexact H0
    iexact H1
  isplitl [H2]; · iexact H2
  iexact H3

theorem pairs (P : Fin 4 → sProp M) : iprop((P 0 ∗ P 1) ∗ P 2 ∗ P 3) = q4 P :=
  equiv_iff.mp ⟨pairs_mp _ _ _ _, pairs_mpr _ _ _ _⟩

/-- A run of stages, cut in two. -/
theorem range_add (m : ℕ) (Φ : ℕ → sProp M) : ∀ n : ℕ, bigSep (Finset.range (m + n)) Φ
    = iprop(bigSep (Finset.range m) Φ ∗ bigSep (Finset.range n) fun k => Φ (m + k))
  | 0 => by
    rw [Finset.range_zero, bigSep_empty]
    exact (equiv_iff.mp sep_emp).symm
  | n + 1 => by
    rw [← Nat.add_assoc, bigSep_range_succ, bigSep_range_succ, range_add m Φ n]
    exact equiv_iff.mp ⟨swap _ _ _, swap _ _ _⟩

theorem range_one (Φ : ℕ → sProp M) : bigSep (Finset.range 1) Φ = Φ 0 := by
  rw [bigSep_range_succ, Finset.range_zero, bigSep_empty]
  exact equiv_iff.mp sep_emp

/-- The first of a run and the rest. -/
theorem range_bot (n : ℕ) (Φ : ℕ → sProp M) :
    bigSep (Finset.range (1 + n)) Φ = iprop(Φ 0 ∗ bigSep (Finset.range n) fun k => Φ (1 + k)) := by
  rw [range_add 1 Φ n, range_one]

theorem range_Ico (a : ℕ) (Φ : ℕ → sProp M) : ∀ n : ℕ,
    bigSep (Finset.Ico a (a + n)) Φ = bigSep (Finset.range n) fun k => Φ (a + k)
  | 0 => by rw [Nat.add_zero, Finset.Ico_self, Finset.range_zero, bigSep_empty, bigSep_empty]
  | n + 1 => by rw [← Nat.add_assoc, bigSep_Ico_succ_top (Nat.le_add_right a n), bigSep_range_succ, range_Ico a Φ n]

end Cert.Proof.Fold

end
-- ==== Proof.Shares.lean ====
/-
  Conjunctions over devices, streams and stages: by the kind of cell, around the ring, and the matching sums.
-/
module

public import proofs.«01_k».proof.Proof.Fold

@[expose] public section

noncomputable section

namespace Cert.Proof.Shares

open Idealize.SL Idealize.SL.RA Idealize.SL.BI
open scoped Idealize.SL.BI
open Idealize.SL.BI.BIBase Idealize.SL.BI.Laws Idealize.SL.ProofMode
open Cert.Proof.Ring Cert.Proof.Fold

variable {M : Type} [URA M]

/-- The cells of a device's transfers: which end, which stream, which stage. -/
abbrev CI : Type := Fin 2 × Fin 4 × Fin 62

theorem stages_range (n : ℕ) (Φ : ℕ → sProp M) :
    bigSep (Finset.univ : Finset (Fin n)) (fun i => Φ i.val) = bigSep (Finset.range n) Φ := by
  have e : Finset.range n = (Finset.univ : Finset (Fin n)).map Fin.valEmbedding := by
    ext k
    rw [Finset.mem_range, Finset.mem_map]
    exact ⟨fun h => ⟨⟨k, h⟩, Finset.mem_univ _, rfl⟩, fun ⟨j, _, hj⟩ => hj ▸ j.isLt⟩
  rw [e, bigSep_map]
  rfl

/-- The cells of a device, stage by stage. -/
theorem spread (Φ : Fin 2 → Fin 4 → ℕ → sProp M) : (bigSep Finset.univ fun x : CI => Φ x.1 x.2.1 x.2.2.val)
    = bigSep (Finset.range 62) fun k => q4 fun i => iprop(Φ 0 i k ∗ Φ 1 i k) := by
  have h (d : Fin 2) : (bigSep Finset.univ fun y : Fin 4 × Fin 62 => Φ d y.1 y.2.val)
      = bigSep (Finset.range 62) fun k => q4 fun i => Φ d i k := by
    rw [bigSep_univ_prod, q4_range, q4_eq]
    exact bigSep_congr fun i _ => stages_range 62 (Φ d i)
  rw [bigSep_univ_prod, bigSep_univ_eq_bigSepL [(0 : Fin 2), 1] (by decide) (by decide)]
  simp only [bigSepL_cons_cons, bigSepL_singleton]
  rw [h 0, h 1]
  refine Eq.trans ?_ (bigSep_congr fun k _ => (q4_sep (fun i => Φ 0 i k) fun i => Φ 1 i k).symm)
  exact (zip _ _ _).symm

/-- Every device's stages, each stream's handed on by a device. -/
theorem turn (n : ℕ) (Φ : Fin 4 → ℕ → Fin 32 → sProp M) :
    (bigSep Finset.univ fun c : Fin 32 => bigSep (Finset.range n) fun k => q4 fun i => Φ i k c)
      = bigSep Finset.univ fun c : Fin 32 => bigSep (Finset.range n) fun k => q4 fun i => Φ i k (peer i c) := by
  have h (i : Fin 4) : (bigSep Finset.univ fun c : Fin 32 => bigSep (Finset.range n) fun k => Φ i k c)
      = bigSep Finset.univ fun c : Fin 32 => bigSep (Finset.range n) fun k => Φ i k (peer i c) :=
    bigSep_univ_equiv (around i) _
  have out (Ψ : Fin 4 → Fin 32 → sProp M) : (bigSep Finset.univ fun c : Fin 32 => q4 fun i => Ψ i c)
      = q4 fun i => bigSep Finset.univ fun c : Fin 32 => Ψ i c := by
    unfold q4
    rw [zip, zip, zip]
  simp only [q4_range]
  rw [out fun i c => bigSep (Finset.range n) fun k => Φ i k c, out fun i c => bigSep (Finset.range n) fun k => Φ i k (peer i c)]
  simp only [h]

/-- A fact that lasts, beside every conjunct. -/
theorem beside {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  via (sep_mono_left (BI.bigSep_of_persistent S R)) (via (Entails.of_eq (zip S (fun _ => R) Φ).symm) (each h))

/-- A sum over the transfers in order, stage by stage. -/
theorem sum_stages {T : Type} [AddCommMonoid T] (f : ℕ → T) : ∀ n : ℕ,
    ∑ m ∈ Finset.Ico 0 (4 * n), f m = ∑ k ∈ Finset.range n, ∑ i : Fin 4, f (4 * k + i.val)
  | 0 => by rw [Nat.mul_zero, Finset.Ico_self, Finset.sum_empty, Finset.range_zero, Finset.sum_empty]
  | n + 1 => by
    have hf (m : ℕ) : ∑ j ∈ Finset.Ico 0 (m + 1), f j = ∑ j ∈ Finset.Ico 0 m, f j + f m := by
      rw [← Finset.range_eq_Ico, ← Finset.range_eq_Ico, Finset.sum_range_succ]
    rw [Finset.sum_range_succ, ← sum_stages f n, Fin.sum_univ_four, show 4 * (n + 1) = 4 * n + 1 + 1 + 1 + 1 by omega,
      hf, hf, hf, hf]
    simp only [add_assoc]
    rfl

end Cert.Proof.Shares

end
-- ==== Proof.IdealPlan.lean ====
/-
  The kernel as one parametric program. The printed body is a straight line of loads, stores, transfers and
  waits; here the same line is written with four streams and thirty-one stages as parameters: `Places` holds the
  offsets and the two neighbours as the kernel computes them, `prog` the operations over them.
-/
module

public import proofs.«01_k».proof.Proof.Gen.KernelIdeal

@[expose] public section

noncomputable section

namespace Cert.Proof.Ideal

open Cert.KernelIdeal Cert.KernelIdeal.Gen
open Idealize.ShloMosaic Idealize.SL.Sem

variable {F : FTy → Type} [FloatOps F]

/-- Offsets at which a block of sizes `n` lies inside an array of shape `s`. -/
abbrev Off (s : Shape) (n : Fin s.rank → ℕ) : Type := { o : Fin s.rank → ℕ // ∀ a, o a + n a ≤ s.size a }

/-- The places a device reads and writes and the neighbours it sends to. -/
@[ext] structure Places where
  /-- the rows of the left factor read by the first product, -/
  rows₀ : Off S2048x1024 S64x1024.size
  /-- the rows of the result it fills; -/
  out₀ : Off S2048x2048 S64x2048.size
  /-- the rows read by the product after stage `k`, for the right-going half (`0`) and the left-going one (`1`), -/
  rows : Fin 2 → Fin 31 → Off S2048x1024 S64x1024.size
  /-- the half row block of the result that product fills; -/
  half : Fin 2 → Fin 31 → Off S2048x2048 S64x1024.size
  /-- the tile stream `i` sends at stage `k` of the reduction, -/
  src : Fin 4 → Fin 31 → Off S2048x2048 S64x512.size
  /-- the tile the block received at that stage is added to; -/
  acc : Fin 4 → Fin 31 → Off S2048x2048 S64x512.size
  /-- the half row block that is finished here; -/
  fin : Fin 2 → Off S2048x2048 S64x1024.size
  /-- the tile stream `i` sends at stage `k` of the gathering, to the same place; -/
  ag : Fin 4 → Fin 31 → Off S2048x2048 S64x512.size
  /-- the device streams 0 and 1 send to, -/
  right : Dev nD
  /-- the device streams 2 and 3 send to. -/
  left : Dev nD

/-- The first product: 64 rows of the left factor with the whole right factor. -/
def dotFull (v : Vec F S64x1024 .f32) (w : Vec F S1024x2048 .f32) : FVec F S64x2048 .f32 :=
  matmul dot_S64x1024_S1024x2048_S64x2048_1_0_0_1_n_n none (shapeCast S64x1024 v shapeCasts_S64x1024_S64x1024)
    (shapeCast S1024x2048 w shapeCasts_S1024x2048_S1024x2048) (constant S64x2048 .f32 0x00000000#32)

/-- A later product: 64 rows of the left factor with half the columns of the right factor. -/
def dotHalf (v : Vec F S64x1024 .f32) (w : Vec F S1024x1024 .f32) : FVec F S64x1024 .f32 :=
  matmul dot_S64x1024_S1024x1024_S64x1024_1_0_0_1_n_n none (shapeCast S64x1024 v shapeCasts_S64x1024_S64x1024)
    (shapeCast S1024x1024 w shapeCasts_S1024x1024_S1024x1024) (constant S64x1024 .f32 0x00000000#32)

/-- A tile of the result plus a received block. -/
def plus (v : Vec F S64x512 .f32) (w : Vec F S1x64x512 .f32) : FVec F S64x512 .f32 :=
  addf (shapeCast S64x512 v shapeCasts_S64x512_S64x512) (shapeCast S64x512 w shapeCasts_S1x64x512_S64x512)

/-- The activation of a half row block. -/
def act (v : Vec F S64x1024 .f32) : FVec F S64x1024 .f32 :=
  have z : FVec F S64x1024 .f32 := shapeCast S64x1024 v shapeCasts_S64x1024_S64x1024
  mulf (mulf (broadcast S64x1024 (Scalar.ofBits .f32 0x3F000000#32 : F .f32)) z)
    (addf (broadcast S64x1024 (Scalar.ofBits .f32 0x3F800000#32 : F .f32))
      (tanh (mulf (broadcast S64x1024 (Scalar.ofBits .f32 0x3F4C422A#32 : F .f32))
        (addf z (mulf (mulf (mulf (broadcast S64x1024 (Scalar.ofBits .f32 0x3D372713#32 : F .f32)) z) z) z)))))

theorem slot_inb (k : Fin 31) (a : Fin S31x64x512.rank) :
    (![k.val, 0, 0] : Fin 3 → ℕ) a + S1x64x512.size a ≤ S31x64x512.size a := by
  have hk := k.isLt
  fin_cases a
  · show k.val + 1 ≤ 31; omega
  · show 0 + 64 ≤ 64; omega
  · show 0 + 512 ≤ 512; omega

theorem cell_inb (k : Fin 31) (a : Fin S31.rank) : (![k.val] : Fin 1 → ℕ) a + S1.size a ≤ S31.size a := by
  have hk := k.isLt
  fin_cases a
  show k.val + 1 ≤ 31; omega

theorem halfCol_inb (j : Fin 2) (a : Fin S1024x2048.rank) :
    (![0, 1024 * j.val] : Fin 2 → ℕ) a + S1024x1024.size a ≤ S1024x2048.size a := by
  have hj := j.isLt
  fin_cases a
  · show 0 + 1024 ≤ 1024; omega
  · show 1024 * j.val + 1024 ≤ 2048; omega

/-- The buffers and semaphores the body is called with. -/
structure Args where
  /-- the device's columns of the left factor, -/
  a : Memref sig .tc .vmem S2048x1024 .f32
  /-- the device's rows of the right factor, -/
  b : Memref sig .tc .vmem S1024x2048 .f32
  /-- the result; -/
  o : Memref sig .tc .vmem S2048x2048 .f32
  /-- stream `i`'s landing slots, -/
  buf : Fin 4 → Memref sig .tc .vmem S31x64x512 .f32
  /-- stream `i`'s cells while reducing: sends, -/
  rsS : Fin 4 → DmaSems sig S31
  /-- arrivals; -/
  rsR : Fin 4 → DmaSems sig S31
  /-- and while gathering: sends, -/
  agS : Fin 4 → DmaSems sig S31
  /-- arrivals. -/
  agR : Fin 4 → DmaSems sig S31

section Program

variable (A : Args)

/-- Slot `k` of stream `i`'s landing buffer. -/
abbrev slotM (i : Fin 4) (k : Fin 31) : Memref sig .tc .vmem S64x512 .f32 :=
  ((A.buf i).slice (Rect.unit (s := S31x64x512) ![k.val, 0, 0] S1x64x512.size (slot_inb k)) (fun _ => rfl)).squeeze
    S64x512 squeezes_S1x64x512_S64x512

/-- A tile of the result. -/
abbrev tileM (o : Off S2048x2048 S64x512.size) : Memref sig .tc .vmem S64x512 .f32 :=
  A.o.slice (Rect.unit (s := S2048x2048) o.1 S64x512.size o.2) (fun _ => rfl)

/-- Cell `k` of a row of thirty-one. -/
abbrev cellM (sems : DmaSems sig S31) (k : Fin 31) : DmaSem sig :=
  ((sems.slice (Rect.unit (s := S31) ![k.val] S1.size (cell_inb k))).squeeze S_ squeezes_S1_S_).sem

/-- The device stream `i` sends to. -/
def peerOf (L : Places) : Fin 4 → Dev nD
  | 0 => L.right
  | 1 => L.right
  | 2 => L.left
  | 3 => L.left

/-- Stage `k` of the reduction starts: stream `i` sends its tile into its slot on its neighbour. -/
def rsStart (L : Places) (i : Fin 4) (k : Fin 31) : Prog (TpuEff nD τ sig (Elt F) Λ₀ .tc) PUnit :=
  Prog.lift (.enqueueDma (tileM A (L.src i k)) (.remote (Dev.tc (peerOf L i)) (slotM A i k) (.dma (cellM (A.rsS i) k)))
    (.dma (cellM (A.rsR i) k)) (View.wordExact_bits rfl) ((View.wordExact_bits rfl).reshape _ _)
    ⟨⟨rfl, Or.inl rfl⟩, trivial⟩)

/-- The block that arrived in stream `i`'s slot is added to the tile, whose contents `v` were read. -/
def rsPut (L : Places) (i : Fin 4) (k : Fin 31) (v : Vec F S64x512 .f32) :
    Prog (TpuEff nD τ sig (Elt F) Λ₀ .tc) PUnit := do
  let w : Vec F S1x64x512 .f32 ← Prog.lift (.load (A.buf i)
    (Rect.unit (s := S31x64x512) ![k.val, 0, 0] S1x64x512.size (slot_inb k)).toLoadRect (View.loadsAt_vmem h_S1x64x512))
  let _ : Vec F S64x512 .f32 ← Prog.lift (.load A.o
    (Rect.unit (s := S2048x2048) (L.acc i k).1 S64x512.size (L.acc i k).2).toLoadRect (View.loadsAt_vmem h_S64x512))
  Prog.lift (.store A.o (Rect.unit (s := S2048x2048) (L.acc i k).1 S64x512.size (L.acc i k).2) (plus v w) Finset.univ
    (View.stores_vmem_bits_univ h_S64x512 rfl) (.inl rfl))

/-- Stage `k` of the reduction ends for stream `i`: the send and the arrival are waited for and the block that
    arrived is added to its tile. -/
def rsFin (L : Places) (i : Fin 4) (k : Fin 31) : Prog (TpuEff nD τ sig (Elt F) Λ₀ .tc) PUnit := do
  Prog.lift (.waitDma2 (cellM (A.rsS i) k) (slotM A i k) (tileM A (L.src i k)) ((View.wordExact_bits rfl).reshape _ _)
    (View.wordExact_bits rfl))
  Prog.lift (.waitDma2 (cellM (A.rsR i) k) (tileM A (L.src i k)) (slotM A i k) (View.wordExact_bits rfl)
    ((View.wordExact_bits rfl).reshape _ _))
  let v : Vec F S64x512 .f32 ← Prog.lift (.load A.o
    (Rect.unit (s := S2048x2048) (L.acc i k).1 S64x512.size (L.acc i k).2).toLoadRect (View.loadsAt_vmem h_S64x512))
  rsPut A L i k v

/-- The product of the blocks `v` and `w` goes to its place. -/
def dotPut (L : Places) (j : Fin 2) (k : Fin 31) (v : Vec F S64x1024 .f32) (w : Vec F S1024x1024 .f32) :
    Prog (TpuEff nD τ sig (Elt F) Λ₀ .tc) PUnit := do
  let _ : Vec F S64x1024 .f32 ← Prog.lift (.load A.o
    (Rect.unit (s := S2048x2048) (L.half j k).1 S64x1024.size (L.half j k).2).toLoadRect (View.loadsAt_vmem h_S64x1024))
  Prog.lift (.store A.o (Rect.unit (s := S2048x2048) (L.half j k).1 S64x1024.size (L.half j k).2) (dotHalf v w)
    Finset.univ (View.stores_vmem_bits_univ h_S64x1024 rfl) (.inl rfl))

/-- The product after stage `k`, of the half `j` of the columns. -/
def dots (L : Places) (j : Fin 2) (k : Fin 31) : Prog (TpuEff nD τ sig (Elt F) Λ₀ .tc) PUnit := do
  let v : Vec F S64x1024 .f32 ← Prog.lift (.load A.a
    (Rect.unit (s := S2048x1024) (L.rows j k).1 S64x1024.size (L.rows j k).2).toLoadRect (View.loadsAt_vmem h_S64x1024))
  let w : Vec F S1024x1024 .f32 ← Prog.lift (.load A.b
    (Rect.unit (s := S1024x2048) ![0, 1024 * j.val] S1024x1024.size (halfCol_inb j)).toLoadRect
    (View.loadsAt_vmem h_S1024x1024))
  dotPut A L j k v w

/-- The first product. -/
def dot₀ (L : Places) : Prog (TpuEff nD τ sig (Elt F) Λ₀ .tc) PUnit := do
  let v : Vec F S64x1024 .f32 ← Prog.lift (.load A.a
    (Rect.unit (s := S2048x1024) L.rows₀.1 S64x1024.size L.rows₀.2).toLoadRect (View.loadsAt_vmem h_S64x1024))
  let w : Vec F S1024x2048 .f32 ← Prog.lift (.load A.b
    (Rect.unit (s := S1024x2048) ![0, 0] S1024x2048.size inb_S1024x2048_S1024x2048_0_0).toLoadRect
    (View.loadsAt_vmem h_S1024x2048))
  let _ : Vec F S64x2048 .f32 ← Prog.lift (.load A.o
    (Rect.unit (s := S2048x2048) L.out₀.1 S64x2048.size L.out₀.2).toLoadRect (View.loadsAt_vmem h_S64x2048))
  Prog.lift (.store A.o (Rect.unit (s := S2048x2048) L.out₀.1 S64x2048.size L.out₀.2) (dotFull v w) Finset.univ
    (View.stores_vmem_bits_univ h_S64x2048 rfl) (.inl rfl))

/-- The activation of the half row block finished here. -/
def gelu (L : Places) (j : Fin 2) : Prog (TpuEff nD τ sig (Elt F) Λ₀ .tc) PUnit := do
  let v : Vec F S64x1024 .f32 ← Prog.lift (.load A.o
    (Rect.unit (s := S2048x2048) (L.fin j).1 S64x1024.size (L.fin j).2).toLoadRect (View.loadsAt_vmem h_S64x1024))
  let _ : Vec F S64x1024 .f32 ← Prog.lift (.load A.o
    (Rect.unit (s := S2048x2048) (L.fin j).1 S64x1024.size (L.fin j).2).toLoadRect (View.loadsAt_vmem h_S64x1024))
  Prog.lift (.store A.o (Rect.unit (s := S2048x2048) (L.fin j).1 S64x1024.size (L.fin j).2) (act v) Finset.univ
    (View.stores_vmem_bits_univ h_S64x1024 rfl) (.inl rfl))

/-- Stage `k` of the gathering starts: stream `i` sends a finished tile to the same place on its neighbour. -/
def agStart (L : Places) (i : Fin 4) (k : Fin 31) : Prog (TpuEff nD τ sig (Elt F) Λ₀ .tc) PUnit :=
  Prog.lift (.enqueueDma (tileM A (L.ag i k)) (.remote (Dev.tc (peerOf L i)) (tileM A (L.ag i k))
    (.dma (cellM (A.agS i) k))) (.dma (cellM (A.agR i) k)) (View.wordExact_bits rfl) (View.wordExact_bits rfl)
    ⟨⟨rfl, Or.inl rfl⟩, trivial⟩)

/-- Stage `k` of the gathering ends for stream `i`: the send and the arrival are waited for. -/
def agFin (L : Places) (i : Fin 4) (k : Fin 31) : Prog (TpuEff nD τ sig (Elt F) Λ₀ .tc) PUnit := do
  Prog.lift (.waitDma2 (cellM (A.agS i) k) (tileM A (L.ag i k)) (tileM A (L.ag i k)) (View.wordExact_bits rfl)
    (View.wordExact_bits rfl))
  Prog.lift (.waitDma2 (cellM (A.agR i) k) (tileM A (L.ag i k)) (tileM A (L.ag i k)) (View.wordExact_bits rfl)
    (View.wordExact_bits rfl))

/-- An operation of each of the four streams. -/
def four (f : Fin 4 → Prog (TpuEff nD τ sig (Elt F) Λ₀ .tc) PUnit) : Prog (TpuEff nD τ sig (Elt F) Λ₀ .tc) PUnit := do
  f 0
  f 1
  f 2
  f 3

/-- Stage `k` of the reduction starts in all four streams. -/
def starts (L : Places) (k : Fin 31) : Prog (TpuEff nD τ sig (Elt F) Λ₀ .tc) PUnit := do
  four fun i => rsStart A L i k
  dots A L 0 k
  dots A L 1 k

/-- From one stage of the reduction to the next. -/
def rsStep (L : Places) (k : Fin 31) (h : k.val + 1 < 31) : Prog (TpuEff nD τ sig (Elt F) Λ₀ .tc) PUnit := do
  four fun i => rsFin A L i k
  starts A L ⟨k.val + 1, h⟩

/-- A stage of the gathering. -/
def agStep (L : Places) (k : Fin 31) : Prog (TpuEff nD τ sig (Elt F) Λ₀ .tc) PUnit := do
  four fun i => agStart A L i k
  four fun i => agFin A L i k

/-- Steps `a` to `a + n` of the reduction. -/
def rsLoop (L : Places) (a : ℕ) : (n : ℕ) → a + n ≤ 30 → Prog (TpuEff nD τ sig (Elt F) Λ₀ .tc) PUnit
  | 0, _ => pure ⟨⟩
  | n + 1, h => do
    rsLoop L a n (by omega)
    rsStep A L ⟨a + n, by omega⟩ (by show a + n + 1 < 31; omega)

/-- Stages `a` to `a + n` of the gathering. -/
def agLoop (L : Places) (a : ℕ) : (n : ℕ) → a + n ≤ 31 → Prog (TpuEff nD τ sig (Elt F) Λ₀ .tc) PUnit
  | 0, _ => pure ⟨⟩
  | n + 1, h => do
    agLoop L a n (by omega)
    agStep A L ⟨a + n, by omega⟩

/-- The meeting of the neighbours: each signals both of its own and waits for two signals. -/
def meet (L : Places) : Prog (TpuEff nD τ sig (Elt F) Λ₀ .tc) PUnit := do
  semSignalWord L.left (SemArray.scalar (sig.barrier 0 rfl) : Sems sig S_).sem 1#32
  semSignalWord L.right (SemArray.scalar (sig.barrier 0 rfl) : Sems sig S_).sem 1#32
  semWaitWord (SemArray.scalar (sig.barrier 0 rfl) : Sems sig S_).sem 2#32

/-- The kernel's body after it has read its device. -/
def prog (L : Places) : Prog (TpuEff nD τ sig (Elt F) Λ₀ .tc) PUnit := do
  meet L
  dot₀ A L
  starts A L 0
  rsLoop A L 0 30 (by decide)
  four fun i => rsFin A L i 30
  gelu A L 0
  gelu A L 1
  agLoop A L 0 31 (by decide)

end Program

end Cert.Proof.Ideal
-- ==== Proof.IdealPrinted.lean ====
/-
  The printed body is the parametric program at the offsets and neighbours it computes.
-/
module

public import proofs.«01_k».proof.Proof.IdealPlan

@[expose] public section

noncomputable section

namespace Cert.Proof.Ideal

open Cert.KernelIdeal Cert.KernelIdeal.Gen
open Idealize.ShloMosaic Idealize.SL.Sem

variable {F : FTy → Type} [FloatOps F]

/-- The tile stream `i` sends at stage `k` of the reduction, as the kernel computes it. -/
def printedSrc (d : Dev nD) : Fin 4 → Fin 31 → Off S2048x2048 S64x512.size
  | 0, ⟨0, _⟩ => ⟨k0_off3 d, k0_off3_inb d⟩
  | 0, ⟨r + 1, h⟩ => ⟨k0_off15 d (BitVec.ofNat 32 (1 + r)), k0_off15_inb d ⟨r, by omega⟩⟩
  | 1, ⟨0, _⟩ => ⟨k0_off4 d, k0_off4_inb d⟩
  | 1, ⟨r + 1, h⟩ => ⟨k0_off16 d (BitVec.ofNat 32 (1 + r)), k0_off16_inb d ⟨r, by omega⟩⟩
  | 2, ⟨0, _⟩ => ⟨k0_off5 d, k0_off5_inb d⟩
  | 2, ⟨r + 1, h⟩ => ⟨k0_off17 d (BitVec.ofNat 32 (r + 1)), k0_off17_inb d ⟨r + 1, h⟩⟩
  | 3, ⟨0, _⟩ => ⟨k0_off6 d, k0_off6_inb d⟩
  | 3, ⟨r + 1, h⟩ => ⟨k0_off18 d (BitVec.ofNat 32 (r + 1)), k0_off18_inb d ⟨r + 1, h⟩⟩

/-- The tile a block received at stage `k` is added to. -/
def printedAcc (d : Dev nD) (i : Fin 4) (k : Fin 31) : Off S2048x2048 S64x512.size :=
  if h : k.val < 30 then
    match i with
    | 0 => ⟨k0_off11 d (BitVec.ofNat 32 (1 + k.val)), k0_off11_inb d ⟨k.val, h⟩⟩
    | 1 => ⟨k0_off12 d (BitVec.ofNat 32 (1 + k.val)), k0_off12_inb d ⟨k.val, h⟩⟩
    | 2 => ⟨k0_off13 d (BitVec.ofNat 32 (1 + k.val)), k0_off13_inb d ⟨k.val, h⟩⟩
    | 3 => ⟨k0_off14 d (BitVec.ofNat 32 (1 + k.val)), k0_off14_inb d ⟨k.val, h⟩⟩
  else
    match i with
    | 0 => ⟨k0_off21 d, k0_off21_inb d⟩
    | 1 => ⟨k0_off22 d, k0_off22_inb d⟩
    | 2 => ⟨k0_off23 d, k0_off23_inb d⟩
    | 3 => ⟨k0_off24 d, k0_off24_inb d⟩

/-- The rows read by the product after stage `k`. -/
def printedRows (d : Dev nD) : Fin 2 → Fin 31 → Off S2048x1024 S64x1024.size
  | 0, ⟨0, _⟩ => ⟨k0_off7 d, k0_off7_inb d⟩
  | 0, ⟨r + 1, h⟩ => ⟨k0_off19 d (BitVec.ofNat 32 (1 + r)), k0_off19_inb d ⟨r, by omega⟩⟩
  | 1, k => ⟨k0_off9 d (BitVec.ofNat 32 (1 + k.val)), k0_off9_inb d k⟩

/-- The half row block the product after stage `k` fills. -/
def printedHalf (d : Dev nD) : Fin 2 → Fin 31 → Off S2048x2048 S64x1024.size
  | 0, ⟨0, _⟩ => ⟨k0_off8 d, k0_off8_inb d⟩
  | 0, ⟨r + 1, h⟩ => ⟨k0_off20 d (BitVec.ofNat 32 (1 + r)), k0_off20_inb d ⟨r, by omega⟩⟩
  | 1, k => ⟨k0_off10 d (BitVec.ofNat 32 (1 + k.val)), k0_off10_inb d k⟩

/-- The tile stream `i` sends at stage `k` of the gathering. -/
def printedAg (d : Dev nD) : Fin 4 → Fin 31 → Off S2048x2048 S64x512.size
  | 0, ⟨0, _⟩ => ⟨k0_off27 d, k0_off27_inb d⟩
  | 0, ⟨r + 1, h⟩ => ⟨k0_off31 d (BitVec.ofNat 32 (1 + r)), k0_off31_inb d ⟨r, by omega⟩⟩
  | 1, ⟨0, _⟩ => ⟨k0_off28 d, k0_off28_inb d⟩
  | 1, ⟨r + 1, h⟩ => ⟨k0_off32 d (BitVec.ofNat 32 (1 + r)), k0_off32_inb d ⟨r, by omega⟩⟩
  | 2, ⟨0, _⟩ => ⟨k0_off29 d, k0_off29_inb d⟩
  | 2, ⟨r + 1, h⟩ => ⟨k0_off17 d (BitVec.ofNat 32 r), k0_off17_inb d ⟨r, by omega⟩⟩
  | 3, ⟨0, _⟩ => ⟨k0_off30 d, k0_off30_inb d⟩
  | 3, ⟨r + 1, h⟩ => ⟨k0_off18 d (BitVec.ofNat 32 r), k0_off18_inb d ⟨r, by omega⟩⟩

/-- The places as device `d` computes them. -/
def printed (d : Dev nD) : Places where
  rows₀ := ⟨k0_off1 d, k0_off1_inb d⟩
  out₀ := ⟨k0_off2 d, k0_off2_inb d⟩
  rows := printedRows d
  half := printedHalf d
  src := printedSrc d
  acc := printedAcc d
  fin j := match j with
    | 0 => ⟨k0_off25 d, k0_off25_inb d⟩
    | 1 => ⟨k0_off26 d, k0_off26_inb d⟩
  ag := printedAg d
  right := ⟨k0_dev2 d, k0_dev2_lt d⟩
  left := ⟨k0_dev1 d, k0_dev1_lt d⟩

/-- The buffers and semaphores of the kernel's one call. -/
def args : Args where
  a := Memref.whole cc0_stg0_0
  b := Memref.whole cc0_stg1_0
  o := Memref.whole cc0_stg2_0
  buf i := match i with
    | 0 => Memref.whole cc0_scratch0
    | 1 => Memref.whole cc0_scratch1
    | 2 => Memref.whole cc0_scratch2
    | 3 => Memref.whole cc0_scratch3
  rsS i := match i with
    | 0 => cc0_scratch4
    | 1 => cc0_scratch6
    | 2 => cc0_scratch8
    | 3 => cc0_scratch10
  rsR i := match i with
    | 0 => cc0_scratch5
    | 1 => cc0_scratch7
    | 2 => cc0_scratch9
    | 3 => cc0_scratch11
  agS i := match i with
    | 0 => cc0_scratch12
    | 1 => cc0_scratch14
    | 2 => cc0_scratch16
    | 3 => cc0_scratch18
  agR i := match i with
    | 0 => cc0_scratch13
    | 1 => cc0_scratch15
    | 2 => cc0_scratch17
    | 3 => cc0_scratch19

/-- The kernel's body on its own buffers. -/
def body : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7
    cc0_scratch8 cc0_scratch9 cc0_scratch10 cc0_scratch11 cc0_scratch12 cc0_scratch13 cc0_scratch14 cc0_scratch15
    cc0_scratch16 cc0_scratch17 cc0_scratch18 cc0_scratch19

end Cert.Proof.Ideal

end
-- ==== Proof.IdealPlaces.lean ====
/-
  The places the kernel computes are those of the ring: every offset is a tile of the device's place, the neighbours
  are the next places to the right and to the left.
-/
module

public import proofs.«01_k».proof.Proof.IdealPrinted
public import proofs.«01_k».proof.Proof.Ring

@[expose] public section

noncomputable section

namespace Cert.Proof.Ideal

open Cert.KernelIdeal Cert.KernelIdeal.Gen
open Idealize.ShloMosaic Idealize.SL.Sem
open Cert.Proof.Ring

/-- Offsets of a tile, of a half row block, of a row block and of rows of the left factor. -/
abbrev tileOff (i : Fin 4) (t : Fin 32) : Off S2048x2048 S64x512.size := ⟨![64 * t.val, 512 * i.val], tile_inb i t⟩
abbrev halfOff (j : Fin 2) (t : Fin 32) : Off S2048x2048 S64x1024.size := ⟨![64 * t.val, 1024 * j.val], half_inb j t⟩
abbrev rowOff (t : Fin 32) : Off S2048x2048 S64x2048.size := ⟨![64 * t.val, 0], row_inb t⟩
abbrev arowOff (t : Fin 32) : Off S2048x1024 S64x1024.size := ⟨![64 * t.val, 0], arow_inb t⟩

/-- A stream whose columns lie in half `j`. -/
def strm (j : Fin 2) : Fin 4 := if j.val = 0 then 0 else 2

/-- The places of device `c`. -/
def places (c : Dev nD) : Places where
  rows₀ := arowOff (pos c)
  out₀ := rowOff (pos c)
  rows j k := arowOff (tileOf (strm j) (k.val + 1) c)
  half j k := halfOff j (tileOf (strm j) (k.val + 1) c)
  src i k := tileOff i (tileOf i k.val c)
  acc i k := tileOff i (tileOf i (k.val + 1) c)
  fin j := halfOff j (tileOf (strm j) 31 c)
  ag i k := tileOff i (tileOf i (31 + k.val) c)
  right := Ring.right c
  left := Ring.left c

theorem printed_rows (c : Dev nD) : (printed c).rows₀ = (places c).rows₀ := by
  apply Subtype.ext; revert c; decide +kernel
theorem printed_out (c : Dev nD) : (printed c).out₀ = (places c).out₀ := by
  apply Subtype.ext; revert c; decide +kernel
theorem printed_rows' (c : Dev nD) (j : Fin 2) (k : Fin 31) : (printed c).rows j k = (places c).rows j k := by
  apply Subtype.ext; revert c j k; decide +kernel
theorem printed_half (c : Dev nD) (j : Fin 2) (k : Fin 31) : (printed c).half j k = (places c).half j k := by
  apply Subtype.ext; revert c j k; decide +kernel
theorem printed_src (c : Dev nD) (i : Fin 4) (k : Fin 31) : (printed c).src i k = (places c).src i k := by
  apply Subtype.ext; revert c i k; decide +kernel
theorem printed_acc (c : Dev nD) (i : Fin 4) (k : Fin 31) : (printed c).acc i k = (places c).acc i k := by
  apply Subtype.ext; revert c i k; decide +kernel
theorem printed_fin (c : Dev nD) (j : Fin 2) : (printed c).fin j = (places c).fin j := by
  apply Subtype.ext; revert c j; decide +kernel
theorem printed_ag (c : Dev nD) (i : Fin 4) (k : Fin 31) : (printed c).ag i k = (places c).ag i k := by
  apply Subtype.ext; revert c i k; decide +kernel
theorem printed_right (c : Dev nD) : (printed c).right = (places c).right := by
  revert c; decide +kernel
theorem printed_left (c : Dev nD) : (printed c).left = (places c).left := by
  revert c; decide +kernel

theorem printed_eq (c : Dev nD) : printed c = places c :=
  Places.ext (printed_rows c) (printed_out c) (funext fun j => funext fun k => printed_rows' c j k)
    (funext fun j => funext fun k => printed_half c j k) (funext fun i => funext fun k => printed_src c i k)
    (funext fun i => funext fun k => printed_acc c i k) (funext fun j => printed_fin c j)
    (funext fun i => funext fun k => printed_ag c i k) (printed_right c) (printed_left c)

theorem peerOf_eq (c : Dev nD) (i : Fin 4) : peerOf (places c) i = peer i c := by
  fin_cases i <;> rfl

end Cert.Proof.Ideal

end
-- ==== Proof.IdealValues.lean ====
/-
  What the arrays hold. Device `c` starts from its columns of the left factor, `A c`, and its rows of the right one,
  `B c`. `prod₀ c` and `prod c` are the products it forms, `part k c` the partial sums it holds when stage `k` of the
  reduction starts, `done` the finished result. The lemmas say that each of the kernel's writes puts the values named here.
-/
module

public import proofs.«01_k».proof.Proof.IdealPlaces
public import proofs.«01_k».proof.Proof.Region
public import Idealize.ShloMosaic.Lib.Writes
public import Idealize.ShloMosaic.Lib.ValueLayout

@[expose] public section

noncomputable section

namespace Cert.Proof.Ideal

open Cert.KernelIdeal Cert.KernelIdeal.Gen
open Idealize.ShloMosaic Idealize.SL.Sem
open Cert.Proof.Ring Idealize.ShloMosaic.ValueIdx

variable {F : FTy → Type} [FloatOps F]

/-- The half of the columns an element lies in. -/
def halfOf (x : S2048x2048.Idx) : Fin 2 := ⟨(strmOf x).val / 2, by have h := (strmOf x).isLt; omega⟩

/-- The place of an element in its row block and in its half row block. -/
def inRow (x : S2048x2048.Idx) : S64x2048.Idx := ix2 (n0 := 64) (n1 := 2048) ⟨(x 0).val % 64, Nat.mod_lt _ (by decide)⟩ (x 1)
def inHalf (x : S2048x2048.Idx) : S64x1024.Idx :=
  ix2 (n0 := 64) (n1 := 1024) ⟨(x 0).val % 64, Nat.mod_lt _ (by decide)⟩ ⟨(x 1).val % 1024, Nat.mod_lt _ (by decide)⟩

/-- All of the right factor, and half of its columns. -/
abbrev bRect : Rect S1024x2048 := Rect.unit (s := S1024x2048) ![0, 0] S1024x2048.size inb_S1024x2048_S1024x2048_0_0
abbrev bHalf (j : Fin 2) : Rect S1024x2048 := Rect.unit (s := S1024x2048) ![0, 1024 * j.val] S1024x1024.size (halfCol_inb j)

/-- Slot `k` of a landing buffer. -/
abbrev slotRect (k : Fin 31) : Rect S31x64x512 := Rect.unit (s := S31x64x512) ![k.val, 0, 0] S1x64x512.size (slot_inb k)

section Values

variable (A : Fin 32 → S2048x1024.Idx → Elt F .f32) (B : Fin 32 → S1024x2048.Idx → Elt F .f32)

/-- The first product of device `c`, and a later one. -/
def prod₀ (c : Fin 32) : S2048x2048.Idx → Elt F .f32 := fun x =>
  dotFull (F := F) (fun y => A c ((arowRect (rowOf x)).emb y)) (fun y => B c (bRect.emb y)) (inRow x)
def prod (c : Fin 32) : S2048x2048.Idx → Elt F .f32 := fun x =>
  dotHalf (F := F) (fun y => A c ((arowRect (rowOf x)).emb y)) (fun y => B c ((bHalf (halfOf x)).emb y)) (inHalf x)

/-- The partial sums device `c` holds at stage `k`. -/
def part : ℕ → Fin 32 → S2048x2048.Idx → Elt F .f32
  | 0, c => prod₀ A B c
  | k + 1, c => fun x => FloatOps.addf (F := F) (prod A B c x) (part k (peer (mir (strmOf x)) c) x)

/-- The sums over all devices, each where it is finished. -/
def total : S2048x2048.Idx → Elt F .f32 := fun x => part A B 31 (owner (strmOf x) (rowOf x)) x

/-- The result. -/
def done : S2048x2048.Idx → Elt F .f32 := fun x =>
  act (F := F) (fun y => total A B ((halfRect (halfOf x) (rowOf x)).emb y)) (inHalf x)

end Values

/-- What tile `t` of stream `i` is in a slot of a landing buffer. -/
def inSlot (i : Fin 4) (t : Fin 32) (X : S2048x2048.Idx → Elt F .f32) : S31x64x512.Idx → Elt F .f32 := fun z =>
  X ((tileRect i t).emb (ix2 (n0 := 64) (n1 := 512) (z 1) (z 2)))

theorem exists_emb {s : Shape} (r : Rect s) {x : s.Idx} (hx : x ∈ r.set) : ∃ y, r.emb y = x := r.exists_idx_of_mem hx
theorem emb_mem_set {s : Shape} (r : Rect s) (y : r.shape.Idx) : r.emb y ∈ r.set := r.idx_mem y

/-! ## Where the elements of a block lie -/

theorem rowOf_half (j : Fin 2) (t : Fin 32) (y : (halfRect j t).shape.Idx) : rowOf ((halfRect j t).emb y) = t := by
  have h : (halfRect j t).emb y ∈ halfSet j t := by rw [← set_halfRect]; exact emb_mem_set _ _
  exact (mem_halfSet.mp h).1

theorem halfOf_half (j : Fin 2) (t : Fin 32) (y : (halfRect j t).shape.Idx) : halfOf ((halfRect j t).emb y) = j := by
  have h : (halfRect j t).emb y ∈ halfSet j t := by rw [← set_halfRect]; exact emb_mem_set _ _
  exact Fin.ext (mem_halfSet.mp h).2

theorem inHalf_half (j : Fin 2) (t : Fin 32) (y : (halfRect j t).shape.Idx) : inHalf ((halfRect j t).emb y) = y := by
  have h := emb_half j t y
  have h0 : (y 0).val < 64 := (y 0).isLt
  have h1 : (y 1).val < 1024 := (y 1).isLt
  rw [eq_ix2 (n0 := 64) (n1 := 1024) y]
  refine congrArg₂ (ix2 (n0 := 64) (n1 := 1024)) (Fin.ext ?_) (Fin.ext ?_)
  · show ((halfRect j t).emb _ 0).val % 64 = (y 0).val
    rw [← eq_ix2 (n0 := 64) (n1 := 1024) y]; omega
  · show ((halfRect j t).emb _ 1).val % 1024 = (y 1).val
    rw [← eq_ix2 (n0 := 64) (n1 := 1024) y]; omega

theorem rowOf_row (t : Fin 32) (y : (rowRect t).shape.Idx) : rowOf ((rowRect t).emb y) = t := by
  have h : (rowRect t).emb y ∈ rowSet t := by rw [← set_rowRect]; exact emb_mem_set _ _
  exact mem_rowSet.mp h

theorem inRow_row (t : Fin 32) (y : (rowRect t).shape.Idx) : inRow ((rowRect t).emb y) = y := by
  have h := emb_row t y
  have h0 : (y 0).val < 64 := (y 0).isLt
  rw [eq_ix2 (n0 := 64) (n1 := 2048) y]
  refine congrArg₂ (ix2 (n0 := 64) (n1 := 2048)) (Fin.ext ?_) (Fin.ext ?_)
  · show ((rowRect t).emb _ 0).val % 64 = (y 0).val
    rw [← eq_ix2 (n0 := 64) (n1 := 2048) y]; omega
  · show ((rowRect t).emb _ 1).val = (y 1).val
    rw [← eq_ix2 (n0 := 64) (n1 := 2048) y]; omega

theorem strmOf_tile (i : Fin 4) (t : Fin 32) (y : (tileRect i t).shape.Idx) : strmOf ((tileRect i t).emb y) = i := by
  have h : (tileRect i t).emb y ∈ tileSet i t := by rw [← set_tileRect]; exact emb_mem_set _ _
  exact (mem_tileSet.mp h).2

theorem set_slotRect (k : Fin 31) : (slotRect k).set = slotSet k.val := by
  ext z
  rw [mem_slotSet, Rect.mem_set_unit]
  have h1 : (z 1).val < 64 := (z 1).isLt
  have h2 : (z 2).val < 512 := (z 2).isLt
  constructor
  · intro h
    have h0 : k.val ≤ (z 0).val ∧ (z 0).val < k.val + 1 := h 0
    omega
  · intro h a
    fin_cases a
    · show k.val ≤ (z 0).val ∧ (z 0).val < k.val + 1; omega
    · show 0 ≤ (z 1).val ∧ (z 1).val < 0 + 64; omega
    · show 0 ≤ (z 2).val ∧ (z 2).val < 0 + 512; omega

theorem inSlot_emb (i : Fin 4) (t : Fin 32) (X : S2048x2048.Idx → Elt F .f32) (k : Fin 31) (z : (slotRect k).shape.Idx) :
    inSlot i t X ((slotRect k).emb z) = X ((tileRect i t).emb (ix2 (n0 := 64) (n1 := 512) (z 1) (z 2))) := by
  unfold inSlot
  congr 2
  refine congrArg₂ (ix2 (n0 := 64) (n1 := 512)) (Fin.ext ?_) (Fin.ext ?_)
  · show 0 + 1 * (z 1).val = (z 1).val; omega
  · show 0 + 1 * (z 2).val = (z 2).val; omega

/-! ## The writes -/

section Writes

variable (A : Fin 32 → S2048x1024.Idx → Elt F .f32) (B : Fin 32 → S1024x2048.Idx → Elt F .f32)

theorem write_prod₀ (c t : Fin 32) (X : S2048x2048.Idx → Elt F .f32) :
    ∀ x ∈ rowSet t, (rowRect t).overlay X
      (dotFull (F := F) (fun y => A c ((arowRect t).emb y)) (fun y => B c (bRect.emb y))) x = part A B 0 c x := by
  intro x hx
  rw [← set_rowRect] at hx
  obtain ⟨y, rfl⟩ := exists_emb (rowRect t) hx
  show _ = prod₀ A B c _
  rw [Rect.overlay_emb, prod₀, rowOf_row, inRow_row]

theorem write_prod (c : Fin 32) (j : Fin 2) (t : Fin 32) (X : S2048x2048.Idx → Elt F .f32) :
    ∀ x ∈ halfSet j t, (halfRect j t).overlay X
      (dotHalf (F := F) (fun y => A c ((arowRect t).emb y)) (fun y => B c ((bHalf j).emb y))) x = prod A B c x := by
  intro x hx
  rw [← set_halfRect] at hx
  obtain ⟨y, rfl⟩ := exists_emb (halfRect j t) hx
  rw [Rect.overlay_emb, prod, rowOf_half, halfOf_half, inHalf_half]

theorem plus_apply (v : Vec F S64x512 .f32) (w : Vec F S1x64x512 .f32) (y : S64x512.Idx) :
    plus (F := F) v w y = FloatOps.addf (F := F) (v y) (w (ix3 (n0 := 1) (n1 := 64) (n2 := 512) 0 (y 0) (y 1))) := by
  unfold plus
  show FloatOps.addf (F := F) (v (Shape.reshapeEquiv _ y)) (w (Shape.reshapeEquiv _ y)) = _
  rw [Shape.reshapeEquiv_self]
  congr 2
  conv_lhs => rw [eq_ix2 (n0 := 64) (n1 := 512) y]
  exact reshapeEquiv_ix2_1ab _ _ _

theorem write_part (c : Fin 32) (i : Fin 4) (t : Fin 32) (k : Fin 31) (X : S2048x2048.Idx → Elt F .f32) :
    ∀ x ∈ tileSet i t, (tileRect i t).overlay X
      (plus (F := F) (fun y => prod A B c ((tileRect i t).emb y))
        (fun z => inSlot i t (part A B k.val (peer (mir i) c)) ((slotRect k).emb z))) x = part A B (k.val + 1) c x := by
  intro x hx
  rw [← set_tileRect] at hx
  obtain ⟨y, rfl⟩ := exists_emb (tileRect i t) hx
  rw [Rect.overlay_emb, plus_apply, inSlot_emb]
  show _ = FloatOps.addf (F := F) (prod A B c _) (part A B k.val (peer (mir (strmOf ((tileRect i t).emb y))) c) _)
  rw [strmOf_tile]
  congr 3
  exact (eq_ix2 (n0 := 64) (n1 := 512) y).symm

theorem write_done (j : Fin 2) (t : Fin 32) (X : S2048x2048.Idx → Elt F .f32) :
    ∀ x ∈ halfSet j t, (halfRect j t).overlay X (act (F := F) (fun y => total A B ((halfRect j t).emb y))) x = done A B x := by
  intro x hx
  rw [← set_halfRect] at hx
  obtain ⟨y, rfl⟩ := exists_emb (halfRect j t) hx
  rw [Rect.overlay_emb, done, rowOf_half, halfOf_half, inHalf_half]

/-- Where a device holds the sums over all devices. -/
theorem total_eq (c : Fin 32) (i : Fin 4) : ∀ x ∈ tileSet i (tileOf i 31 c), part A B 31 c x = total A B x := by
  intro x hx
  obtain ⟨h1, h2⟩ := mem_tileSet.mp hx
  unfold total
  rw [h1, h2, owner_tile]

end Writes

/-- A tile written over the same tile. -/
theorem write_tile (i : Fin 4) (t : Fin 32) (X Y : S2048x2048.Idx → Elt F .f32) :
    ∀ x ∈ tileSet i t, (tileRect i t).overlay X (fun y => Y ((tileRect i t).emb y)) x = Y x := by
  intro x hx
  rw [← set_tileRect] at hx
  obtain ⟨y, rfl⟩ := exists_emb (tileRect i t) hx
  rw [Rect.overlay_emb]

/-- A tile written into a slot. -/
theorem write_slot (i : Fin 4) (t : Fin 32) (k : Fin 31) (X : S31x64x512.Idx → Elt F .f32) (Y : S2048x2048.Idx → Elt F .f32)
    (h : S64x512.numel = S1x64x512.numel) :
    ∀ z ∈ slotSet k.val, (slotRect k).overlay X
      (fun x => (fun y => Y ((tileRect i t).emb y)) ((Shape.reshapeEquiv h).symm x)) z = inSlot i t Y z := by
  intro z hz
  rw [← set_slotRect] at hz
  obtain ⟨z, rfl⟩ := exists_emb (slotRect k) hz
  rw [Rect.overlay_emb, inSlot_emb]
  congr 2
  rw [Equiv.symm_apply_eq]
  refine Eq.trans ?_ (reshapeEquiv_ix2_1ab _ _ _).symm
  conv_lhs => rw [eq_ix3 (n0 := 1) (n1 := 64) (n2 := 512) z]
  congr 1
  exact Subsingleton.elim (α := Fin 1) _ _

end Cert.Proof.Ideal

end
-- ==== Proof.IdealSched.lean ====
/-
  The protocol. Every transfer has two cells of its own, one on the sender and one on the receiver; a cell is used once.
  The sender's cell gives the sent tile back; the receiver's cell hands over the tile that arrived and, while the
  gathering is being prepared, the place on the sender that the receiver will write to later. The barrier cell of a device
  hands it its neighbours' landing buffers. Also here: what a device owes, and the levels that order the waits.
-/
module

public import proofs.«01_k».proof.Proof.IdealValues
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof.Ideal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Ring Cert.Proof.Region

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev tcOf (c : Dev nD) : Thread nD τ := Dev.tc c

/-- The cell of stream `i` at stage `k`, of the sends (`0`) or the arrivals (`1`). -/
def sem (d : Fin 2) (i : Fin 4) (k : ℕ) : DmaSem sig :=
  ⟨(3 + 31 * (2 * i.val + d.val + 8 * (k / 31)) + k % 31) % 499, Nat.mod_lt _ (by decide)⟩

/-- Which cell a number belongs to. -/
def dirOf (s : DmaSem sig) : Fin 2 := ⟨(s.val - 3) / 31 % 2, Nat.mod_lt _ (by decide)⟩
def strOf (s : DmaSem sig) : Fin 4 := ⟨(s.val - 3) / 31 / 2 % 4, Nat.mod_lt _ (by decide)⟩
def stgOf (s : DmaSem sig) : ℕ := (s.val - 3) % 31 + 31 * ((s.val - 3) / 31 / 8)

theorem sem_val (d : Fin 2) (i : Fin 4) {k : ℕ} (hk : k < 62) :
    (sem d i k).val = 3 + 31 * (2 * i.val + d.val + 8 * (k / 31)) + k % 31 := by
  have hd := d.isLt
  have hi := i.isLt
  show (3 + 31 * (2 * i.val + d.val + 8 * (k / 31)) + k % 31) % 499 = _
  apply Nat.mod_eq_of_lt
  omega

theorem dirOf_sem (d : Fin 2) (i : Fin 4) {k : ℕ} (hk : k < 62) : dirOf (sem d i k) = d := by
  have hd := d.isLt
  have hi := i.isLt
  apply Fin.ext
  show ((sem d i k).val - 3) / 31 % 2 = d.val
  rw [sem_val d i hk]; omega

theorem strOf_sem (d : Fin 2) (i : Fin 4) {k : ℕ} (hk : k < 62) : strOf (sem d i k) = i := by
  have hd := d.isLt
  have hi := i.isLt
  apply Fin.ext
  show ((sem d i k).val - 3) / 31 / 2 % 4 = i.val
  rw [sem_val d i hk]; omega

theorem stgOf_sem (d : Fin 2) (i : Fin 4) {k : ℕ} (hk : k < 62) : stgOf (sem d i k) = k := by
  have hd := d.isLt
  have hi := i.isLt
  unfold stgOf
  rw [sem_val d i hk]; omega

theorem sem_ge (d : Fin 2) (i : Fin 4) {k : ℕ} (hk : k < 62) : 3 ≤ (sem d i k).val := by
  rw [sem_val d i hk]; omega

theorem sem_inj {d d' : Fin 2} {i i' : Fin 4} {k k' : ℕ} (hk : k < 62) (hk' : k' < 62) (h : sem d i k = sem d' i' k') :
    d = d' ∧ i = i' ∧ k = k' :=
  ⟨by rw [← dirOf_sem d i hk, h, dirOf_sem d' i' hk'], by rw [← strOf_sem d i hk, h, strOf_sem d' i' hk'],
    by rw [← stgOf_sem d i hk, h, stgOf_sem d' i' hk']⟩

theorem cell_rsS (i : Fin 4) (k : Fin 31) : cellM (args.rsS i) k = sem 0 i k.val := by revert i k; decide +kernel
theorem cell_rsR (i : Fin 4) (k : Fin 31) : cellM (args.rsR i) k = sem 1 i k.val := by revert i k; decide +kernel
theorem cell_agS (i : Fin 4) (k : Fin 31) : cellM (args.agS i) k = sem 0 i (31 + k.val) := by revert i k; decide +kernel
theorem cell_agR (i : Fin 4) (k : Fin 31) : cellM (args.agR i) k = sem 1 i (31 + k.val) := by revert i k; decide +kernel

abbrev barS : Sem sig := (SemArray.scalar (sig.barrier 0 rfl) : Sems sig S_).sem
abbrev barCell (c : Dev nD) : GSem nD τ sig := (tcOf c, .reg barS)
abbrev cell (d : Fin 2) (c : Dev nD) (i : Fin 4) (k : ℕ) : GSem nD τ sig := (tcOf c, .dma (sem d i k))

/-- The credit of a tile. -/
abbrev N : ℕ := (tileM args (tileOff 0 0)).view.dmaCredit
theorem N_pos : 0 < N := View.dmaCredit_pos _ (by decide)
theorem credit_tile (o : Off S2048x2048 S64x512.size) : (tileM args o).view.dmaCredit = N := rfl
theorem credit_slot (i : Fin 4) (k : Fin 31) : (slotM args i k).view.dmaCredit = N := by fin_cases i <;> rfl

/-! ## The arrays on the devices -/

theorem whole_a : (args.a).IsWhole := Memref.isWhole_whole _
theorem whole_b : (args.b).IsWhole := Memref.isWhole_whole _
theorem whole_o : (args.o).IsWhole := Memref.isWhole_whole _
theorem whole_buf (i : Fin 4) : (args.buf i).IsWhole := by fin_cases i <;> exact Memref.isWhole_whole _

abbrev aReg (c : Dev nD) (X : S2048x1024.Idx → Elt F .f32) : sProp 𝕄 := reg (tcOf c) (m := args.a) whole_a Finset.univ X
abbrev bReg (c : Dev nD) (X : S1024x2048.Idx → Elt F .f32) : sProp 𝕄 := reg (tcOf c) (m := args.b) whole_b Finset.univ X
abbrev oReg (c : Dev nD) (R : Finset S2048x2048.Idx) (X : S2048x2048.Idx → Elt F .f32) : sProp 𝕄 :=
  reg (tcOf c) (m := args.o) whole_o R X
abbrev bufReg (c : Dev nD) (i : Fin 4) (R : Finset S31x64x512.Idx) (X : S31x64x512.Idx → Elt F .f32) : sProp 𝕄 :=
  reg (tcOf c) (m := args.buf i) (whole_buf i) R X

/-! ## What the cells hand over -/

section Sched

variable (A : Dev nD → S2048x1024.Idx → Elt F .f32) (B : Dev nD → S1024x2048.Idx → Elt F .f32)

/-- The contents of the tile sent at stage `k`. -/
def val (k : ℕ) (c : Dev nD) : S2048x2048.Idx → Elt F .f32 := if k < 31 then part A B k c else done A B

/-- The slot stage `k` of stream `i` of device `c` writes, on the neighbour; -/
def slotAt (i : Fin 4) (k : ℕ) (c : Dev nD) : sProp 𝕄 := iprop(∃ X, bufReg (peer i c) i (slotSet k) X)
/-- the tile of the result it writes there while gathering. -/
def tileAt (i : Fin 4) (k : ℕ) (c : Dev nD) : sProp 𝕄 :=
  iprop(∃ X, oReg (peer i c) (tileSet i (tileOf i (k + 1) (peer i c))) X)
/-- A neighbour's whole landing buffer. -/
def bufAt (i : Fin 4) (c : Dev nD) : sProp 𝕄 := iprop(∃ X, bufReg (peer i c) i Finset.univ X)

/-- The sent tile. -/
def sent (i : Fin 4) (k : ℕ) (c : Dev nD) : sProp 𝕄 := oReg c (tileSet i (tileOf i k c)) (val A B k c)

/-- The place handed over along with the tile of stage `k`, for the other way's stage `30 + k`. -/
def extra (i : Fin 4) (k : ℕ) (c : Dev nD) : sProp 𝕄 := if 1 ≤ k ∧ k ≤ 31 then tileAt (mir i) (30 + k) c else iprop(emp)

/-- The tile that arrived. -/
def came (i : Fin 4) (k : ℕ) (c : Dev nD) : sProp 𝕄 :=
  if k < 31 then bufReg c i (slotSet k) (inSlot i (tileOf i k (peer (mir i) c)) (part A B k (peer (mir i) c)))
  else oReg c (tileSet i (tileOf i (k + 1) c)) (done A B)

def xferPay (d : Fin 2) (i : Fin 4) (k : ℕ) (c : Dev nD) : sProp 𝕄 :=
  if d = 0 then sent A B i k c else iprop(came A B i k c ∗ extra i k c)

/-- A device's neighbour to the right (`false`) or to the left (`true`) hands it the two buffers it sends into there. -/
def barPay (c : Dev nD) (d : Bool) : sProp 𝕄 :=
  if d then iprop(bufAt 2 c ∗ bufAt 3 c) else iprop(bufAt 0 c ∗ bufAt 1 c)

omit [FloatOps F] in
instance slotAt_storable (i : Fin 4) (k : ℕ) (c : Dev nD) : BI.Storable (upEmb : UEmb _ 𝕄) (slotAt (F := F) i k c) := by
  unfold slotAt; infer_instance
omit [FloatOps F] in
instance tileAt_storable (i : Fin 4) (k : ℕ) (c : Dev nD) : BI.Storable (upEmb : UEmb _ 𝕄) (tileAt (F := F) i k c) := by
  unfold tileAt; infer_instance
omit [FloatOps F] in
instance bufAt_storable (i : Fin 4) (c : Dev nD) : BI.Storable (upEmb : UEmb _ 𝕄) (bufAt (F := F) i c) := by
  unfold bufAt; infer_instance
instance sent_storable (i : Fin 4) (k : ℕ) (c : Dev nD) : BI.Storable (upEmb : UEmb _ 𝕄) (sent A B i k c) := by
  unfold sent; infer_instance
omit [FloatOps F] in
instance extra_storable (i : Fin 4) (k : ℕ) (c : Dev nD) : BI.Storable (upEmb : UEmb _ 𝕄) (extra (F := F) i k c) := by
  unfold extra; split <;> infer_instance
instance came_storable (i : Fin 4) (k : ℕ) (c : Dev nD) : BI.Storable (upEmb : UEmb _ 𝕄) (came A B i k c) := by
  unfold came; split <;> infer_instance
instance xferPay_storable (d : Fin 2) (i : Fin 4) (k : ℕ) (c : Dev nD) :
    BI.Storable (upEmb : UEmb _ 𝕄) (xferPay A B d i k c) := by
  unfold xferPay; split <;> infer_instance
omit [FloatOps F] in
instance barPay_storable (c : Dev nD) (d : Bool) : BI.Storable (upEmb : UEmb _ 𝕄) (barPay (F := F) c d) := by
  unfold barPay; split <;> infer_instance

/-- Every cell has one round; a barrier cell two duties of one unit, a transfer's cell one duty of a tile's credit. -/
def sched : Rounds.Schedule (GSem nD τ sig) Bool 𝕄 where
  duties g r := if r = 0 ∧ g.1.2 = .tc then
      (match g.2 with | .reg _ => Finset.univ | .dma s => if 3 ≤ s.val then {false} else ∅) else ∅
  unitless _ := False
  amount g _ _ := match g.2 with | .reg _ => 1 | .dma _ => N
  payload g _ d := match g.2 with
    | .reg _ => barPay g.1.1 d
    | .dma s => xferPay A B (dirOf s) (strOf s) (stgOf s) g.1.1
  amount_pos g _ _ _ := by
    rcases g with ⟨t, s | s⟩
    · exact Nat.one_pos
    · exact N_pos

instance sched_storable (g : GSem nD τ sig) (r : ℕ) (d : Bool) :
    BI.Storable (upEmb : UEmb _ 𝕄) ((sched A B).payload g r d) := by
  rcases g with ⟨t, s | s⟩
  · show BI.Storable upEmb (barPay t.1 d); infer_instance
  · show BI.Storable upEmb (xferPay A B (dirOf s) (strOf s) (stgOf s) t.1); infer_instance

section Facts

variable (c : Dev nD) (d : Fin 2) (i : Fin 4) {k : ℕ}

theorem duties_bar : (sched A B).duties (barCell c) 0 = Finset.univ := by
  dsimp only [sched]; exact if_pos ⟨rfl, rfl⟩
theorem duties_cell (hk : k < 62) : (sched A B).duties (cell d c i k) 0 = {false} := by
  dsimp only [sched]
  rw [if_pos (sem_ge d i hk)]
  exact if_pos ⟨rfl, rfl⟩
theorem duties_later (g : GSem nD τ sig) : ∀ r, 1 ≤ r → (sched A B).duties g r = ∅ :=
  fun r hr => if_neg fun h => by omega

theorem amount_bar (b : Bool) : (sched A B).amount (barCell c) 0 b = 1 := rfl
theorem amount_cell (b : Bool) : (sched A B).amount (cell d c i k) 0 b = N := rfl

theorem expect_bar : (sched A B).expect (barCell c) 0 = 2 := by
  unfold Schedule.expect Schedule.amountOf
  rw [duties_bar, Finset.sum_congr rfl fun d _ => amount_bar A B c d, Finset.sum_const, Finset.card_univ,
    Fintype.card_bool, smul_eq_mul]
theorem expect_cell (hk : k < 62) : (sched A B).expect (cell d c i k) 0 = N := by
  unfold Schedule.expect Schedule.amountOf; rw [duties_cell A B c d i hk, Finset.sum_singleton, amount_cell]

theorem payload_bar (b : Bool) : (sched A B).payload (barCell c) 0 b = barPay c b := rfl
theorem payload_cell (hk : k < 62) (b : Bool) : (sched A B).payload (cell d c i k) 0 b = xferPay A B d i k c := by
  show xferPay A B (dirOf (sem d i k)) (strOf (sem d i k)) (stgOf (sem d i k)) c = _
  rw [dirOf_sem d i hk, strOf_sem d i hk, stgOf_sem d i hk]

theorem rest_bar : bigSep ((sched A B).duties (barCell c) 0 \ ∅) (fun b => (sched A B).payload (barCell c) 0 b)
    = iprop((bufAt 0 c ∗ bufAt 1 c) ∗ bufAt 2 c ∗ bufAt 3 c) := by
  rw [Finset.sdiff_empty, duties_bar, bigSep_univ_eq_bigSepL [false, true] (by decide) (by decide), bigSepL_cons_cons,
    bigSepL_singleton, payload_bar, payload_bar]
  rfl
theorem rest_cell (hk : k < 62) : bigSep ((sched A B).duties (cell d c i k) 0 \ ∅)
    (fun b => (sched A B).payload (cell d c i k) 0 b) = xferPay A B d i k c := by
  rw [Finset.sdiff_empty, duties_cell A B c d i hk, bigSep_singleton, payload_cell A B c d i hk]

end Facts

end Sched

/-! ## What a device owes, and the levels -/

/-- The stream of the `m`-th transfer. -/
def nth (m : ℕ) : Fin 4 := ⟨m % 4, Nat.mod_lt _ (by decide)⟩

/-- What device `c` owes after its first `ℓ` transfers; at launch it owes its neighbours a signal each besides. -/
def Ow (c : Dev nD) (ℓ : ℕ) : CellTallies nD τ sig Unit :=
  ∑ m ∈ Finset.Ico ℓ 248, tallyAt (cell 1 (peer (nth m) c) (nth m) (m / 4)) () N
def O₁ (c : Dev nD) : CellTallies nD τ sig Unit := Ow c 0 + tallyAt (barCell (right c)) () 1
def O₀ (c : Dev nD) : CellTallies nD τ sig Unit := O₁ c + tallyAt (barCell (left c)) () 1

theorem Ow_step (c : Dev nD) (i : Fin 4) {k : ℕ} (hk : k < 62) :
    Ow c (4 * k + i.val) = Ow c (4 * k + i.val + 1) + tallyAt (cell 1 (peer i c) i k) () N := by
  have hi := i.isLt
  unfold Ow
  have hs : Finset.Ico (4 * k + i.val) 248 = insert (4 * k + i.val) (Finset.Ico (4 * k + i.val + 1) 248) := by
    ext m
    rw [Finset.mem_insert, Finset.mem_Ico, Finset.mem_Ico]
    omega
  rw [hs, Finset.sum_insert (fun h => by have := (Finset.mem_Ico.mp h).1; omega), add_comm]
  have h1 : nth (4 * k + i.val) = i := Fin.ext (by show (4 * k + i.val) % 4 = i.val; omega)
  have h2 : (4 * k + i.val) / 4 = k := by omega
  rw [h1, h2]

theorem Ow_end (c : Dev nD) : Ow c 248 = 0 := by unfold Ow; rw [Finset.Ico_self, Finset.sum_empty]

theorem Ow_apply (c : Dev nD) (ℓ : ℕ) (g : GSem nD τ sig) (u : Unit) :
    Ow c ℓ g u = ∑ m ∈ Finset.Ico ℓ 248, (tallyAt (cell 1 (peer (nth m) c) (nth m) (m / 4)) () N : CellTallies nD τ sig Unit) g u := by
  unfold Ow
  rw [Finset.sum_apply, Finsupp.finset_sum_apply]

theorem Ow_pos {c : Dev nD} {ℓ : ℕ} {g : GSem nD τ sig} {u : Unit} (h : 0 < Ow c ℓ g u) :
    ∃ m, ℓ ≤ m ∧ m < 248 ∧ g = cell 1 (peer (nth m) c) (nth m) (m / 4) := by
  rw [Ow_apply] at h
  obtain ⟨m, hm, h0⟩ := Finset.exists_ne_zero_of_sum_ne_zero (Nat.ne_of_gt h)
  refine ⟨m, (Finset.mem_Ico.mp hm).1, (Finset.mem_Ico.mp hm).2, ?_⟩
  rw [tallyAt_apply] at h0
  by_contra hn
  rw [if_neg fun h' => hn h'.1] at h0
  exact h0 rfl

theorem O₀_pos {c : Dev nD} {g : GSem nD τ sig} {u : Unit} (h : 0 < O₀ c g u) :
    (∃ m, m < 248 ∧ g = cell 1 (peer (nth m) c) (nth m) (m / 4)) ∨ ∃ e, g = barCell e := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨m, -, hm, hg⟩ := Ow_pos (by simpa using h)
  exact hn.1 ⟨m, hm, hg⟩

def L (g : GSem nD τ sig) : Finset Unit := if g.1.2 = .tc then {()} else ∅
/-- Staging and sends at 0, the barrier at 1, arrivals of stage `k` at `2 + k`. -/
def lv (g : GSem nD τ sig) (_ : Unit) : ℕ := match g.2 with
  | .reg _ => 1
  | .dma s => if s.val < 3 ∨ dirOf s = 0 then 0 else 2 + stgOf s

theorem L_of_ne (g : GSem nD τ sig) (h : g.1.2 ≠ .tc) : L g = ∅ := if_neg h
theorem L_tc (c : Dev nD) (sm : SemLoc sig) : L (tcOf c, sm) = {()} := if_pos rfl

theorem lv_send (c : Dev nD) (i : Fin 4) {k : ℕ} (hk : k < 62) (u : Unit) : lv (cell 0 c i k) u = 0 :=
  if_pos (Or.inr (dirOf_sem 0 i hk))
theorem lv_recv (c : Dev nD) (i : Fin 4) {k : ℕ} (hk : k < 62) (u : Unit) : lv (cell 1 c i k) u = 2 + k := by
  show (if (sem 1 i k).val < 3 ∨ dirOf (sem 1 i k) = 0 then 0 else 2 + stgOf (sem 1 i k)) = _
  have h := sem_ge 1 i hk
  rw [if_neg, stgOf_sem 1 i hk]
  rw [dirOf_sem 1 i hk]
  rintro (h' | h')
  · omega
  · exact absurd h' (by decide)

variable (F) in
/-- A wait at a level below everything owed. -/
theorem mayWait (c : Dev nD) (sm : SemLoc sig) (ℓ : ℕ) (h : lv (tcOf c, sm) () < 2 + ℓ / 4) :
    (levAts L lv : sProp 𝕄) ⊢ MayWait (tcOf c) sm () (Ow c ℓ) :=
  MayOwe.of_cut (L := L) (lev := lv) (lv (tcOf c, sm) ())
    (fun p hp => by rw [Finset.mem_singleton.mp hp, L_tc]; exact Finset.mem_singleton_self _)
    (fun g u hg => by obtain ⟨m, -, -, rfl⟩ := Ow_pos hg; exact Finset.mem_singleton_self _)
    (fun p hp => by rw [Finset.mem_singleton.mp hp])
    (fun g u hg => by
      obtain ⟨m, h1, h2, rfl⟩ := Ow_pos hg
      rw [lv_recv _ _ (by omega)]
      have := Nat.div_le_div_right (c := 4) h1
      omega)

variable (F) in
theorem mayWait_stage (c : Dev nD) (s : DmaSem sig) (hs : s.val < 3) (O : CellTallies nD τ sig Unit) (hO : O = O₀ c ∨ O = 0) :
    (levAts L lv : sProp 𝕄) ⊢ MayWait (tcOf c) (.dma s) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨m, -, rfl⟩ | ⟨e, rfl⟩ <;> exact Finset.mem_singleton_self _)
      (fun p hp => by
        rw [Finset.mem_singleton.mp hp]
        exact Nat.le_of_eq (if_pos (Or.inl hs)))
      (fun g u hg => by
        rcases O₀_pos hg with ⟨m, hm, rfl⟩ | ⟨e, rfl⟩
        · rw [lv_recv _ _ (by omega)]; omega
        · exact Nat.one_pos)
  · rw [MayWait_zero]; iintro -; iempintro

end Cert.Proof.Ideal

end
-- ==== Proof.IdealSteps.lean ====
/-
  What each operation of the kernel does to what a device holds: one lemma per operation.
-/
module

public import proofs.«01_k».proof.Proof.IdealSched

@[expose] public section

noncomputable section

namespace Cert.Proof.Ideal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Ring Cert.Proof.Region

variable {F : FTy → Type} [FloatOps F]

local notation "𝕄" => MT nD τ sig Unit (Elt F) ℕ UU ℕ

abbrev 𝒱₀ : Variants := Variants.none

/-- Running `p` on device `c` ends with `Q`. -/
abbrev run (c : Dev nD) (p : Prog (TpuEff nD τ sig (Elt F) Λ₀ .tc) PUnit) (Q : sProp 𝕄) : sProp 𝕄 :=
  wp frame (wpE (defs₀ (F := F)) 𝒱₀ (tcOf c) none) Set.univ p (fun _ => Q)

/-- One program after another. -/
theorem run_step {c : Dev nD} {p q : Prog (TpuEff nD τ sig (Elt F) Λ₀ .tc) PUnit} {P Q R : sProp 𝕄}
    (h : P ⊢ run c p Q) : P ⊢ iprop((Q -∗ run c q R) -∗ run c (p >>= fun _ => q) R) := by
  iintro HP HQ
  unfold run
  rw [wp_bind]
  ihave H := h $$ HP
  iapply (wp_wand _ _ _) $$ H
  iintro %a HQ'
  iapply HQ
  iexact HQ'

section Steps

variable (A : Dev nD → S2048x1024.Idx → Elt F .f32) (B : Dev nD → S1024x2048.Idx → Elt F .f32)

/-- The cells are under their protocol and at their first round. -/
def recs : sProp 𝕄 :=
  iprop((bigSep Finset.univ fun x : Dev nD × Fin 2 × Fin 4 × Fin 62 =>
      iprop((∃ κ : ℕ, cellInv ER (sched A B) κ (cell x.2.1 x.1 x.2.2.1 x.2.2.2.val))
        ∗ reached ER (cell x.2.1 x.1 x.2.2.1 x.2.2.2.val) 0))
    ∗ bigSep Finset.univ fun c : Dev nD =>
      iprop((∃ κ : ℕ, cellInv ER (sched A B) κ (barCell c)) ∗ reached ER (barCell c) 0))

instance recs_persistent : BI.Persistent (recs A B) := by unfold recs; infer_instance

theorem recs_cell (d : Fin 2) (c : Dev nD) (i : Fin 4) {k : ℕ} (hk : k < 62) :
    recs A B ⊢ iprop((∃ κ : ℕ, cellInv ER (sched A B) κ (cell d c i k)) ∗ reached ER (cell d c i k) 0) := by
  unfold recs
  exact sep_elim_left.trans
    (bigSep_elim (Φ := fun x : Dev nD × Fin 2 × Fin 4 × Fin 62 =>
      iprop((∃ κ : ℕ, cellInv ER (sched A B) κ (cell x.2.1 x.1 x.2.2.1 x.2.2.2.val))
        ∗ reached ER (cell x.2.1 x.1 x.2.2.1 x.2.2.2.val) 0)) (Finset.mem_univ (c, d, i, (⟨k, hk⟩ : Fin 62))))

theorem recs_bar (c : Dev nD) :
    recs A B ⊢ iprop((∃ κ : ℕ, cellInv ER (sched A B) κ (barCell c)) ∗ reached ER (barCell c) 0) := by
  unfold recs
  exact sep_elim_right.trans
    (bigSep_elim (Φ := fun c : Dev nD =>
      iprop((∃ κ : ℕ, cellInv ER (sched A B) κ (barCell c)) ∗ reached ER (barCell c) 0)) (Finset.mem_univ c))

/-- What the device owes. -/
def owing (c : Dev nD) (ℓ : ℕ) : sProp 𝕄 := iprop(∃ W, owes (tcOf c) (Ow c ℓ) W)

/-- Stage `k` of stream `i` before its transfer starts, -/
def pend (i : Fin 4) (k : ℕ) (c : Dev nD) : sProp 𝕄 :=
  iprop(dutyTok ER (cell 0 c i k) 0 false ∗ dutyTok ER (cell 1 (peer i c) i k) 0 false
    ∗ atPos ER (cell 0 c i k) 0 ∅ 0 ∗ atPos ER (cell 1 c i k) 0 ∅ 0 ∗ cred (tallyAt (cell 1 c i k) () N))
/-- while it is under way, -/
def fly (i : Fin 4) (k : ℕ) (c : Dev nD) : sProp 𝕄 :=
  iprop(cred (tallyAt (cell 0 c i k) () N) ∗ atPos ER (cell 0 c i k) 0 ∅ 0 ∗ atPos ER (cell 1 c i k) 0 ∅ 0
    ∗ cred (tallyAt (cell 1 c i k) () N))
/-- and after both waits. -/
def over (i : Fin 4) (k : ℕ) (c : Dev nD) : sProp 𝕄 :=
  iprop(semVal (cell 0 c i k) 0 ∗ semVal (cell 1 c i k) 0)

/-! ## Transfers -/

theorem tile_pts (c : Dev nD) (i : Fin 4) (t : Fin 32) (X : S2048x2048.Idx → Elt F .f32) :
    ((tileM args (tileOff i t)).view.loc (tcOf c) ↦[(tileM args (tileOff i t)).view.set]{fullShare} whole_o.unread X : sProp 𝕄)
      = oReg c (tileSet i t) X := by
  have h := reg_slice (Ix := Unit) (Name := ℕ) (U := UU) (Lvl := ℕ) (tcOf c) (m := args.o) whole_o (tileRect i t) X
  rw [set_tileRect] at h
  exact h

theorem slot_pts (c : Dev nD) (i : Fin 4) (k : Fin 31) (X : S31x64x512.Idx → Elt F .f32) :
    ((slotM args i k).view.loc (tcOf c) ↦[(slotM args i k).view.set]{fullShare} (whole_buf i).unread X : sProp 𝕄)
      = bufReg c i (slotSet k.val) X := by
  have h := reg_slice (Ix := Unit) (Name := ℕ) (U := UU) (Lvl := ℕ) (tcOf c) (m := args.buf i) (whole_buf i) (slotRect k) X
  rw [set_slotRect] at h
  refine Eq.trans ?_ h
  have hs : (slotM args i k).view.set = ((args.buf i).view.slice (slotRect k)).set := View.set_reshape _ _
  rw [hs]

theorem tile_read (i : Fin 4) (t : Fin 32) (X : S2048x2048.Idx → Elt F .f32) :
    (tileM args (tileOff i t)).view.read (Elt F) (whole_o.unread X) = fun y => X ((tileRect i t).emb y) := by
  have h := whole_o.read_unread (Val := Elt F) X
  funext y
  exact congrFun h ((tileRect i t).emb y)

theorem tile_write (c : Dev nD) (i : Fin 4) (t : Fin 32) (X Y : S2048x2048.Idx → Elt F .f32) :
    ((tileM args (tileOff i t)).view.loc (tcOf c) ↦[(tileM args (tileOff i t)).view.set]{fullShare}
        ((tileM args (tileOff i t)).view.write (Elt F) (whole_o.unread X)
          ((tileM args (tileOff i t)).view.read (Elt F) (whole_o.unread Y)) Finset.univ) : sProp 𝕄)
      = oReg c (tileSet i t) Y := by
  rw [tile_read]
  have h := slice_write (tcOf c) (m := args.o) whole_o (tileRect i t) X (fun y => Y ((tileRect i t).emb y))
  refine Eq.trans (congrArg (fun f => ((tileM args (tileOff i t)).view.loc (tcOf c)
    ↦[(tileM args (tileOff i t)).view.set]{fullShare} f : sProp 𝕄)) h) ?_
  rw [tile_pts]
  exact reg_congr _ _ (write_tile i t X Y)

theorem slot_write (c : Dev nD) (i : Fin 4) (k : Fin 31) (t : Fin 32) (X : S31x64x512.Idx → Elt F .f32)
    (Y : S2048x2048.Idx → Elt F .f32) :
    ((slotM args i k).view.loc (tcOf c) ↦[(slotM args i k).view.set]{fullShare}
        ((slotM args i k).view.write (Elt F) ((whole_buf i).unread X)
          ((tileM args (tileOff i t)).view.read (Elt F) (whole_o.unread Y)) Finset.univ) : sProp 𝕄)
      = bufReg c i (slotSet k.val) (inSlot i t Y) := by
  rw [tile_read]
  have h0 := View.write_reshape_univ (Val := Elt F) ((args.buf i).view.slice (slotRect k))
    (squeezes_S1x64x512_S64x512).numel_eq ((whole_buf i).unread X) (fun y => Y ((tileRect i t).emb y))
  have h := h0.trans (slice_write (tcOf c) (m := args.buf i) (whole_buf i) (slotRect k) X _)
  refine Eq.trans (congrArg (fun f => ((slotM args i k).view.loc (tcOf c)
    ↦[(slotM args i k).view.set]{fullShare} f : sProp 𝕄)) h) ?_
  rw [slot_pts]
  exact reg_congr _ _ (write_slot i t k X Y _)

section Sends

variable {c n : Dev nD} {i : Fin 4} {s₁ s₂ : DmaSem sig}

/-- A transfer of the reduction. -/
theorem wp_rsSend {R : sProp 𝕄} {q : PUnit → Prog (TpuEff nD τ sig (Elt F) Λ₀ .tc) PUnit}
    (k : Fin 31) (hn : n = peer i c) (h₁ : s₁ = sem 0 i k.val) (h₂ : s₂ = sem 1 i k.val)
    {hsc : (slotM args i k : Memref sig (Dev.tc n : Thread nD τ).2.kind .vmem S64x512 .f32).view.ref.isScScratch = false}
    {hsrc : (tileM args (tileOff i (tileOf i k.val c))).view.WordExact} {hdst : (slotM args i k).view.WordExact}
    {hsem : DmaTarget.Typed .vmem (.dma s₂) (.remote (Dev.tc n : Thread nD τ) (slotM args i k) (.dma s₁) hsc)} :
    iprop(recs A B ∗ sent A B i k.val c ∗ slotAt i k.val c ∗ extra i k.val (peer i c) ∗ pend i k.val c
        ∗ owing c (4 * k.val + i.val))
      ⊢ iprop(((fly i k.val c ∗ owing c (4 * k.val + i.val + 1)) -∗ run c (q ⟨⟩) R)
        -∗ run c (.op (.enqueueDma (tileM args (tileOff i (tileOf i k.val c)))
            (.remote (Dev.tc n : Thread nD τ) (slotM args i k) (.dma s₁) hsc) (.dma s₂) hsrc hdst hsem) q) R) := by
  subst hn h₁ h₂
  have hk : k.val < 62 := by omega
  unfold slotAt pend owing sent val
  rw [if_pos k.isLt]
  iintro ⟨#Hr, Hs, ⟨%X, Hd⟩, He, ⟨Ht₁, Ht₂, Ha₁, Ha₂, Hc⟩, ⟨%W, HO⟩⟩ Hk
  ihave H₁ := (recs_cell A B 0 c i hk) $$ Hr
  ihave H₂ := (recs_cell A B 1 (peer i c) i hk) $$ Hr
  icases H₁ with ⟨⟨%κ₁, #HI₁⟩, #HR₁⟩
  icases H₂ with ⟨⟨%κ₂, #HI₂⟩, #HR₂⟩
  iapply (Rounds.wp_send_pointsTo_with 𝒱₀ ER (sched A B) (tcOf c) none (c' := tcOf (peer i c)) (κ₁ := κ₁) (κ₂ := κ₂)
    (sS := .dma (sem 0 i k.val)) (sem := .dma (sem 1 i k.val))
    (src := tileM args (tileOff i (tileOf i k.val c))) (dst := slotM args i k) (q := fullShare)
    (fs := whole_o.unread (part A B k.val c)) (fd := (whole_buf i).unread X) (F := extra i k.val (peer i c))
    (r₁ := 0) (r₂ := 0) (d₁ := false) (d₂ := false)
    (by rw [duties_cell A B c 0 i hk]; exact Finset.mem_singleton_self _)
    (by rw [duties_cell A B (peer i c) 1 i hk]; exact Finset.mem_singleton_self _)
    () () N (credit_slot i k) (amount_cell A B c 0 i false) (amount_cell A B (peer i c) 1 i false)
    (Ow c (4 * k.val + i.val + 1)) (Ow_step c i hk) (W := W)
    (by
      rw [payload_cell A B c 0 i hk, tile_pts]
      unfold xferPay sent val
      rw [if_pos rfl, if_pos k.isLt])
    (by
      rw [payload_cell A B (peer i c) 1 i hk, slot_write]
      unfold xferPay came
      rw [if_neg (by decide), if_pos k.isLt, peer_mir'])) $$ [Hs Hd He Ht₁ Ht₂ HO]
  · isplitr; · iexact HI₁
    isplitr; · iexact HI₂
    rw [tile_pts, slot_pts]
    isplitl [Hs]; · iexact Hs
    isplitl [Hd He]
    · isplitl [Hd]; · iexact Hd
      iexact He
    isplitl [HO]; · iexact HO
    isplitl [Ht₁]; · iexact Ht₁
    isplitr; · iexact HR₁
    isplitl [Ht₂]; · iexact Ht₂
    iexact HR₂
  iintro ⟨Hcs, HO⟩
  iapply Hk
  unfold fly
  isplitr [HO]
  · isplitl [Hcs]; · iexact Hcs
    isplitl [Ha₁]; · iexact Ha₁
    isplitl [Ha₂]; · iexact Ha₂
    iexact Hc
  iexists W
  iexact HO

/-- A transfer of the gathering. -/
theorem wp_agSend {R : sProp 𝕄} {q : PUnit → Prog (TpuEff nD τ sig (Elt F) Λ₀ .tc) PUnit}
    (k : Fin 31) (hn : n = peer i c) (h₁ : s₁ = sem 0 i (31 + k.val)) (h₂ : s₂ = sem 1 i (31 + k.val))
    {hsc : (tileM args (tileOff i (tileOf i (31 + k.val) c)) :
      Memref sig (Dev.tc n : Thread nD τ).2.kind .vmem S64x512 .f32).view.ref.isScScratch = false}
    {hsrc hdst : (tileM args (tileOff i (tileOf i (31 + k.val) c))).view.WordExact}
    {hsem : DmaTarget.Typed .vmem (.dma s₂)
      (.remote (Dev.tc n : Thread nD τ) (tileM args (tileOff i (tileOf i (31 + k.val) c))) (.dma s₁) hsc)} :
    iprop(recs A B ∗ sent A B i (31 + k.val) c ∗ tileAt i (31 + k.val) c ∗ extra i (31 + k.val) (peer i c)
        ∗ pend i (31 + k.val) c ∗ owing c (4 * (31 + k.val) + i.val))
      ⊢ iprop(((fly i (31 + k.val) c ∗ owing c (4 * (31 + k.val) + i.val + 1)) -∗ run c (q ⟨⟩) R)
        -∗ run c (.op (.enqueueDma (tileM args (tileOff i (tileOf i (31 + k.val) c)))
            (.remote (Dev.tc n : Thread nD τ) (tileM args (tileOff i (tileOf i (31 + k.val) c))) (.dma s₁) hsc)
            (.dma s₂) hsrc hdst hsem) q) R) := by
  subst hn h₁ h₂
  have hk : 31 + k.val < 62 := by omega
  unfold tileAt pend owing sent val
  rw [if_neg (by omega), tile_peer]
  iintro ⟨#Hr, Hs, ⟨%X, Hd⟩, He, ⟨Ht₁, Ht₂, Ha₁, Ha₂, Hc⟩, ⟨%W, HO⟩⟩ Hk
  ihave H₁ := (recs_cell A B 0 c i hk) $$ Hr
  ihave H₂ := (recs_cell A B 1 (peer i c) i hk) $$ Hr
  icases H₁ with ⟨⟨%κ₁, #HI₁⟩, #HR₁⟩
  icases H₂ with ⟨⟨%κ₂, #HI₂⟩, #HR₂⟩
  iapply (Rounds.wp_send_pointsTo_with 𝒱₀ ER (sched A B) (tcOf c) none (c' := tcOf (peer i c)) (κ₁ := κ₁) (κ₂ := κ₂)
    (sS := .dma (sem 0 i (31 + k.val))) (sem := .dma (sem 1 i (31 + k.val)))
    (src := tileM args (tileOff i (tileOf i (31 + k.val) c))) (dst := tileM args (tileOff i (tileOf i (31 + k.val) c)))
    (q := fullShare)
    (fs := whole_o.unread (done A B)) (fd := whole_o.unread X) (F := extra i (31 + k.val) (peer i c))
    (r₁ := 0) (r₂ := 0) (d₁ := false) (d₂ := false)
    (by rw [duties_cell A B c 0 i hk]; exact Finset.mem_singleton_self _)
    (by rw [duties_cell A B (peer i c) 1 i hk]; exact Finset.mem_singleton_self _)
    () () N (credit_tile _) (amount_cell A B c 0 i false) (amount_cell A B (peer i c) 1 i false)
    (Ow c (4 * (31 + k.val) + i.val + 1)) (Ow_step c i hk) (W := W)
    (by
      rw [payload_cell A B c 0 i hk, tile_pts]
      unfold xferPay sent val
      rw [if_pos rfl, if_neg (by omega)])
    (by
      rw [payload_cell A B (peer i c) 1 i hk, tile_write]
      unfold xferPay came
      rw [if_neg (by decide), if_neg (by omega), tile_peer])) $$ [Hs Hd He Ht₁ Ht₂ HO]
  · isplitr; · iexact HI₁
    isplitr; · iexact HI₂
    rw [tile_pts, tile_pts]
    isplitl [Hs]; · iexact Hs
    isplitl [Hd He]
    · isplitl [Hd]; · iexact Hd
      iexact He
    isplitl [HO]; · iexact HO
    isplitl [Ht₁]; · iexact Ht₁
    isplitr; · iexact HR₁
    isplitl [Ht₂]; · iexact Ht₂
    iexact HR₂
  iintro ⟨Hcs, HO⟩
  iapply Hk
  unfold fly
  isplitr [HO]
  · isplitl [Hcs]; · iexact Hcs
    isplitl [Ha₁]; · iexact Ha₁
    isplitl [Ha₂]; · iexact Ha₂
    iexact Hc
  iexists W
  iexact HO

/-- A wait for a transfer's cell, which is then closed. -/
theorem wp_waitCell {R : sProp 𝕄} {q : PUnit → Prog (TpuEff nD τ sig (Elt F) Λ₀ .tc) PUnit}
    (d : Fin 2) {k : ℕ} (hk : k < 62) (h₁ : s₁ = sem d i k) {ℓ : ℕ} (hℓ : d = 0 ∨ 4 * (k + 1) ≤ ℓ)
    {src dst : Memref sig .tc .vmem S64x512 .f32} {hsrc : src.view.WordExact} {hdst : dst.view.WordExact}
    (hN : dst.view.dmaCredit = N) :
    iprop(recs A B ∗ levAts L lv ∗ cred (tallyAt (cell d c i k) () N) ∗ atPos ER (cell d c i k) 0 ∅ 0 ∗ owing c ℓ)
      ⊢ iprop(((semVal (cell d c i k) 0 ∗ xferPay A B d i k c ∗ owing c ℓ) -∗ run c (q ⟨⟩) R)
        -∗ run c (.op (.waitDma2 s₁ src dst hsrc hdst) q) R) := by
  subst h₁
  unfold owing
  iintro ⟨#Hr, #Hlev, Hc, Ha, ⟨%W, HO⟩⟩ Hk
  ihave H₁ := (recs_cell A B d c i hk) $$ Hr
  icases H₁ with ⟨⟨%κ₁, #HI₁⟩, -⟩
  have hlv : lv (tcOf c, .dma (sem d i k)) () < 2 + ℓ / 4 := by
    rcases hℓ with rfl | hℓ
    · rw [lv_send c i hk]; omega
    · have hd : ∀ e : Fin 2, e = 0 ∨ e = 1 := by decide
      rcases hd d with rfl | rfl
      · rw [lv_send c i hk]; omega
      · rw [lv_recv c i hk]; omega
  iapply (Rounds.wp_wait_rest_token 𝒱₀ ER (sched A B) (tcOf c) none (κ := κ₁)
      (wpE_waitDma2_eq 𝒱₀ (tcOf c) none Set.univ) (Set.mem_univ _) () (O := Ow c ℓ) (W := W) (R := 0) (m := 0) (T := ∅)
      (by rw [Nat.zero_add, expect_cell A B c d i hk, hN])) $$ [Hc Ha HO]
  · isplitr; · iexact HI₁
    rw [hN]
    isplitl [Hc]; · iexact Hc
    isplitl [HO]; · iexact HO
    isplitr; · iapply (mayWait F c _ ℓ hlv); iexact Hlev
    iexact Ha
  iintro ⟨HO, Ha, -, Hpay⟩
  ihave Hp := (Entails.of_eq (rest_cell A B c d i hk)) $$ Hpay
  imod (Rounds.cell_close ER (sched A B) (Set.mem_univ κ₁) (fun h => h) (R := 0 + 1) (duties_later A B (cell d c i k))) $$ [Ha] with Hz
  · isplitr; · iexact HI₁
    iexact Ha
  iapply Hk
  isplitl [Hz]; · iexact Hz
  isplitl [Hp]; · iexact Hp
  iexists _
  iexact HO

end Sends

variable (c : Dev nD)

theorem pay_send (i : Fin 4) (k : ℕ) : xferPay A B 0 i k c = sent A B i k c := by
  unfold xferPay
  rw [if_pos rfl]

theorem pay_rs (i : Fin 4) (k : Fin 31) : xferPay A B 1 i k.val c
    = iprop(bufReg c i (slotSet k.val) (inSlot i (tileOf i (k.val + 1) c) (part A B k.val (peer (mir i) c)))
      ∗ extra i k.val c) := by
  have ht : tileOf i k.val (peer (mir i) c) = tileOf i (k.val + 1) c := by
    rw [← tile_peer, peer_mir]
  unfold xferPay came
  rw [if_neg (by decide), if_pos k.isLt, ht]

theorem pay_ag (i : Fin 4) (k : Fin 31) : xferPay A B 1 i (31 + k.val) c
    = iprop(sent A B i (31 + k.val + 1) c ∗ extra i (31 + k.val) c) := by
  unfold xferPay came sent val
  rw [if_neg (by decide), if_neg (by omega), if_neg (by omega)]

theorem turn {c : Dev nD} {R : Finset S2048x2048.Idx} {X Y : S2048x2048.Idx → Elt F .f32} (h : ∀ x ∈ R, X x = Y x) :
    oReg c R X ⊢ (oReg c R Y : sProp 𝕄) := Entails.of_eq (reg_congr (tcOf c) whole_o h)

theorem run_rsStart (i : Fin 4) (k : Fin 31) :
    iprop(recs A B ∗ sent A B i k.val c ∗ slotAt i k.val c ∗ extra i k.val (peer i c) ∗ pend i k.val c
        ∗ owing c (4 * k.val + i.val))
      ⊢ run c (rsStart args (places c) i k) iprop(fly i k.val c ∗ owing c (4 * k.val + i.val + 1)) := by
  unfold rsStart
  simp only [Prog.lift]
  iintro H
  iapply (wp_rsSend A B k (peerOf_eq c i) (cell_rsS i k) (cell_rsR i k)) $$ H
  iintro H
  unfold run; rw [wp_ret]; imodintro
  iexact H

theorem run_agStart (i : Fin 4) (k : Fin 31) :
    iprop(recs A B ∗ sent A B i (31 + k.val) c ∗ tileAt i (31 + k.val) c ∗ extra i (31 + k.val) (peer i c)
        ∗ pend i (31 + k.val) c ∗ owing c (4 * (31 + k.val) + i.val))
      ⊢ run c (agStart args (places c) i k) iprop(fly i (31 + k.val) c ∗ owing c (4 * (31 + k.val) + i.val + 1)) := by
  unfold agStart
  simp only [Prog.lift]
  iintro H
  iapply (wp_agSend A B k (peerOf_eq c i) (cell_agS i k) (cell_agR i k)) $$ H
  iintro H
  unfold run; rw [wp_ret]; imodintro
  iexact H

theorem run_agFin (i : Fin 4) (k : Fin 31) (ℓ : ℕ) (hℓ : 4 * (31 + k.val + 1) ≤ ℓ) :
    iprop(recs A B ∗ levAts L lv ∗ fly i (31 + k.val) c ∗ owing c ℓ)
      ⊢ run c (agFin args (places c) i k) iprop(over i (31 + k.val) c ∗ sent A B i (31 + k.val) c
        ∗ sent A B i (31 + k.val + 1) c ∗ extra i (31 + k.val) c ∗ owing c ℓ) := by
  have hk : 31 + k.val < 62 := by omega
  unfold agFin fly
  simp only [Prog.lift, Prog.bind_op, Prog.bind_ret]
  iintro ⟨#Hr, #Hl, ⟨Hc₁, Ha₁, Ha₂, Hc₂⟩, HO⟩
  iapply (wp_waitCell A B 0 hk (cell_agS i k) (ℓ := ℓ) (Or.inl rfl) (credit_tile _)) $$ [Hc₁ Ha₁ HO]
  · isplitr; · iexact Hr
    isplitr; · iexact Hl
    isplitl [Hc₁]; · iexact Hc₁
    isplitl [Ha₁]; · iexact Ha₁
    iexact HO
  iintro ⟨Hz₁, Hs, HO⟩
  iapply (wp_waitCell A B 1 hk (cell_agR i k) (ℓ := ℓ) (Or.inr hℓ) (credit_tile _)) $$ [Hc₂ Ha₂ HO]
  · isplitr; · iexact Hr
    isplitr; · iexact Hl
    isplitl [Hc₂]; · iexact Hc₂
    isplitl [Ha₂]; · iexact Ha₂
    iexact HO
  iintro ⟨Hz₂, Hp, HO⟩
  unfold run; rw [wp_ret]; imodintro
  ihave Hs := (Entails.of_eq (pay_send A B c i (31 + k.val))) $$ Hs
  ihave Hp := (Entails.of_eq (pay_ag A B c i k)) $$ Hp
  icases Hp with ⟨Hp, He⟩
  unfold over
  isplitl [Hz₁ Hz₂]
  · isplitl [Hz₁]; · iexact Hz₁
    iexact Hz₂
  isplitl [Hs]; · iexact Hs
  isplitl [Hp]; · iexact Hp
  isplitl [He]; · iexact He
  iexact HO

/-! ## Stages of the reduction -/

/-- A slot whose block has been used. -/
def slotBack (i : Fin 4) (k : ℕ) (c : Dev nD) : sProp 𝕄 := iprop(∃ X, bufReg c i (slotSet k) X)

theorem run_rsFin (i : Fin 4) (k : Fin 31) (ℓ : ℕ) (hℓ : 4 * (k.val + 1) ≤ ℓ) :
    iprop(recs A B ∗ levAts L lv ∗ fly i k.val c ∗ oReg c (tileSet i (tileOf i (k.val + 1) c)) (prod A B c) ∗ owing c ℓ)
      ⊢ run c (rsFin args (places c) i k) iprop(over i k.val c ∗ sent A B i k.val c ∗ slotBack i k.val c ∗ extra i k.val c
        ∗ oReg c (tileSet i (tileOf i (k.val + 1) c)) (part A B (k.val + 1) c) ∗ owing c ℓ) := by
  have hk : k.val < 62 := by omega
  unfold rsFin rsPut fly
  simp only [Prog.lift, Prog.bind_op, Prog.bind_ret]
  iintro ⟨#Hr, #Hl, ⟨Hc₁, Ha₁, Ha₂, Hc₂⟩, Ht, HO⟩
  iapply (wp_waitCell A B 0 hk (cell_rsS i k) (ℓ := ℓ) (Or.inl rfl) (credit_tile _)) $$ [Hc₁ Ha₁ HO]
  · isplitr; · iexact Hr
    isplitr; · iexact Hl
    isplitl [Hc₁]; · iexact Hc₁
    isplitl [Ha₁]; · iexact Ha₁
    iexact HO
  iintro ⟨Hz₁, Hs, HO⟩
  iapply (wp_waitCell A B 1 hk (cell_rsR i k) (ℓ := ℓ) (Or.inr hℓ) (credit_slot i k)) $$ [Hc₂ Ha₂ HO]
  · isplitr; · iexact Hr
    isplitr; · iexact Hl
    isplitl [Hc₂]; · iexact Hc₂
    isplitl [Ha₂]; · iexact Ha₂
    iexact HO
  iintro ⟨Hz₂, Hp, HO⟩
  ihave Hs := (Entails.of_eq (pay_send A B c i k.val)) $$ Hs
  ihave Hp := (Entails.of_eq (pay_rs A B c i k)) $$ Hp
  icases Hp with ⟨Hp, He⟩
  unfold over
  dsimp only [places]
  iapply (wp_load_reg (tcOf c) (m := args.o) whole_o 𝒱₀ none Set.univ (r := tileRect i (tileOf i (k.val + 1) c))
    (subset_of_eq (set_tileRect _ _))) $$ Ht
  iintro Ht
  iapply (wp_load_reg (tcOf c) (m := args.buf i) (whole_buf i) 𝒱₀ none Set.univ (r := slotRect k)
    (subset_of_eq (set_slotRect _))) $$ Hp
  iintro Hp
  iapply (wp_load_reg (tcOf c) (m := args.o) whole_o 𝒱₀ none Set.univ (r := tileRect i (tileOf i (k.val + 1) c))
    (subset_of_eq (set_tileRect _ _))) $$ Ht
  iintro Ht
  iapply (wp_store_reg (tcOf c) (m := args.o) whole_o 𝒱₀ none Set.univ (r := tileRect i (tileOf i (k.val + 1) c))
    (subset_of_eq (set_tileRect _ _))) $$ Ht
  iintro Ht
  rw [wp_ret]; imodintro
  isplitl [Hz₁ Hz₂]
  · isplitl [Hz₁]; · iexact Hz₁
    iexact Hz₂
  isplitl [Hs]; · iexact Hs
  isplitl [Hp]
  · unfold slotBack
    iexists _
    iexact Hp
  isplitl [He]; · iexact He
  isplitl [Ht]
  · iapply (turn (Y := part A B (k.val + 1) c) ?_) $$ Ht
    exact write_part A B c i (tileOf i (k.val + 1) c) k (prod A B c)
  iexact HO

theorem run_dots (j : Fin 2) (k : Fin 31) (X : S2048x2048.Idx → Elt F .f32) :
    iprop(aReg c (A c) ∗ bReg c (B c) ∗ oReg c (halfSet j (tileOf (strm j) (k.val + 1) c)) X)
      ⊢ run c (dots args (places c) j k) iprop(aReg c (A c) ∗ bReg c (B c)
        ∗ oReg c (halfSet j (tileOf (strm j) (k.val + 1) c)) (prod A B c)) := by
  unfold dots dotPut
  simp only [Prog.lift, Prog.bind_op, Prog.bind_ret]
  dsimp only [places]
  iintro ⟨Ha, Hb, Ho⟩
  iapply (wp_load_reg (tcOf c) (m := args.a) whole_a 𝒱₀ none Set.univ (r := arowRect (tileOf (strm j) (k.val + 1) c))
    (Finset.subset_univ _)) $$ Ha
  iintro Ha
  iapply (wp_load_reg (tcOf c) (m := args.b) whole_b 𝒱₀ none Set.univ (r := bHalf j) (Finset.subset_univ _)) $$ Hb
  iintro Hb
  iapply (wp_load_reg (tcOf c) (m := args.o) whole_o 𝒱₀ none Set.univ (r := halfRect j (tileOf (strm j) (k.val + 1) c))
    (subset_of_eq (set_halfRect _ _))) $$ Ho
  iintro Ho
  iapply (wp_store_reg (tcOf c) (m := args.o) whole_o 𝒱₀ none Set.univ (r := halfRect j (tileOf (strm j) (k.val + 1) c))
    (subset_of_eq (set_halfRect _ _))) $$ Ho
  iintro Ho
  rw [wp_ret]; imodintro
  isplitl [Ha]; · iexact Ha
  isplitl [Hb]; · iexact Hb
  iapply (turn (Y := prod A B c) ?_) $$ Ho
  exact write_prod A B c j (tileOf (strm j) (k.val + 1) c) X

theorem run_dot₀ (X : S2048x2048.Idx → Elt F .f32) :
    iprop(aReg c (A c) ∗ bReg c (B c) ∗ oReg c (rowSet (pos c)) X)
      ⊢ run c (dot₀ args (places c)) iprop(aReg c (A c) ∗ bReg c (B c) ∗ oReg c (rowSet (pos c)) (part A B 0 c)) := by
  unfold dot₀
  simp only [Prog.lift, Prog.bind_op, Prog.bind_ret]
  dsimp only [places]
  iintro ⟨Ha, Hb, Ho⟩
  iapply (wp_load_reg (tcOf c) (m := args.a) whole_a 𝒱₀ none Set.univ (r := arowRect (pos c)) (Finset.subset_univ _)) $$ Ha
  iintro Ha
  iapply (wp_load_reg (tcOf c) (m := args.b) whole_b 𝒱₀ none Set.univ (r := bRect) (Finset.subset_univ _)) $$ Hb
  iintro Hb
  iapply (wp_load_reg (tcOf c) (m := args.o) whole_o 𝒱₀ none Set.univ (r := rowRect (pos c))
    (subset_of_eq (set_rowRect _))) $$ Ho
  iintro Ho
  iapply (wp_store_reg (tcOf c) (m := args.o) whole_o 𝒱₀ none Set.univ (r := rowRect (pos c))
    (subset_of_eq (set_rowRect _))) $$ Ho
  iintro Ho
  rw [wp_ret]; imodintro
  isplitl [Ha]; · iexact Ha
  isplitl [Hb]; · iexact Hb
  iapply (turn (Y := part A B 0 c) ?_) $$ Ho
  exact write_prod₀ A B c (pos c) X

theorem run_gelu (j : Fin 2) :
    oReg c (halfSet j (tileOf (strm j) 31 c)) (total A B)
      ⊢ run c (gelu args (places c) j) (oReg c (halfSet j (tileOf (strm j) 31 c)) (done A B)) := by
  unfold gelu
  simp only [Prog.lift, Prog.bind_op, Prog.bind_ret]
  dsimp only [places]
  iintro Ho
  iapply (wp_load_reg (tcOf c) (m := args.o) whole_o 𝒱₀ none Set.univ (r := halfRect j (tileOf (strm j) 31 c))
    (subset_of_eq (set_halfRect _ _))) $$ Ho
  iintro Ho
  iapply (wp_load_reg (tcOf c) (m := args.o) whole_o 𝒱₀ none Set.univ (r := halfRect j (tileOf (strm j) 31 c))
    (subset_of_eq (set_halfRect _ _))) $$ Ho
  iintro Ho
  iapply (wp_store_reg (tcOf c) (m := args.o) whole_o 𝒱₀ none Set.univ (r := halfRect j (tileOf (strm j) 31 c))
    (subset_of_eq (set_halfRect _ _))) $$ Ho
  iintro Ho
  rw [wp_ret]; imodintro
  iapply (turn (Y := done A B) ?_) $$ Ho
  exact write_done A B j (tileOf (strm j) 31 c) (total A B)

/-! ## The meeting -/

/-- What a device brings to the meeting. -/
def meeting (c : Dev nD) : sProp 𝕄 :=
  iprop(dutyTok ER (barCell (left c)) 0 false ∗ dutyTok ER (barCell (right c)) 0 true ∗ atPos ER (barCell c) 0 ∅ 0
    ∗ cred (tallyAt (barCell c) () 2))

theorem bufAt_left (i : Fin 4) (hi : i.val < 2) (X : S31x64x512.Idx → Elt F .f32) :
    bufReg c i Finset.univ X ⊢ (bufAt i (left c) : sProp 𝕄) := by
  unfold bufAt
  have h : peer i (left c) = c := by unfold peer; rw [if_pos hi, right_left]
  rw [h]
  iintro H
  iexists X
  iexact H

theorem bufAt_right (i : Fin 4) (hi : ¬ i.val < 2) (X : S31x64x512.Idx → Elt F .f32) :
    bufReg c i Finset.univ X ⊢ (bufAt i (right c) : sProp 𝕄) := by
  unfold bufAt
  have h : peer i (right c) = c := by unfold peer; rw [if_neg hi, left_right]
  rw [h]
  iintro H
  iexists X
  iexact H

theorem run_meet (W : Waits sig Unit) (X₀ X₁ X₂ X₃ : S31x64x512.Idx → Elt F .f32) :
    iprop(recs A B ∗ levAts L lv ∗ meeting c ∗ owes (tcOf c) (O₀ c) W
        ∗ bufReg c 0 Finset.univ X₀ ∗ bufReg c 1 Finset.univ X₁ ∗ bufReg c 2 Finset.univ X₂ ∗ bufReg c 3 Finset.univ X₃)
      ⊢ run c (meet (places c)) iprop(semVal (barCell c) 0 ∗ bufAt 0 c ∗ bufAt 1 c ∗ bufAt 2 c ∗ bufAt 3 c ∗ owing c 0) := by
  unfold meet meeting
  simp only [semSignalWord, semWaitWord, Prog.lift, Prog.bind_op, Prog.bind_ret, Prog.pure_eq_ret]
  dsimp only [places]
  iintro ⟨#Hr, #Hl, ⟨HtL, HtR, Ha, Hc⟩, HO, H0, H1, H2, H3⟩
  ihave HL := (recs_bar A B (left c)) $$ Hr
  icases HL with ⟨⟨%κL, #HIL⟩, #HRL⟩
  ihave HR := (recs_bar A B (right c)) $$ Hr
  icases HR with ⟨⟨%κR, #HIR⟩, #HRR⟩
  ihave HB := (recs_bar A B c) $$ Hr
  icases HB with ⟨⟨%κB, #HIB⟩, -⟩
  iapply (Rounds.wp_signal 𝒱₀ ER (sched A B) (tcOf c) none (dst := tcOf (left c)) (κ := κL)
      (d := false) (by rw [duties_bar]; exact Finset.mem_univ _) ((amount_bar A B (left c) false).trans (by decide)) () (O₁ c) rfl)
    $$ [HO HtL H0 H1]
  · isplitr; · iexact HIL
    isplitl [HO]; · iexact HO
    isplitl [HtL]; · iexact HtL
    isplitl [H0 H1]
    · rw [payload_bar]; unfold barPay; rw [if_neg Bool.false_ne_true]
      isplitl [H0]
      · iapply (bufAt_left c 0 (by decide) X₀); iexact H0
      · iapply (bufAt_left c 1 (by decide) X₁); iexact H1
    iexact HRL
  iintro HO
  iapply (Rounds.wp_signal 𝒱₀ ER (sched A B) (tcOf c) none (dst := tcOf (right c)) (κ := κR)
      (d := true) (by rw [duties_bar]; exact Finset.mem_univ _) ((amount_bar A B (right c) true).trans (by decide)) () (Ow c 0) rfl)
    $$ [HO HtR H2 H3]
  · isplitr; · iexact HIR
    isplitl [HO]; · iexact HO
    isplitl [HtR]; · iexact HtR
    isplitl [H2 H3]
    · rw [payload_bar]; unfold barPay; rw [if_pos rfl]
      isplitl [H2]
      · iapply (bufAt_right c 2 (by decide) X₂); iexact H2
      · iapply (bufAt_right c 3 (by decide) X₃); iexact H3
    iexact HRR
  iintro HO
  iapply (Rounds.wp_wait_rest_token 𝒱₀ ER (sched A B) (tcOf c) none (κ := κB)
      (wpE_semWait_eq 𝒱₀ (tcOf c) none Set.univ) (Set.mem_univ _) () (O := Ow c 0) (W := W) (R := 0) (m := 0) (T := ∅)
      (by rw [expect_bar]; decide)) $$ [Hc HO Ha]
  · isplitr; · iexact HIB
    isplitl [Hc]; · iexact Hc
    isplitl [HO]; · iexact HO
    isplitr; · iapply (mayWait F c (.reg barS) 0 (by show 1 < 2 + 0 / 4; omega)); iexact Hl
    iexact Ha
  iintro ⟨HO, Ha, -, Hpay⟩
  ihave Hp := (Entails.of_eq (rest_bar A B c)) $$ Hpay
  icases Hp with ⟨⟨H0, H1⟩, H2, H3⟩
  imod (Rounds.cell_close ER (sched A B) (Set.mem_univ κB) (fun h => h) (R := 0 + 1) (duties_later A B (barCell c))) $$ [Ha] with Hz
  · isplitr; · iexact HIB
    iexact Ha
  rw [wp_ret]; imodintro
  isplitl [Hz]; · iexact Hz
  isplitl [H0]; · iexact H0
  isplitl [H1]; · iexact H1
  isplitl [H2]; · iexact H2
  isplitl [H3]; · iexact H3
  unfold owing
  iexists _
  iexact HO

end Steps

end Cert.Proof.Ideal

end
-- ==== Proof.IdealStages.lean ====
/-
  The kernel stage by stage: what a device holds before and after each.
-/
module

public import proofs.«01_k».proof.Proof.IdealSteps
public import proofs.«01_k».proof.Proof.Fold

@[expose] public section

noncomputable section

namespace Cert.Proof.Ideal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Ring Cert.Proof.Region Cert.Proof.Fold

variable {F : FTy → Type} [FloatOps F]

local notation "𝕄" => MT nD τ sig Unit (Elt F) ℕ UU ℕ

/-- The end of a program, with what it leaves turned into something else. -/
theorem run_last {c : Dev nD} {p : Prog (TpuEff nD τ sig (Elt F) Λ₀ .tc) PUnit} {P Q R : sProp 𝕄}
    (h : P ⊢ run c p Q) : P ⊢ iprop((Q -∗ R) -∗ run c p R) := by
  iintro HP HQ
  unfold run
  ihave H := h $$ HP
  iapply (wp_wand _ _ _) $$ H
  iintro %a HQ'
  iapply HQ
  iexact HQ'

/-- An operation of each of the four streams. -/
theorem run_four {c : Dev nD} {f : Fin 4 → Prog (TpuEff nD τ sig (Elt F) Λ₀ .tc) PUnit} {J : sProp 𝕄}
    [BI.Persistent J] {P Q : Fin 4 → sProp 𝕄} {I : ℕ → sProp 𝕄}
    (h : ∀ i : Fin 4, iprop(J ∗ P i ∗ I i.val) ⊢ run c (f i) iprop(Q i ∗ I (i.val + 1))) :
    iprop(J ∗ q4 P ∗ I 0) ⊢ run c (four f) iprop(q4 Q ∗ I 4) := by
  have h0 : iprop(J ∗ P 0 ∗ I 0) ⊢ run c (f 0) iprop(Q 0 ∗ I 1) := h 0
  have h1 : iprop(J ∗ P 1 ∗ I 1) ⊢ run c (f 1) iprop(Q 1 ∗ I 2) := h 1
  have h2 : iprop(J ∗ P 2 ∗ I 2) ⊢ run c (f 2) iprop(Q 2 ∗ I 3) := h 2
  have h3 : iprop(J ∗ P 3 ∗ I 3) ⊢ run c (f 3) iprop(Q 3 ∗ I 4) := h 3
  unfold four q4
  iintro ⟨#HJ, ⟨P0, P1, P2, P3⟩, HI⟩
  iapply (run_step h0) $$ [P0 HI]
  · isplitr; · iexact HJ
    isplitl [P0]; · iexact P0
    iexact HI
  iintro ⟨Q0, HI⟩
  iapply (run_step h1) $$ [P1 HI]
  · isplitr; · iexact HJ
    isplitl [P1]; · iexact P1
    iexact HI
  iintro ⟨Q1, HI⟩
  iapply (run_step h2) $$ [P2 HI]
  · isplitr; · iexact HJ
    isplitl [P2]; · iexact P2
    iexact HI
  iintro ⟨Q2, HI⟩
  iapply (run_last h3) $$ [P3 HI]
  · isplitr; · iexact HJ
    isplitl [P3]; · iexact P3
    iexact HI
  iintro ⟨Q3, HI⟩
  isplitr [HI]
  · isplitl [Q0]; · iexact Q0
    isplitl [Q1]; · iexact Q1
    isplitl [Q2]; · iexact Q2
    iexact Q3
  iexact HI

section Stages

variable (A : Dev nD → S2048x1024.Idx → Elt F .f32) (B : Dev nD → S1024x2048.Idx → Elt F .f32) (c : Dev nD)

/-- What all the cells share. -/
def known : sProp 𝕄 := iprop(recs A B ∗ levAts L lv)

instance known_persistent : BI.Persistent (known A B) := by unfold known; infer_instance

/-- A tile after its product has been stored; -/
def dotted (i : Fin 4) (k : ℕ) (c : Dev nD) : sProp 𝕄 := oReg c (tileSet i (tileOf i (k + 1) c)) (prod A B c)
/-- half a row block, before; -/
def halfAt (j : Fin 2) (k : ℕ) (c : Dev nD) : sProp 𝕄 := iprop(∃ X, oReg c (halfSet j (tileOf (strm j) k c)) X)
/-- both factors' blocks. -/
def factors (c : Dev nD) : sProp 𝕄 := iprop(aReg c (A c) ∗ bReg c (B c))

theorem halves₀ (k : ℕ) (X : S2048x2048.Idx → Elt F .f32) : (oReg c (halfSet 0 (tileOf (strm 0) k c)) X : sProp 𝕄)
    = iprop(oReg c (tileSet 0 (tileOf 0 k c)) X ∗ oReg c (tileSet 1 (tileOf 1 k c)) X) := by
  have h : tileOf 1 k c = tileOf 0 k c := tile_half 1 0 rfl k (pos c)
  rw [h, ← reg_union (tcOf c) whole_o (tiles_disjoint (by decide) _ _) X, ← halfSet_zero]
  rfl

theorem halves₁ (k : ℕ) (X : S2048x2048.Idx → Elt F .f32) : (oReg c (halfSet 1 (tileOf (strm 1) k c)) X : sProp 𝕄)
    = iprop(oReg c (tileSet 2 (tileOf 2 k c)) X ∗ oReg c (tileSet 3 (tileOf 3 k c)) X) := by
  have h : tileOf 3 k c = tileOf 2 k c := tile_half 3 2 rfl k (pos c)
  rw [h, ← reg_union (tcOf c) whole_o (tiles_disjoint (by decide) _ _) X, ← halfSet_one]
  rfl

/-- The two halves are the four tiles. -/
theorem halves_tiles (k : ℕ) (X : S2048x2048.Idx → Elt F .f32) :
    iprop(oReg c (halfSet 0 (tileOf (strm 0) k c)) X ∗ oReg c (halfSet 1 (tileOf (strm 1) k c)) X)
      = q4 fun i => (oReg c (tileSet i (tileOf i k c)) X : sProp 𝕄) := by
  rw [halves₀, halves₁]
  exact pairs fun i => (oReg c (tileSet i (tileOf i k c)) X : sProp 𝕄)

theorem sent_rs (i : Fin 4) {k : ℕ} (hk : k < 31) :
    sent A B i k c = oReg c (tileSet i (tileOf i k c)) (part A B k c) := by
  unfold sent val
  rw [if_pos hk]

theorem sent_ag (i : Fin 4) {k : ℕ} (hk : ¬ k < 31) :
    sent A B i k c = oReg c (tileSet i (tileOf i k c)) (done A B) := by
  unfold sent val
  rw [if_neg hk]

/-- A tile that has been sent is the place a later stage of the other way writes. -/
theorem extra_of_sent (i : Fin 4) {k : ℕ} (hk : k ≤ 30) : sent A B (mir i) k c ⊢ extra i (k + 1) (peer i c) := by
  unfold sent extra tileAt
  rw [if_pos ⟨by omega, by omega⟩, peer_mir']
  have h : tileOf (mir i) (30 + (k + 1) + 1) c = tileOf (mir i) k c := by
    rw [show 30 + (k + 1) + 1 = k + 32 by omega]
    exact tile_period _ _ _
  rw [h]
  iintro H
  iexists _
  iexact H

theorem extra_emp (i : Fin 4) (k : ℕ) (h : ¬ (1 ≤ k ∧ k ≤ 31)) (c : Dev nD) : (extra i k c : sProp 𝕄) = iprop(emp) := by
  unfold extra
  rw [if_neg h]

/-- Between a stage's starts and its waits. -/
def mid (k : ℕ) (c : Dev nD) : sProp 𝕄 :=
  iprop(q4 (fun i => fly i k c) ∗ q4 (fun i => dotted A B i k c) ∗ factors A B c ∗ owing c (4 * (k + 1)))

theorem run_starts (k : Fin 31) :
    iprop(known A B ∗ q4 (fun i => iprop(sent A B i k.val c ∗ slotAt i k.val c ∗ extra i k.val (peer i c) ∗ pend i k.val c))
        ∗ halfAt 0 (k.val + 1) c ∗ halfAt 1 (k.val + 1) c ∗ factors A B c ∗ owing c (4 * k.val))
      ⊢ run c (starts args (places c) k) (mid A B k.val c) := by
  have h4 := run_four (c := c) (f := fun i => rsStart args (places c) i k) (J := known A B)
    (P := fun i => iprop(sent A B i k.val c ∗ slotAt i k.val c ∗ extra i k.val (peer i c) ∗ pend i k.val c))
    (Q := fun i => fly i k.val c) (I := fun n => owing c (4 * k.val + n)) (by
      intro i
      unfold known
      iintro ⟨⟨#Hr, -⟩, ⟨Hs, Hd, He, Hp⟩, HO⟩
      iapply (run_rsStart A B c i k)
      isplitr; · iexact Hr
      isplitl [Hs]; · iexact Hs
      isplitl [Hd]; · iexact Hd
      isplitl [He]; · iexact He
      isplitl [Hp]; · iexact Hp
      iexact HO)
  unfold starts halfAt factors
  iintro ⟨#HJ, Hq, ⟨%X, H0⟩, ⟨%Y, H1⟩, ⟨Ha, Hb⟩, HO⟩
  iapply (run_step h4) $$ [Hq HO]
  · isplitr; · iexact HJ
    isplitl [Hq]; · iexact Hq
    iexact HO
  iintro ⟨Hf, HO⟩
  iapply (run_step (run_dots A B c 0 k X)) $$ [Ha Hb H0]
  · isplitl [Ha]; · iexact Ha
    isplitl [Hb]; · iexact Hb
    iexact H0
  iintro ⟨Ha, Hb, H0⟩
  iapply (run_last (run_dots A B c 1 k Y)) $$ [Ha Hb H1]
  · isplitl [Ha]; · iexact Ha
    isplitl [Hb]; · iexact Hb
    iexact H1
  iintro ⟨Ha, Hb, H1⟩
  unfold mid factors
  isplitl [Hf]; · iexact Hf
  isplitl [H0 H1]
  · iapply (Entails.of_eq (halves_tiles c (k.val + 1) (prod A B c)))
    isplitl [H0]; · iexact H0
    iexact H1
  isplitl [Ha Hb]
  · isplitl [Ha]; · iexact Ha
    iexact Hb
  iexact HO

/-- What a stage of the reduction leaves behind. -/
def rsOut (k : ℕ) (c : Dev nD) : sProp 𝕄 := q4 fun i => iprop(over i k c ∗ slotBack i k c ∗ extra i k c)

theorem run_rsFins (k : Fin 31) :
    iprop(known A B ∗ mid A B k.val c)
      ⊢ run c (four fun i => rsFin args (places c) i k) iprop(rsOut k.val c ∗ q4 (fun i => sent A B i k.val c)
        ∗ q4 (fun i => oReg c (tileSet i (tileOf i (k.val + 1) c)) (part A B (k.val + 1) c)) ∗ factors A B c
        ∗ owing c (4 * (k.val + 1))) := by
  have h4 := run_four (c := c) (f := fun i => rsFin args (places c) i k) (J := known A B)
    (P := fun i => iprop(fly i k.val c ∗ dotted A B i k.val c))
    (Q := fun i => iprop((over i k.val c ∗ slotBack i k.val c ∗ extra i k.val c) ∗ sent A B i k.val c
      ∗ oReg c (tileSet i (tileOf i (k.val + 1) c)) (part A B (k.val + 1) c)))
    (I := fun _ => owing c (4 * (k.val + 1))) (by
      intro i
      unfold known dotted
      iintro ⟨⟨#Hr, #Hl⟩, ⟨Hf, Hd⟩, HO⟩
      iapply (run_last (run_rsFin A B c i k _ (le_refl _))) $$ [Hf Hd HO]
      · isplitr; · iexact Hr
        isplitr; · iexact Hl
        isplitl [Hf]; · iexact Hf
        isplitl [Hd]; · iexact Hd
        iexact HO
      iintro ⟨H1, H2, H3, H4, H5, H6⟩
      isplitr [H6]
      · isplitl [H1 H3 H4]
        · isplitl [H1]; · iexact H1
          isplitl [H3]; · iexact H3
          iexact H4
        isplitl [H2]; · iexact H2
        iexact H5
      iexact H6)
  unfold mid
  iintro ⟨#HJ, Hf, Hd, Hab, HO⟩
  iapply (run_last h4) $$ [Hf Hd HO]
  · isplitr; · iexact HJ
    isplitl [Hf Hd]
    · iapply (Entails.of_eq (q4_sep _ _).symm)
      isplitl [Hf]; · iexact Hf
      iexact Hd
    iexact HO
  iintro ⟨H, HO⟩
  ihave H := (Entails.of_eq (q4_sep _ _)) $$ H
  icases H with ⟨H1, H⟩
  ihave H := (Entails.of_eq (q4_sep _ _)) $$ H
  icases H with ⟨H2, H3⟩
  unfold rsOut
  isplitl [H1]; · iexact H1
  isplitl [H2]; · iexact H2
  isplitl [H3]; · iexact H3
  isplitl [Hab]; · iexact Hab
  iexact HO

/-- What the step from stage `k` of the reduction to the next needs. -/
def rsIn (k : ℕ) (c : Dev nD) : sProp 𝕄 :=
  iprop(q4 (fun i => iprop(pend i (k + 1) c ∗ slotAt i (k + 1) c)) ∗ halfAt 0 (k + 2) c ∗ halfAt 1 (k + 2) c)

theorem run_rsStep (k : Fin 31) (h : k.val + 1 < 31) :
    iprop(known A B ∗ mid A B k.val c ∗ rsIn k.val c)
      ⊢ run c (rsStep args (places c) k h) iprop(mid A B (k.val + 1) c ∗ rsOut k.val c) := by
  unfold rsStep rsIn
  iintro ⟨#HJ, Hm, Hq, H0, H1⟩
  iapply (run_step (run_rsFins A B c k)) $$ [Hm]
  · isplitr; · iexact HJ
    iexact Hm
  iintro ⟨Hout, Hs, Ht, Hab, HO⟩
  ihave He := (q4_mono (fun i => extra_of_sent A B c i (k := k.val) (by omega))) $$ [Hs]
  · iapply (Entails.of_eq (q4_mir fun i => sent A B i k.val c).symm)
    iexact Hs
  ihave Ht := (q4_mono (fun i => Entails.of_eq (sent_rs A B c i h).symm)) $$ Ht
  ihave Hq := (Entails.of_eq (q4_sep _ _)) $$ Hq
  icases Hq with ⟨Hp, Hd⟩
  iapply (run_last (run_starts A B c ⟨k.val + 1, h⟩)) $$ [Ht Hd He Hp H0 H1 Hab HO]
  · isplitr; · iexact HJ
    isplitl [Ht Hd He Hp]
    · iapply (Entails.of_eq (q4_sep _ _).symm)
      isplitl [Ht]; · iexact Ht
      iapply (Entails.of_eq (q4_sep _ _).symm)
      isplitl [Hd]; · iexact Hd
      iapply (Entails.of_eq (q4_sep _ _).symm)
      isplitl [He]; · iexact He
      iexact Hp
    isplitl [H0]; · iexact H0
    isplitl [H1]; · iexact H1
    isplitl [Hab]; · iexact Hab
    iexact HO
  iintro Hm
  isplitl [Hm]; · iexact Hm
  iexact Hout

/-- The first `n` steps of the reduction. -/
theorem run_rsLoop : ∀ (n : ℕ) (h : 0 + n ≤ 30),
    iprop(known A B ∗ mid A B 0 c ∗ bigSep (Finset.range n) fun k => rsIn k c)
      ⊢ run c (rsLoop args (places c) 0 n h) iprop(mid A B n c ∗ bigSep (Finset.range n) fun k => rsOut k c)
  | 0, h => by
    unfold rsLoop
    iintro ⟨#HJ, Hm, H⟩
    unfold run
    rw [Prog.pure_eq_ret, wp_ret]; imodintro
    isplitl [Hm]; · iexact Hm
    iexact H
  | n + 1, h => by
    unfold rsLoop
    rw [bigSep_range_succ, bigSep_range_succ]
    iintro ⟨#HJ, Hm, Hn, H⟩
    iapply (run_step (run_rsLoop n _)) $$ [Hm H]
    · isplitr; · iexact HJ
      isplitl [Hm]; · iexact Hm
      iexact H
    iintro ⟨Hm, H⟩
    have hs := run_rsStep A B c ⟨0 + n, by omega⟩ (by show 0 + n + 1 < 31; omega)
    simp only [Nat.zero_add] at hs
    simp only [Nat.zero_add]
    iapply (run_last hs) $$ [Hm Hn]
    · isplitr; · iexact HJ
      isplitl [Hm]; · iexact Hm
      iexact Hn
    iintro ⟨Hm, Hn⟩
    isplitl [Hm]; · iexact Hm
    isplitl [Hn]; · iexact Hn
    iexact H

/-! ## The gathering -/

/-- What a stage of the gathering leaves behind. -/
def agOut (k : ℕ) (c : Dev nD) : sProp 𝕄 := q4 fun i => iprop(over i k c ∗ sent A B i k c ∗ extra i k c)

theorem run_agStep (t : Fin 31) :
    iprop(known A B ∗ q4 (fun i => sent A B i (31 + t.val) c)
        ∗ q4 (fun i => iprop(tileAt i (31 + t.val) c ∗ extra i (31 + t.val) (peer i c) ∗ pend i (31 + t.val) c))
        ∗ owing c (4 * (31 + t.val)))
      ⊢ run c (agStep args (places c) t) iprop(q4 (fun i => sent A B i (31 + t.val + 1) c) ∗ agOut A B (31 + t.val) c
        ∗ owing c (4 * (31 + t.val + 1))) := by
  have h4 := run_four (c := c) (f := fun i => agStart args (places c) i t) (J := known A B)
    (P := fun i => iprop(sent A B i (31 + t.val) c ∗ tileAt i (31 + t.val) c ∗ extra i (31 + t.val) (peer i c)
      ∗ pend i (31 + t.val) c))
    (Q := fun i => fly i (31 + t.val) c) (I := fun n => owing c (4 * (31 + t.val) + n)) (by
      intro i
      unfold known
      iintro ⟨⟨#Hr, -⟩, ⟨Hs, Hd, He, Hp⟩, HO⟩
      iapply (run_agStart A B c i t)
      isplitr; · iexact Hr
      isplitl [Hs]; · iexact Hs
      isplitl [Hd]; · iexact Hd
      isplitl [He]; · iexact He
      isplitl [Hp]; · iexact Hp
      iexact HO)
  have h5 := run_four (c := c) (f := fun i => agFin args (places c) i t) (J := known A B)
    (P := fun i => fly i (31 + t.val) c)
    (Q := fun i => iprop(sent A B i (31 + t.val + 1) c ∗ over i (31 + t.val) c ∗ sent A B i (31 + t.val) c
      ∗ extra i (31 + t.val) c))
    (I := fun _ => owing c (4 * (31 + t.val + 1))) (by
      intro i
      unfold known
      iintro ⟨⟨#Hr, #Hl⟩, Hf, HO⟩
      iapply (run_last (run_agFin A B c i t _ (le_refl _))) $$ [Hf HO]
      · isplitr; · iexact Hr
        isplitr; · iexact Hl
        isplitl [Hf]; · iexact Hf
        iexact HO
      iintro ⟨H1, H2, H3, H4, HO⟩
      isplitr [HO]
      · isplitl [H3]; · iexact H3
        isplitl [H1]; · iexact H1
        isplitl [H2]; · iexact H2
        iexact H4
      iexact HO)
  unfold agStep
  iintro ⟨#HJ, Hs, Hq, HO⟩
  iapply (run_step h4) $$ [Hs Hq HO]
  · isplitr; · iexact HJ
    isplitl [Hs Hq]
    · iapply (Entails.of_eq (q4_sep _ _).symm)
      isplitl [Hs]; · iexact Hs
      iexact Hq
    iexact HO
  iintro ⟨Hf, HO⟩
  iapply (run_last h5) $$ [Hf HO]
  · isplitr; · iexact HJ
    isplitl [Hf]; · iexact Hf
    iexact HO
  iintro ⟨H, HO⟩
  ihave H := (Entails.of_eq (q4_sep _ _)) $$ H
  icases H with ⟨H1, H2⟩
  isplitl [H1]; · iexact H1
  isplitl [H2]
  · unfold agOut
    iexact H2
  iexact HO

/-- What a later stage of the gathering needs. -/
def agIn (k : ℕ) (c : Dev nD) : sProp 𝕄 := q4 fun i => iprop(tileAt i k c ∗ pend i k c)

theorem agIn_extra (t : ℕ) (ht : 1 ≤ t) : agIn (31 + t) c
    ⊢ (q4 (fun i => iprop(tileAt i (31 + t) c ∗ extra i (31 + t) (peer i c) ∗ pend i (31 + t) c)) : sProp 𝕄) := by
  unfold agIn
  refine q4_mono fun i => ?_
  rw [extra_emp i (31 + t) (by omega)]
  iintro ⟨H1, H2⟩
  isplitl [H1]; · iexact H1
  isplitr [H2]; · iempintro
  iexact H2

/-- The stages of the gathering after the first. -/
theorem run_agLoop : ∀ (n : ℕ) (h : 1 + n ≤ 31),
    iprop(known A B ∗ q4 (fun i => sent A B i (31 + 1) c) ∗ owing c (4 * (31 + 1))
        ∗ bigSep (Finset.range n) fun k => agIn (31 + (1 + k)) c)
      ⊢ run c (agLoop args (places c) 1 n h) iprop(q4 (fun i => sent A B i (31 + (1 + n)) c) ∗ owing c (4 * (31 + (1 + n)))
        ∗ bigSep (Finset.range n) fun k => agOut A B (31 + (1 + k)) c)
  | 0, h => by
    unfold agLoop
    iintro ⟨#HJ, Hm, HO, H⟩
    unfold run
    rw [Prog.pure_eq_ret, wp_ret]; imodintro
    isplitl [Hm]; · iexact Hm
    isplitl [HO]; · iexact HO
    iexact H
  | n + 1, h => by
    unfold agLoop
    rw [bigSep_range_succ, bigSep_range_succ]
    iintro ⟨#HJ, Hm, HO, Hn, H⟩
    iapply (run_step (run_agLoop n _)) $$ [Hm HO H]
    · isplitr; · iexact HJ
      isplitl [Hm]; · iexact Hm
      isplitl [HO]; · iexact HO
      iexact H
    iintro ⟨Hm, HO, H⟩
    have hs := run_agStep A B c ⟨1 + n, by omega⟩
    ihave Hn := (agIn_extra c (1 + n) (by omega)) $$ Hn
    iapply (run_last hs) $$ [Hm HO Hn]
    · isplitr; · iexact HJ
      isplitl [Hm]; · iexact Hm
      isplitl [Hn]; · iexact Hn
      iexact HO
    iintro ⟨Hm, Hn, HO⟩
    isplitl [Hm]; · iexact Hm
    isplitl [HO]; · iexact HO
    isplitl [Hn]; · iexact Hn
    iexact H

end Stages

end Cert.Proof.Ideal

end
-- ==== Proof.IdealLine.lean ====
/-
  The kernel's printed body is the short form of Plan: the printed parts are followed operation
  by operation.
-/

module

public import proofs.«01_k».proof.Proof.IdealPrinted

@[expose] public section

noncomputable section

namespace Cert.Proof.Ideal

open Cert.KernelIdeal Cert.KernelIdeal.Gen
open Idealize.ShloMosaic Idealize.SL.Sem

variable {F : FTy → Type} [FloatOps F]

section Steps

universe v

variable {E : Type → Type v} {α β γ : Type}

theorem assocL {p : Prog E α} {q : α → Prog E β} {f : β → Prog E γ} {R : Prog E γ}
    (h : (p >>= fun x => q x >>= f) = R) : (p >>= q) >>= f = R := by
  rw [← h]
  exact bind_assoc _ _ _

theorem assocR {p : Prog E α} {q : α → Prog E β} {f : β → Prog E γ} {R : Prog E γ}
    (h : R = (p >>= fun x => q x >>= f)) : R = (p >>= q) >>= f := (assocL h.symm).symm

theorem retL {a : α} {f : α → Prog E γ} {R : Prog E γ} (h : f a = R) : (pure a : Prog E α) >>= f = R := h

theorem retR {a : α} {f : α → Prog E γ} {R : Prog E γ} (h : R = f a) : R = (pure a : Prog E α) >>= f := h

theorem opCongr {e e' : E α} {f g : α → Prog E γ} (he : e = e') (h : ∀ x, f x = g x) :
    Prog.lift e >>= f = Prog.lift e' >>= g := by rw [he, funext h]

theorem progCongr {p q : Prog E α} {f g : α → Prog E γ} (he : p = q) (h : ∀ x, f x = g x) :
    p >>= f = q >>= g := by rw [he, funext h]

end Steps

section Loops

variable (A : Args) (L : Places) {γ : Type} {R : Prog (TpuEff nD τ sig (Elt F) Λ₀ .tc) γ}
  {g : PUnit → Prog (TpuEff nD τ sig (Elt F) Λ₀ .tc) γ}

theorem fourR {f : Fin 4 → Prog (TpuEff nD τ sig (Elt F) Λ₀ .tc) PUnit}
    (hR : R = (f 0 >>= fun _ => f 1 >>= fun _ => f 2 >>= fun _ => f 3 >>= g)) : R = four f >>= g := by
  rw [hR, four]
  simp only [bind_assoc]

theorem rsLoopR {a n : ℕ} {h : a + (n + 1) ≤ 30}
    (hR : R = (rsLoop A L a n (by omega) >>= fun _ =>
      rsStep A L ⟨a + n, by omega⟩ (by show a + n + 1 < 31; omega) >>= g)) : R = rsLoop A L a (n + 1) h >>= g := by
  rw [hR, rsLoop]
  exact (bind_assoc _ _ _).symm

theorem rsLoopR₀ {a : ℕ} {h : a + 0 ≤ 30} (hR : R = g ⟨⟩) : R = rsLoop A L a 0 h >>= g := hR

theorem agLoopR {a n : ℕ} {h : a + (n + 1) ≤ 31}
    (hR : R = (agLoop A L a n (by omega) >>= fun _ => agStep A L ⟨a + n, by omega⟩ >>= g)) :
    R = agLoop A L a (n + 1) h >>= g := by
  rw [hR, agLoop]
  exact (bind_assoc _ _ _).symm

theorem agLoopR₀ {a : ℕ} {h : a + 0 ≤ 31} (hR : R = g ⟨⟩) : R = agLoop A L a 0 h >>= g := hR

end Loops

variable (A : Args) (h0 : A.a.IsWhole) (h1 : A.b.IsWhole) (h2 : A.o.IsWhole) (h3 : (A.buf 0).IsWhole)
  (h4 : (A.buf 1).IsWhole) (h5 : (A.buf 2).IsWhole) (h6 : (A.buf 3).IsWhole) {γ : Type}

/-- The first printed part: up to the reading of the first tile that step 8 adds to. -/
theorem line₁ {T : Dev nD → Vec F S64x512 .f32 → Prog (TpuEff nD τ sig (Elt F) Λ₀ .tc) γ}
    {K : (Σ' (_ : Dev nD) (_ : BitVec 32) (_ : BitVec 32) (_ : BitVec 32) (_ : BitVec 32) (_ : BitVec 32) (_ : BitVec 32),
      FVec F S64x512 .f32) → Prog (TpuEff nD τ sig (Elt F) Λ₀ .tc) γ}
    (h : ∀ d w₁ w₂ w₃ w₄ w₅ w₆ v, K ⟨d, w₁, w₂, w₃, w₄, w₅, w₆, shapeCast S64x512 v shapeCasts_S64x512_S64x512⟩ = T d v) :
    (k0_part305 A.a h0 A.b h1 A.o h2 (A.buf 0) h3 (A.buf 1) h4 (A.buf 2) h5 (A.buf 3) h6 (A.rsS 0) (A.rsR 0) (A.rsS 1) (A.rsR 1) (A.rsS 2) (A.rsR 2) (A.rsS 3) (A.rsR 3)
    (A.agS 0) (A.agR 0) (A.agS 1) (A.agR 1) (A.agS 2) (A.agR 2) (A.agS 3) (A.agR 3)) >>= K =
      Prog.lift .deviceId >>= fun d =>
      meet (printed d) >>= fun _ =>
      dot₀ A (printed d) >>= fun _ =>
      starts A (printed d) 0 >>= fun _ =>
      rsLoop A (printed d) 0 8 (by decide) >>= fun _ =>
      Prog.lift (.waitDma2 (cellM (A.rsS 0) 8) (slotM A 0 8) (tileM A ((printed d).src 0 8))
        ((View.wordExact_bits rfl).reshape _ _) (View.wordExact_bits rfl)) >>= fun _ =>
      Prog.lift (.waitDma2 (cellM (A.rsR 0) 8) (tileM A ((printed d).src 0 8)) (slotM A 0 8) (View.wordExact_bits rfl)
        ((View.wordExact_bits rfl).reshape _ _)) >>= fun _ =>
      (Prog.lift (.load A.o (Rect.unit (s := S2048x2048) ((printed d).acc 0 8).1 S64x512.size
        ((printed d).acc 0 8).2).toLoadRect (View.loadsAt_vmem h_S64x512)) >>= fun v : Vec F S64x512 .f32 => T d v) := by
  repeat
    first
    | (with_reducible exact h _ _ _ _ _ _ _ _)
    | with_reducible refine assocL ?_
    | with_reducible refine assocR ?_
    | with_reducible refine retL ?_
    | with_reducible refine retR ?_
    | ((with_reducible refine opCongr ?_ (fun _ => ?_)); rfl)
    | ((with_reducible refine progCongr (p := semSignalWord _ _ _) (q := semSignalWord _ _ _) ?_ (fun _ => ?_)); rfl)
    | ((with_reducible refine progCongr (p := semWaitWord _ _) (q := semWaitWord _ _) ?_ (fun _ => ?_)); rfl)
    | with_reducible refine fourR ?_
    | with_reducible refine rsLoopR A _ ?_
    | with_reducible refine rsLoopR₀ A _ ?_
    | with_reducible refine agLoopR A _ ?_
    | with_reducible refine agLoopR₀ A _ ?_
    | delta rsStep
    | delta starts
    | delta rsStart
    | delta rsFin
    | delta rsPut
    | delta dots
    | delta dotPut
    | delta dot₀
    | delta gelu
    | delta agStep
    | delta agStart
    | delta agFin
    | delta meet
    | dsimp only
    | delta k0_part305
    | delta k0_part1
    | delta k0_part2
    | delta k0_part3
    | delta k0_part4
    | delta k0_part5
    | delta k0_part6
    | delta k0_part7
    | delta k0_part8
    | delta k0_part9
    | delta k0_part10
    | delta k0_part11
    | delta k0_part12
    | delta k0_part13
    | delta k0_part14
    | delta k0_part15
    | delta k0_part16
    | delta k0_part17
    | delta k0_part18
    | delta k0_part19
    | delta k0_part20
    | delta k0_part21
    | delta k0_part22
    | delta k0_part23
    | delta k0_part24
    | delta k0_part25
    | delta k0_part26
    | delta k0_part27
    | delta k0_part28
    | delta k0_part29
    | delta k0_part30
    | delta k0_part31
    | delta k0_part32
    | delta k0_part33
    | delta k0_part34
    | delta k0_part35
    | delta k0_part36
    | delta k0_part37
    | delta k0_part38
    | delta k0_part39
    | delta k0_part40
    | delta k0_part41
    | delta k0_part42
    | delta k0_part43
    | delta k0_part44
    | delta k0_part45
    | delta k0_part46
    | delta k0_part47
    | delta k0_part48
    | delta k0_part49
    | delta k0_part50
    | delta k0_part51
    | delta k0_part52
    | delta k0_part53
    | delta k0_part54
    | delta k0_part55
    | delta k0_part56
    | delta k0_part57
    | delta k0_part58
    | delta k0_part59
    | delta k0_part60

/-- The second printed part: up to the reading of the factors of the first product of stage 18. -/
theorem line₂ (d : Dev nD) (w₁ w₂ w₃ w₄ w₅ w₆ : BitVec 32) (v : Vec F S64x512 .f32)
    {T : Vec F S64x1024 .f32 → Vec F S1024x1024 .f32 → Prog (TpuEff nD τ sig (Elt F) Λ₀ .tc) γ}
    {K : (Σ' (_ : BitVec 32) (_ : BitVec 32) (_ : FVec F S64x1024 .f32), Vec F S1024x1024 .f32) → Prog (TpuEff nD τ sig (Elt F) Λ₀ .tc) γ}
    (h : ∀ w₁ w₂ v w, K ⟨w₁, w₂, shapeCast S64x1024 v shapeCasts_S64x1024_S64x1024, w⟩ = T v w) :
    (k0_part306 A.a h0 A.b h1 A.o h2 (A.buf 0) h3 (A.buf 1) h4 (A.buf 2) h5 (A.buf 3) h6 (A.rsS 0) (A.rsR 0) (A.rsS 1) (A.rsR 1) (A.rsS 2) (A.rsR 2) (A.rsS 3) (A.rsR 3)
    (A.agS 0) (A.agR 0) (A.agS 1) (A.agR 1) (A.agS 2) (A.agR 2) (A.agS 3) (A.agR 3)
    d w₁ w₂ w₃ w₄ w₅ w₆ (shapeCast S64x512 v shapeCasts_S64x512_S64x512)) >>= K =
      rsPut A (printed d) 0 8 v >>= fun _ =>
      rsFin A (printed d) 1 8 >>= fun _ =>
      rsFin A (printed d) 2 8 >>= fun _ =>
      rsFin A (printed d) 3 8 >>= fun _ =>
      starts A (printed d) 9 >>= fun _ =>
      rsLoop A (printed d) 9 8 (by decide) >>= fun _ =>
      (four fun i => rsFin A (printed d) i 17) >>= fun _ =>
      (four fun i => rsStart A (printed d) i 18) >>= fun _ =>
      Prog.lift (.load A.a (Rect.unit (s := S2048x1024) ((printed d).rows 0 18).1 S64x1024.size
        ((printed d).rows 0 18).2).toLoadRect (View.loadsAt_vmem h_S64x1024)) >>= fun v : Vec F S64x1024 .f32 =>
      Prog.lift (.load A.b (Rect.unit (s := S1024x2048) ![0, 1024 * (0 : Fin 2).val] S1024x1024.size (halfCol_inb 0)).toLoadRect
        (View.loadsAt_vmem h_S1024x1024)) >>=
        fun w : Vec F S1024x1024 .f32 => T v w := by
  repeat
    first
    | (with_reducible exact h _ _ _ _)
    | with_reducible refine assocL ?_
    | with_reducible refine assocR ?_
    | with_reducible refine retL ?_
    | with_reducible refine retR ?_
    | ((with_reducible refine opCongr ?_ (fun _ => ?_)); rfl)
    | with_reducible refine fourR ?_
    | with_reducible refine rsLoopR A _ ?_
    | with_reducible refine rsLoopR₀ A _ ?_
    | with_reducible refine agLoopR A _ ?_
    | with_reducible refine agLoopR₀ A _ ?_
    | delta rsStep
    | delta starts
    | delta rsStart
    | delta rsFin
    | delta rsPut
    | delta dots
    | delta dotPut
    | delta dot₀
    | delta gelu
    | delta agStep
    | delta agStart
    | delta agFin
    | delta meet
    | dsimp only
    | delta k0_part306
    | delta k0_part61
    | delta k0_part62
    | delta k0_part63
    | delta k0_part64
    | delta k0_part65
    | delta k0_part66
    | delta k0_part67
    | delta k0_part68
    | delta k0_part69
    | delta k0_part70
    | delta k0_part71
    | delta k0_part72
    | delta k0_part73
    | delta k0_part74
    | delta k0_part75
    | delta k0_part76
    | delta k0_part77
    | delta k0_part78
    | delta k0_part79
    | delta k0_part80
    | delta k0_part81
    | delta k0_part82
    | delta k0_part83
    | delta k0_part84
    | delta k0_part85
    | delta k0_part86
    | delta k0_part87
    | delta k0_part88
    | delta k0_part89
    | delta k0_part90
    | delta k0_part91
    | delta k0_part92
    | delta k0_part93
    | delta k0_part94
    | delta k0_part95
    | delta k0_part96
    | delta k0_part97
    | delta k0_part98
    | delta k0_part99
    | delta k0_part100
    | delta k0_part101
    | delta k0_part102
    | delta k0_part103
    | delta k0_part104
    | delta k0_part105
    | delta k0_part106
    | delta k0_part107
    | delta k0_part108
    | delta k0_part109
    | delta k0_part110
    | delta k0_part111
    | delta k0_part112
    | delta k0_part113
    | delta k0_part114
    | delta k0_part115
    | delta k0_part116
    | delta k0_part117
    | delta k0_part118
    | delta k0_part119
    | delta k0_part120

/-- The third printed part: up to the first send of stage 28. -/
theorem line₃ (d : Dev nD) (w₁ w₂ w₃ w₄ w₅ : BitVec 32) (v : Vec F S64x1024 .f32)
    (w : Vec F S1024x1024 .f32) {T : Prog (TpuEff nD τ sig (Elt F) Λ₀ .tc) γ}
    {K : (Σ' (_ : BitVec 32), BitVec 32) → Prog (TpuEff nD τ sig (Elt F) Λ₀ .tc) γ}
    (h : ∀ w₁ w₂, K ⟨w₁, w₂⟩ = T) :
    (k0_part307 A.a h0 A.b h1 A.o h2 (A.buf 0) h3 (A.buf 1) h4 (A.buf 2) h5 (A.buf 3) h6 (A.rsS 0) (A.rsR 0) (A.rsS 1) (A.rsR 1) (A.rsS 2) (A.rsR 2) (A.rsS 3) (A.rsR 3)
    (A.agS 0) (A.agR 0) (A.agS 1) (A.agR 1) (A.agS 2) (A.agR 2) (A.agS 3) (A.agR 3)
    d w₁ w₂ w₃ w₄ w₅ (shapeCast S64x1024 v shapeCasts_S64x1024_S64x1024) w) >>= K =
      dotPut A (printed d) 0 18 v w >>= fun _ =>
      dots A (printed d) 1 18 >>= fun _ =>
      rsLoop A (printed d) 18 9 (by decide) >>= fun _ =>
      (four fun i => rsFin A (printed d) i 27) >>= fun _ =>
      rsStart A (printed d) 0 28 >>= fun _ =>
      T := by
  repeat
    first
    | (with_reducible exact h _ _)
    | with_reducible refine assocL ?_
    | with_reducible refine assocR ?_
    | with_reducible refine retL ?_
    | with_reducible refine retR ?_
    | ((with_reducible refine opCongr ?_ (fun _ => ?_)); rfl)
    | with_reducible refine fourR ?_
    | with_reducible refine rsLoopR A _ ?_
    | with_reducible refine rsLoopR₀ A _ ?_
    | with_reducible refine agLoopR A _ ?_
    | with_reducible refine agLoopR₀ A _ ?_
    | delta rsStep
    | delta starts
    | delta rsStart
    | delta rsFin
    | delta rsPut
    | delta dots
    | delta dotPut
    | delta dot₀
    | delta gelu
    | delta agStep
    | delta agStart
    | delta agFin
    | delta meet
    | dsimp only
    | delta k0_part307
    | delta k0_part121
    | delta k0_part122
    | delta k0_part123
    | delta k0_part124
    | delta k0_part125
    | delta k0_part126
    | delta k0_part127
    | delta k0_part128
    | delta k0_part129
    | delta k0_part130
    | delta k0_part131
    | delta k0_part132
    | delta k0_part133
    | delta k0_part134
    | delta k0_part135
    | delta k0_part136
    | delta k0_part137
    | delta k0_part138
    | delta k0_part139
    | delta k0_part140
    | delta k0_part141
    | delta k0_part142
    | delta k0_part143
    | delta k0_part144
    | delta k0_part145
    | delta k0_part146
    | delta k0_part147
    | delta k0_part148
    | delta k0_part149
    | delta k0_part150
    | delta k0_part151
    | delta k0_part152
    | delta k0_part153
    | delta k0_part154
    | delta k0_part155
    | delta k0_part156
    | delta k0_part157
    | delta k0_part158
    | delta k0_part159
    | delta k0_part160
    | delta k0_part161
    | delta k0_part162
    | delta k0_part163
    | delta k0_part164
    | delta k0_part165
    | delta k0_part166
    | delta k0_part167
    | delta k0_part168
    | delta k0_part169
    | delta k0_part170
    | delta k0_part171
    | delta k0_part172
    | delta k0_part173
    | delta k0_part174
    | delta k0_part175
    | delta k0_part176
    | delta k0_part177
    | delta k0_part178
    | delta k0_part179
    | delta k0_part180

/-- The fourth printed part: the end of the reduction and twelve stages of the gathering. -/
theorem line₄ (d : Dev nD) (w₁ w₂ w₃ w₄ w₅ : BitVec 32) {T : Prog (TpuEff nD τ sig (Elt F) Λ₀ .tc) γ}
    {K : (Σ' (_ : BitVec 32) (_ : BitVec 32) (_ : BitVec 32), BitVec 1) → Prog (TpuEff nD τ sig (Elt F) Λ₀ .tc) γ}
    (h : ∀ w₁ w₂ w₃ w₄, K ⟨w₁, w₂, w₃, w₄⟩ = T) :
    (k0_part308 A.a h0 A.b h1 A.o h2 (A.buf 0) h3 (A.buf 1) h4 (A.buf 2) h5 (A.buf 3) h6 (A.rsS 0) (A.rsR 0) (A.rsS 1) (A.rsR 1) (A.rsS 2) (A.rsR 2) (A.rsS 3) (A.rsR 3)
    (A.agS 0) (A.agR 0) (A.agS 1) (A.agR 1) (A.agS 2) (A.agR 2) (A.agS 3) (A.agR 3)
    d w₁ w₂ w₃ w₄ w₅) >>= K =
      rsStart A (printed d) 1 28 >>= fun _ =>
      rsStart A (printed d) 2 28 >>= fun _ =>
      rsStart A (printed d) 3 28 >>= fun _ =>
      dots A (printed d) 0 28 >>= fun _ =>
      dots A (printed d) 1 28 >>= fun _ =>
      rsLoop A (printed d) 28 2 (by decide) >>= fun _ =>
      (four fun i => rsFin A (printed d) i 30) >>= fun _ =>
      gelu A (printed d) 0 >>= fun _ =>
      gelu A (printed d) 1 >>= fun _ =>
      agLoop A (printed d) 0 12 (by decide) >>= fun _ =>
      T := by
  repeat
    first
    | (with_reducible exact h _ _ _ _)
    | with_reducible refine assocL ?_
    | with_reducible refine assocR ?_
    | with_reducible refine retL ?_
    | with_reducible refine retR ?_
    | ((with_reducible refine opCongr ?_ (fun _ => ?_)); rfl)
    | with_reducible refine fourR ?_
    | with_reducible refine rsLoopR A _ ?_
    | with_reducible refine rsLoopR₀ A _ ?_
    | with_reducible refine agLoopR A _ ?_
    | with_reducible refine agLoopR₀ A _ ?_
    | delta rsStep
    | delta starts
    | delta rsStart
    | delta rsFin
    | delta rsPut
    | delta dots
    | delta dotPut
    | delta dot₀
    | delta gelu
    | delta agStep
    | delta agStart
    | delta agFin
    | delta meet
    | dsimp only
    | delta k0_part308
    | delta k0_part181
    | delta k0_part182
    | delta k0_part183
    | delta k0_part184
    | delta k0_part185
    | delta k0_part186
    | delta k0_part187
    | delta k0_part188
    | delta k0_part189
    | delta k0_part190
    | delta k0_part191
    | delta k0_part192
    | delta k0_part193
    | delta k0_part194
    | delta k0_part195
    | delta k0_part196
    | delta k0_part197
    | delta k0_part198
    | delta k0_part199
    | delta k0_part200
    | delta k0_part201
    | delta k0_part202
    | delta k0_part203
    | delta k0_part204
    | delta k0_part205
    | delta k0_part206
    | delta k0_part207
    | delta k0_part208
    | delta k0_part209
    | delta k0_part210
    | delta k0_part211
    | delta k0_part212
    | delta k0_part213
    | delta k0_part214
    | delta k0_part215
    | delta k0_part216
    | delta k0_part217
    | delta k0_part218
    | delta k0_part219
    | delta k0_part220
    | delta k0_part221
    | delta k0_part222
    | delta k0_part223
    | delta k0_part224
    | delta k0_part225
    | delta k0_part226
    | delta k0_part227
    | delta k0_part228
    | delta k0_part229
    | delta k0_part230
    | delta k0_part231
    | delta k0_part232
    | delta k0_part233
    | delta k0_part234
    | delta k0_part235
    | delta k0_part236
    | delta k0_part237
    | delta k0_part238
    | delta k0_part239
    | delta k0_part240

/-- The fifth printed part: up to the sends of stage 29 of the gathering. -/
theorem line₅ (d : Dev nD) (w₁ w₂ w₃ w₄ w₅ w₆ : BitVec 32) (w₇ : BitVec 1) {T : Prog (TpuEff nD τ sig (Elt F) Λ₀ .tc) γ}
    {K : PUnit → Prog (TpuEff nD τ sig (Elt F) Λ₀ .tc) γ}
    (h : K ⟨⟩ = T) :
    (k0_part309 A.a h0 A.b h1 A.o h2 (A.buf 0) h3 (A.buf 1) h4 (A.buf 2) h5 (A.buf 3) h6 (A.rsS 0) (A.rsR 0) (A.rsS 1) (A.rsR 1) (A.rsS 2) (A.rsR 2) (A.rsS 3) (A.rsR 3)
    (A.agS 0) (A.agR 0) (A.agS 1) (A.agR 1) (A.agS 2) (A.agR 2) (A.agS 3) (A.agR 3)
    d w₁ w₂ w₃ w₄ w₅ w₆ w₇) >>= K =
      agLoop A (printed d) 12 17 (by decide) >>= fun _ =>
      (four fun i => agStart A (printed d) i 29) >>= fun _ =>
      T := by
  repeat
    first
    | (with_reducible exact h)
    | with_reducible refine assocL ?_
    | with_reducible refine assocR ?_
    | with_reducible refine retL ?_
    | with_reducible refine retR ?_
    | ((with_reducible refine opCongr ?_ (fun _ => ?_)); rfl)
    | with_reducible refine fourR ?_
    | with_reducible refine rsLoopR A _ ?_
    | with_reducible refine rsLoopR₀ A _ ?_
    | with_reducible refine agLoopR A _ ?_
    | with_reducible refine agLoopR₀ A _ ?_
    | delta rsStep
    | delta starts
    | delta rsStart
    | delta rsFin
    | delta rsPut
    | delta dots
    | delta dotPut
    | delta dot₀
    | delta gelu
    | delta agStep
    | delta agStart
    | delta agFin
    | delta meet
    | dsimp only
    | delta k0_part309
    | delta k0_part241
    | delta k0_part242
    | delta k0_part243
    | delta k0_part244
    | delta k0_part245
    | delta k0_part246
    | delta k0_part247
    | delta k0_part248
    | delta k0_part249
    | delta k0_part250
    | delta k0_part251
    | delta k0_part252
    | delta k0_part253
    | delta k0_part254
    | delta k0_part255
    | delta k0_part256
    | delta k0_part257
    | delta k0_part258
    | delta k0_part259
    | delta k0_part260
    | delta k0_part261
    | delta k0_part262
    | delta k0_part263
    | delta k0_part264
    | delta k0_part265
    | delta k0_part266
    | delta k0_part267
    | delta k0_part268
    | delta k0_part269
    | delta k0_part270
    | delta k0_part271
    | delta k0_part272
    | delta k0_part273
    | delta k0_part274
    | delta k0_part275
    | delta k0_part276
    | delta k0_part277
    | delta k0_part278
    | delta k0_part279
    | delta k0_part280
    | delta k0_part281
    | delta k0_part282
    | delta k0_part283
    | delta k0_part284
    | delta k0_part285
    | delta k0_part286
    | delta k0_part287
    | delta k0_part288
    | delta k0_part289
    | delta k0_part290
    | delta k0_part291
    | delta k0_part292
    | delta k0_part293
    | delta k0_part294
    | delta k0_part295
    | delta k0_part296
    | delta k0_part297
    | delta k0_part298
    | delta k0_part299
    | delta k0_part300

section Tails

variable (A : Args) (L : Places)

/-- What follows the fifth printed part. -/
def tail₆ : Prog (TpuEff nD τ sig (Elt F) Λ₀ .tc) PUnit :=
  (four fun i => agFin A L i 29) >>= fun _ => agStep A L 30 >>= fun _ => pure ⟨⟩

/-- What follows the fourth. -/
def tail₅ : Prog (TpuEff nD τ sig (Elt F) Λ₀ .tc) PUnit :=
  agLoop A L 12 17 (by decide) >>= fun _ => (four fun i => agStart A L i 29) >>= fun _ => tail₆ A L

/-- What follows the third. -/
def tail₄ : Prog (TpuEff nD τ sig (Elt F) Λ₀ .tc) PUnit :=
  rsStart A L 1 28 >>= fun _ => rsStart A L 2 28 >>= fun _ => rsStart A L 3 28 >>= fun _ => dots A L 0 28 >>= fun _ =>
    dots A L 1 28 >>= fun _ => rsLoop A L 28 2 (by decide) >>= fun _ => (four fun i => rsFin A L i 30) >>= fun _ =>
    gelu A L 0 >>= fun _ => gelu A L 1 >>= fun _ => agLoop A L 0 12 (by decide) >>= fun _ => tail₅ A L

/-- What follows the second. -/
def tail₃ (v : Vec F S64x1024 .f32) (w : Vec F S1024x1024 .f32) : Prog (TpuEff nD τ sig (Elt F) Λ₀ .tc) PUnit :=
  dotPut A L 0 18 v w >>= fun _ => dots A L 1 18 >>= fun _ => rsLoop A L 18 9 (by decide) >>= fun _ =>
    (four fun i => rsFin A L i 27) >>= fun _ => rsStart A L 0 28 >>= fun _ => tail₄ A L

/-- What follows the first. -/
def tail₂ (v : Vec F S64x512 .f32) : Prog (TpuEff nD τ sig (Elt F) Λ₀ .tc) PUnit :=
  rsPut A L 0 8 v >>= fun _ => rsFin A L 1 8 >>= fun _ => rsFin A L 2 8 >>= fun _ => rsFin A L 3 8 >>= fun _ =>
    starts A L 9 >>= fun _ => rsLoop A L 9 8 (by decide) >>= fun _ => (four fun i => rsFin A L i 17) >>= fun _ =>
    (four fun i => rsStart A L i 18) >>= fun _ =>
    Prog.lift (.load A.a (Rect.unit (s := S2048x1024) (L.rows 0 18).1 S64x1024.size (L.rows 0 18).2).toLoadRect
      (View.loadsAt_vmem h_S64x1024)) >>= fun v : Vec F S64x1024 .f32 =>
    Prog.lift (.load A.b (Rect.unit (s := S1024x2048) ![0, 1024 * (0 : Fin 2).val] S1024x1024.size
      (halfCol_inb 0)).toLoadRect (View.loadsAt_vmem h_S1024x1024)) >>= fun w : Vec F S1024x1024 .f32 => tail₃ A L v w

/-- The whole of it. -/
def tail₁ : Prog (TpuEff nD τ sig (Elt F) Λ₀ .tc) PUnit :=
  meet L >>= fun _ => dot₀ A L >>= fun _ => starts A L 0 >>= fun _ => rsLoop A L 0 8 (by decide) >>= fun _ =>
    Prog.lift (.waitDma2 (cellM (A.rsS 0) 8) (slotM A 0 8) (tileM A (L.src 0 8)) ((View.wordExact_bits rfl).reshape _ _)
      (View.wordExact_bits rfl)) >>= fun _ =>
    Prog.lift (.waitDma2 (cellM (A.rsR 0) 8) (tileM A (L.src 0 8)) (slotM A 0 8) (View.wordExact_bits rfl)
      ((View.wordExact_bits rfl).reshape _ _)) >>= fun _ =>
    Prog.lift (.load A.o (Rect.unit (s := S2048x2048) (L.acc 0 8).1 S64x512.size (L.acc 0 8).2).toLoadRect
      (View.loadsAt_vmem h_S64x512)) >>= fun v : Vec F S64x512 .f32 => tail₂ A L v

theorem rsLoop_add (a n : ℕ) : ∀ (m : ℕ) (h : a + (n + m) ≤ 30), rsLoop (F := F) A L a (n + m) h =
    rsLoop (F := F) A L a n (by omega) >>= fun _ => rsLoop (F := F) A L (a + n) m (by omega)
  | 0, h => by simp only [rsLoop, Nat.add_zero, bind_pure_unit]
  | m + 1, h => by
    have e : (⟨a + (n + m), by omega⟩ : Fin 31) = ⟨a + n + m, by omega⟩ := Fin.ext (Nat.add_assoc _ _ _).symm
    show (rsLoop (F := F) A L a (n + m) _ >>= fun _ => rsStep (F := F) A L ⟨a + (n + m), _⟩ _) = _
    rw [rsLoop_add a n m, rsLoop, bind_assoc]
    simp only [e]

theorem agLoop_add (a n : ℕ) : ∀ (m : ℕ) (h : a + (n + m) ≤ 31), agLoop (F := F) A L a (n + m) h =
    agLoop (F := F) A L a n (by omega) >>= fun _ => agLoop (F := F) A L (a + n) m (by omega)
  | 0, h => by simp only [agLoop, Nat.add_zero, bind_pure_unit]
  | m + 1, h => by
    have e : (⟨a + (n + m), by omega⟩ : Fin 31) = ⟨a + n + m, by omega⟩ := Fin.ext (Nat.add_assoc _ _ _).symm
    show (agLoop (F := F) A L a (n + m) _ >>= fun _ => agStep (F := F) A L ⟨a + (n + m), _⟩) = _
    rw [agLoop_add a n m, agLoop, bind_assoc]
    simp only [e]

theorem rsLoop_one (a : ℕ) (h : a + 1 ≤ 30) :
    rsLoop (F := F) A L a 1 h = rsStep (F := F) A L ⟨a, by omega⟩ (by show a + 1 < 31; omega) := by
  simp only [rsLoop, Nat.add_zero, pure_bind]

theorem agLoop_one (a : ℕ) (h : a + 1 ≤ 31) : agLoop (F := F) A L a 1 h = agStep (F := F) A L ⟨a, by omega⟩ := by
  simp only [agLoop, Nat.add_zero, pure_bind]

/-- The short form, opened where the printed parts end. -/
theorem tail₁_eq : tail₁ (F := F) A L = prog (F := F) A L := by
  have e₁ : rsLoop (F := F) A L 0 30 (by decide) = (rsLoop (F := F) A L 0 8 (by decide) >>= fun _ => rsStep (F := F) A L 8 (by decide) >>= fun _ =>
      rsLoop (F := F) A L 9 8 (by decide) >>= fun _ => rsStep (F := F) A L 17 (by decide) >>= fun _ => rsLoop (F := F) A L 18 9 (by decide) >>=
      fun _ => rsStep (F := F) A L 27 (by decide) >>= fun _ => rsLoop (F := F) A L 28 2 (by decide)) := by
    rw [rsLoop_add A L 0 8 22 (by decide), rsLoop_add A L (0 + 8) 1 21 (by decide),
      rsLoop_add A L (0 + 8 + 1) 8 13 (by decide), rsLoop_add A L (0 + 8 + 1 + 8) 1 12 (by decide),
      rsLoop_add A L (0 + 8 + 1 + 8 + 1) 9 3 (by decide), rsLoop_add A L (0 + 8 + 1 + 8 + 1 + 9) 1 2 (by decide),
      rsLoop_one, rsLoop_one, rsLoop_one]
    rfl
  have e₂ : agLoop (F := F) A L 0 31 (by decide) = (agLoop (F := F) A L 0 12 (by decide) >>= fun _ => agLoop (F := F) A L 12 17 (by decide) >>=
      fun _ => agStep (F := F) A L 29 >>= fun _ => agStep (F := F) A L 30) := by
    rw [agLoop_add A L 0 12 19 (by decide), agLoop_add A L (0 + 12) 17 2 (by decide),
      agLoop_add A L (0 + 12 + 17) 1 1 (by decide), agLoop_one, agLoop_one]
    rfl
  have s : ∀ (k : Fin 31) (h : k.val + 1 < 31), rsStep (F := F) A L k h =
      ((four fun i => rsFin (F := F) A L i k) >>= fun _ => (four fun i => rsStart (F := F) A L i ⟨k.val + 1, h⟩) >>= fun _ =>
        dots (F := F) A L 0 ⟨k.val + 1, h⟩ >>= fun _ => dots (F := F) A L 1 ⟨k.val + 1, h⟩) := fun _ _ => rfl
  have s₀ : starts (F := F) A L 9 = ((four fun i => rsStart (F := F) A L i 9) >>= fun _ => dots (F := F) A L 0 9 >>= fun _ => dots (F := F) A L 1 9) := rfl
  have g : agStep (F := F) A L 29 = ((four fun i => agStart (F := F) A L i 29) >>= fun _ => four fun i => agFin (F := F) A L i 29) := rfl
  have f₈ : (four fun i => rsFin (F := F) A L i 8) = (
    Prog.lift (.waitDma2 (cellM (A.rsS 0) 8) (slotM A 0 8) (tileM A (L.src 0 8)) ((View.wordExact_bits rfl).reshape _ _)
      (View.wordExact_bits rfl)) >>= fun _ =>
    Prog.lift (.waitDma2 (cellM (A.rsR 0) 8) (tileM A (L.src 0 8)) (slotM A 0 8) (View.wordExact_bits rfl)
      ((View.wordExact_bits rfl).reshape _ _)) >>= fun _ =>
    Prog.lift (.load A.o (Rect.unit (s := S2048x2048) (L.acc 0 8).1 S64x512.size (L.acc 0 8).2).toLoadRect
      (View.loadsAt_vmem h_S64x512)) >>= fun v : Vec F S64x512 .f32 =>
    rsPut A L 0 8 v >>= fun _ => rsFin (F := F) A L 1 8 >>= fun _ => rsFin (F := F) A L 2 8 >>= fun _ => rsFin (F := F) A L 3 8) := rfl
  have d₁₈ : dots (F := F) A L 0 18 = (
    Prog.lift (.load A.a (Rect.unit (s := S2048x1024) (L.rows 0 18).1 S64x1024.size (L.rows 0 18).2).toLoadRect
      (View.loadsAt_vmem h_S64x1024)) >>= fun v : Vec F S64x1024 .f32 =>
    Prog.lift (.load A.b (Rect.unit (s := S1024x2048) ![0, 1024 * (0 : Fin 2).val] S1024x1024.size
      (halfCol_inb 0)).toLoadRect (View.loadsAt_vmem h_S1024x1024)) >>= fun w : Vec F S1024x1024 .f32 =>
    dotPut A L 0 18 v w) := rfl
  have r₂₈ : (four fun i => rsStart (F := F) A L i 28) = (rsStart (F := F) A L 0 28 >>= fun _ => rsStart (F := F) A L 1 28 >>= fun _ =>
    rsStart (F := F) A L 2 28 >>= fun _ => rsStart (F := F) A L 3 28) := rfl
  have t₁ := s 8 (by decide)
  have t₂ := s 17 (by decide)
  have t₃ := s 27 (by decide)
  have u₁ : (⟨(8 : Fin 31).val + 1, by decide⟩ : Fin 31) = 9 := rfl
  have u₂ : (⟨(17 : Fin 31).val + 1, by decide⟩ : Fin 31) = 18 := rfl
  have u₃ : (⟨(27 : Fin 31).val + 1, by decide⟩ : Fin 31) = 28 := rfl
  rw [u₁] at t₁
  rw [u₂] at t₂
  rw [u₃] at t₃
  rw [prog, e₁, e₂, t₁, t₂, t₃, g, f₈, d₁₈, r₂₈, tail₁]
  simp only [tail₂, tail₃, tail₄, tail₅, tail₆, s₀, bind_assoc, bind_pure_unit]

end Tails

theorem body_line : body = (Prog.lift .deviceId >>= fun d => tail₁ (F := F) args (printed d)) := by
  unfold body cc0_body
  refine line₁ args _ _ _ _ _ _ _ (T := fun d v => tail₂ args (printed d) v) fun d w₁ w₂ w₃ w₄ w₅ w₆ v => ?_
  refine line₂ args _ _ _ _ _ _ _ d _ _ _ _ _ _ v (T := fun v w => tail₃ args (printed d) v w) fun w₁ w₂ v w => ?_
  refine line₃ args _ _ _ _ _ _ _ d _ _ _ _ _ v w (T := tail₄ args (printed d)) fun w₁ w₂ => ?_
  refine line₄ args _ _ _ _ _ _ _ d _ _ _ _ _ (T := tail₅ args (printed d)) fun w₁ w₂ w₃ w₄ => ?_
  refine line₅ args _ _ _ _ _ _ _ d _ _ _ _ _ _ _ (T := tail₆ args (printed d)) ?_
  unfold tail₆
  dsimp only
  repeat
    first
    | (with_reducible exact rfl)
    | with_reducible refine assocL ?_
    | with_reducible refine assocR ?_
    | with_reducible refine retL ?_
    | with_reducible refine retR ?_
    | ((with_reducible refine opCongr ?_ (fun _ => ?_)); rfl)
    | with_reducible refine fourR ?_
    | with_reducible refine rsLoopR A _ ?_
    | with_reducible refine rsLoopR₀ A _ ?_
    | with_reducible refine agLoopR A _ ?_
    | with_reducible refine agLoopR₀ A _ ?_
    | delta rsStep
    | delta starts
    | delta rsStart
    | delta rsFin
    | delta rsPut
    | delta dots
    | delta dotPut
    | delta dot₀
    | delta gelu
    | delta agStep
    | delta agStart
    | delta agFin
    | delta meet
    | dsimp only
    | delta k0_part301
    | delta k0_part302
    | delta k0_part303
    | delta k0_part304

theorem body_eq : body = (Prog.lift .deviceId >>= fun d => prog (F := F) args (printed d)) := by
  rw [body_line]
  exact congrArg _ (funext fun d => tail₁_eq args (printed d))

end Cert.Proof.Ideal

end
-- ==== Proof.IdealWhole.lean ====
/-
  The kernel's body from start to end.
-/
module

public import proofs.«01_k».proof.Proof.IdealStages
public import proofs.«01_k».proof.Proof.IdealLine

@[expose] public section

noncomputable section

namespace Cert.Proof.Ideal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Ring Cert.Proof.Region Cert.Proof.Fold

variable {F : FTy → Type} [FloatOps F]

local notation "𝕄" => MT nD τ sig Unit (Elt F) ℕ UU ℕ

section Whole

variable (A : Dev nD → S2048x1024.Idx → Elt F .f32) (B : Dev nD → S1024x2048.Idx → Elt F .f32) (c : Dev nD)

/-! ## Cutting the buffers up -/

/-- The result as half row blocks, in the order of the stages. -/
theorem rows_eq (X : S2048x2048.Idx → Elt F .f32) : (oReg c Finset.univ X : sProp 𝕄)
    = bigSep (Finset.range 32) fun k => iprop(oReg c (halfSet 0 (tileOf (strm 0) k c)) X
        ∗ oReg c (halfSet 1 (tileOf (strm 1) k c)) X) := by
  have hd : ∀ (j : Fin 2) (i : Fin 4), ∀ k ∈ Finset.Ico 0 (0 + 32), ∀ k' ∈ Finset.Ico 0 (0 + 32), k ≠ k' →
      Disjoint (halfSet j (tile i k (pos c))) (halfSet j (tile i k' (pos c))) := by
    intro j i k hk k' hk' hne
    refine halfSet_disjoint j fun h => hne ?_
    have h1 := Finset.mem_Ico.mp hk
    have h2 := Finset.mem_Ico.mp hk'
    exact tile_inj i 0 (pos c) h1 h2 h
  have hdd : Disjoint ((Finset.Ico 0 (0 + 32)).biUnion fun k => halfSet 0 (tile 0 k (pos c)))
      ((Finset.Ico 0 (0 + 32)).biUnion fun k => halfSet 1 (tile 2 k (pos c))) := by
    rw [Finset.disjoint_biUnion_left]
    intro k _
    rw [Finset.disjoint_biUnion_right]
    intro k' _
    exact halves_disjoint _ _
  rw [univ_halves 0 2 0 (pos c)]
  show reg (tcOf c) whole_o _ X = _
  rw [reg_union (tcOf c) whole_o hdd X, reg_biUnion (tcOf c) whole_o _ _ (hd 0 0) X, reg_biUnion (tcOf c) whole_o _ _ (hd 1 2) X,
    ← zip, ← Finset.range_eq_Ico]
  rfl

theorem rows_split (X : S2048x2048.Idx → Elt F .f32) : oReg c Finset.univ X
    ⊢ iprop(oReg c (rowSet (pos c)) X ∗ (halfAt 0 1 c ∗ halfAt 1 1 c)
        ∗ (bigSep (Finset.range 30) fun k => iprop(halfAt 0 (k + 2) c ∗ halfAt 1 (k + 2) c)) : sProp 𝕄) := by
  rw [rows_eq]
  have h1 := range_bot 31 fun k => (iprop(oReg c (halfSet 0 (tileOf (strm 0) k c)) X
        ∗ oReg c (halfSet 1 (tileOf (strm 1) k c)) X) : sProp 𝕄)
  have h2 := range_bot 30 fun k => (iprop(oReg c (halfSet 0 (tileOf (strm 0) (1 + k) c)) X
        ∗ oReg c (halfSet 1 (tileOf (strm 1) (1 + k) c)) X) : sProp 𝕄)
  rw [h2] at h1
  refine (Entails.of_eq h1).trans ?_
  have hz : ∀ i, tileOf i 0 c = pos c := fun i => tile_zero i (pos c)
  have hr : (oReg c (rowSet (pos c)) X : sProp 𝕄) = iprop(oReg c (halfSet 0 (pos c)) X ∗ oReg c (halfSet 1 (pos c)) X) := by
    rw [rowSet_halves]
    exact reg_union (tcOf c) whole_o (halves_disjoint _ _) X
  rw [hz, hz, hr]
  refine onRight (both ?_ (each fun k _ => ?_))
  · unfold halfAt
    iintro ⟨H0, H1⟩
    isplitl [H0]
    · iexists _; iexact H0
    iexists _; iexact H1
  · rw [show 1 + (1 + k) = k + 2 by omega]
    unfold halfAt
    iintro ⟨H0, H1⟩
    isplitl [H0]
    · iexists _; iexact H0
    iexists _; iexact H1

theorem slots_eq (d : Dev nD) (i : Fin 4) (X : S31x64x512.Idx → Elt F .f32) : (bufReg d i Finset.univ X : sProp 𝕄)
    = bigSep (Finset.range 31) fun k => bufReg d i (slotSet k) X := by
  rw [univ_slots]
  exact reg_biUnion (tcOf d) (whole_buf i) _ _ (fun _ _ _ _ h => slotSet_disjoint h) X

theorem slots_split (i : Fin 4) : bufAt i c ⊢ (bigSep (Finset.range 31) fun k => slotAt i k c : sProp 𝕄) := by
  unfold bufAt
  iintro ⟨%X, H⟩
  ihave H := (Entails.of_eq (slots_eq (peer i c) i X)) $$ H
  iapply (each (Φ := fun k => bufReg (peer i c) i (slotSet k) X) (fun k _ => by
    unfold slotAt
    iintro H
    iexists X
    iexact H)) $$ H

theorem slots_all : iprop(bufAt 0 c ∗ bufAt 1 c ∗ bufAt 2 c ∗ bufAt 3 c)
    ⊢ (iprop(q4 (fun i => slotAt i 0 c) ∗ bigSep (Finset.range 30) fun k => q4 fun i => slotAt i (k + 1) c) : sProp 𝕄) := by
  have h := q4_mono (fun i => slots_split (F := F) c i)
  rw [← q4_range] at h
  refine (show iprop(bufAt 0 c ∗ bufAt 1 c ∗ bufAt 2 c ∗ bufAt 3 c) ⊢ (q4 fun i => bufAt i c : sProp 𝕄) from Entails.of_eq rfl).trans
    (h.trans ((Entails.of_eq (range_bot 30 fun k => (q4 fun i => slotAt i k c : sProp 𝕄))).trans ?_))
  refine onRight (each fun k _ => ?_)
  rw [Nat.add_comm 1 k]

theorem pends_split : (bigSep (Finset.range 62) fun k => q4 fun i => pend i k c)
    ⊢ (iprop((q4 (fun i => pend i 0 c) ∗ bigSep (Finset.range 30) fun k => q4 fun i => pend i (k + 1) c)
      ∗ q4 (fun i => pend i 31 c) ∗ bigSep (Finset.range 30) fun k => q4 fun i => pend i (31 + (1 + k)) c) : sProp 𝕄) := by
  refine (Entails.of_eq (range_add 31 (fun k => (q4 fun i => pend i k c : sProp 𝕄)) 31)).trans ?_
  refine both ?_ (Entails.of_eq (range_bot 30 fun k => (q4 fun i => pend i (31 + k) c : sProp 𝕄)))
  refine (Entails.of_eq (range_bot 30 fun k => (q4 fun i => pend i k c : sProp 𝕄))).trans ?_
  refine onRight (each fun k _ => ?_)
  rw [Nat.add_comm 1 k]

/-- What the steps of the reduction need. -/
theorem rs_supply : iprop((bigSep (Finset.range 30) fun k => q4 fun i => pend i (k + 1) c)
      ∗ (bigSep (Finset.range 30) fun k => q4 fun i => slotAt i (k + 1) c)
      ∗ (bigSep (Finset.range 30) fun k => iprop(halfAt 0 (k + 2) c ∗ halfAt 1 (k + 2) c)))
    ⊢ (bigSep (Finset.range 30) fun k => rsIn k c : sProp 𝕄) := by
  refine (onRight (Entails.of_eq (zip _ _ _).symm)).trans
    ((Entails.of_eq (zip _ _ _).symm).trans (each fun k _ => ?_))
  unfold rsIn
  iintro ⟨Hp, Hs, Hh⟩
  isplitl [Hp Hs]
  · iapply (Entails.of_eq (q4_sep _ _).symm)
    isplitl [Hp]; · iexact Hp
    iexact Hs
  iexact Hh

theorem ag_supply (n : ℕ) (a : ℕ → ℕ) : iprop((bigSep (Finset.range n) fun k => q4 fun i => tileAt i (a k) c)
      ∗ (bigSep (Finset.range n) fun k => q4 fun i => pend i (a k) c))
    ⊢ (bigSep (Finset.range n) fun k => agIn (a k) c : sProp 𝕄) := by
  refine (Entails.of_eq (zip _ _ _).symm).trans (each fun k _ => ?_)
  unfold agIn
  exact Entails.of_eq (q4_sep _ _).symm

/-! ## Putting them together again -/

theorem slots_join (i : Fin 4) : (bigSep (Finset.range 31) fun k => slotBack i k c)
    ⊢ (iprop(∃ X, bufReg c i Finset.univ X) : sProp 𝕄) := by
  unfold slotBack
  haveI : Nonempty (S31x64x512.Idx → Elt F .f32) := ⟨fun _ => Scalar.ofBits .f32 0x00000000#32⟩
  refine via (bigSep_exists_pi (Y := fun _ : ℕ => S31x64x512.Idx → Elt F .f32) (Finset.range 31) fun k X => bufReg c i (slotSet k) X) ?_
  iintro ⟨%X, H⟩
  iexists fun z => X (z 0).val z
  iapply (Entails.of_eq (slots_eq c i fun z => X (z 0).val z).symm)
  iapply (each (Φ := fun k => bufReg c i (slotSet k) (X k)) (fun k _ => Entails.of_eq
    (reg_congr (tcOf c) (whole_buf i) (R := slotSet k) (X := X k) (Y := fun z => X (z 0).val z) (fun z hz => by
      rw [mem_slotSet.mp hz])))) $$ H

/-- The result, tile by tile. -/
theorem tiles_join : (q4 fun i => bigSep (Finset.range 32) fun k => sent A B i (31 + k) c)
    ⊢ oReg c Finset.univ (done A B) := by
  have hd : ∀ i : Fin 4, ∀ k ∈ Finset.Ico 31 (31 + 32), ∀ k' ∈ Finset.Ico 31 (31 + 32), k ≠ k' →
      Disjoint (tileSet i (tile i k (pos c))) (tileSet i (tile i k' (pos c))) := by
    intro i k hk k' hk' hne
    refine tileSet_disjoint i fun h => hne ?_
    have h1 := Finset.mem_Ico.mp hk
    have h2 := Finset.mem_Ico.mp hk'
    exact tile_inj i 31 (pos c) h1 h2 h
  have hdd : ∀ i ∈ (Finset.univ : Finset (Fin 4)), ∀ i' ∈ (Finset.univ : Finset (Fin 4)), i ≠ i' →
      Disjoint ((Finset.Ico 31 (31 + 32)).biUnion fun k => tileSet i (tile i k (pos c)))
        ((Finset.Ico 31 (31 + 32)).biUnion fun k => tileSet i' (tile i' k (pos c))) := by
    intro i _ i' _ hne
    rw [Finset.disjoint_biUnion_left]
    intro k _
    rw [Finset.disjoint_biUnion_right]
    intro k' _
    exact tiles_disjoint hne _ _
  rw [univ_tiles 31 (pos c), q4_eq]
  show _ ⊢ reg (tcOf c) whole_o _ (done A B)
  rw [reg_biUnion (tcOf c) whole_o _ _ hdd]
  refine each fun i _ => ?_
  rw [reg_biUnion (tcOf c) whole_o _ _ (hd i), range_Ico]
  refine each fun k _ => ?_
  rw [sent_ag A B c i (by omega)]

theorem rsOut_split : (bigSep (Finset.range 31) fun k => rsOut k c)
    ⊢ (iprop((bigSep (Finset.range 31) fun k => q4 fun i => over i k c) ∗ (q4 fun i => iprop(∃ X, bufReg c i Finset.univ X))
      ∗ bigSep (Finset.range 30) fun k => q4 fun i => tileAt i (31 + k) c) : sProp 𝕄) := by
  have h : ∀ k, (rsOut k c : sProp 𝕄) = iprop(q4 (fun i => over i k c) ∗ q4 (fun i => slotBack i k c) ∗ q4 (fun i => extra i k c)) :=
    fun k => by
      unfold rsOut
      exact (q4_sep _ _).trans (congrArg _ (q4_sep _ _))
  refine (each fun k _ => Entails.of_eq (h k)).trans ?_
  refine (Entails.of_eq (zip _ _ _)).trans (onRight ((Entails.of_eq (zip _ _ _)).trans (both ?_ ?_)))
  · exact (Entails.of_eq (q4_range 31 fun i k => slotBack i k c)).trans (q4_mono fun i => slots_join c i)
  · refine (Entails.of_eq (range_bot 30 fun k => (q4 fun i => extra i k c : sProp 𝕄))).trans ?_
    refine sep_elim_right.trans (each fun k hk => ?_)
    have hk' := Finset.mem_range.mp hk
    refine via (q4_mono fun i => ?_) (Entails.of_eq (q4_mir fun i => tileAt i (31 + k) c))
    unfold extra
    rw [if_pos ⟨by omega, by omega⟩, show 30 + (1 + k) = 31 + k by omega]

theorem agOut_eq (k : ℕ) : agOut A B k c
    = iprop(q4 (fun i => over i k c) ∗ q4 (fun i => sent A B i k c) ∗ q4 (fun i => extra i k c)) := by
  unfold agOut
  exact (q4_sep _ _).trans (congrArg _ (q4_sep _ _))

/-- The place the last stage writes. -/
theorem extra_last : (q4 fun i => extra i 31 c) ⊢ (q4 fun i => tileAt i (31 + (1 + 29)) c : sProp 𝕄) := by
  refine via (q4_mono fun i => ?_) (Entails.of_eq (q4_mir fun i => tileAt i (31 + (1 + 29)) c))
  unfold extra
  rw [if_pos ⟨by omega, by omega⟩]

theorem agOuts_split : (bigSep (Finset.range 30) fun k => agOut A B (31 + (1 + k)) c)
    ⊢ iprop((bigSep (Finset.range 30) fun k => q4 fun i => over i (31 + (1 + k)) c)
      ∗ bigSep (Finset.range 30) fun k => q4 fun i => sent A B i (31 + (1 + k)) c) := by
  refine (each fun k _ => ?_).trans (Entails.of_eq (zip _ _ _))
  rw [agOut_eq]
  exact onRight sep_elim_left

theorem sents_join : iprop(q4 (fun i => sent A B i 31 c) ∗ (bigSep (Finset.range 30) fun k => q4 fun i => sent A B i (31 + (1 + k)) c)
      ∗ q4 (fun i => sent A B i (31 + (1 + 30)) c)) ⊢ oReg c Finset.univ (done A B) := by
  refine via ?_ (tiles_join A B c)
  rw [← q4_range]
  refine via ?_ (Entails.of_eq (range_bot 31 fun k => q4 fun i => sent A B i (31 + k) c).symm)
  refine onRight ?_
  refine via ?_ (Entails.of_eq (bigSep_range_succ 30 fun k => q4 fun i => sent A B i (31 + (1 + k)) c).symm)
  iintro ⟨H1, H2⟩
  isplitl [H2]; · iexact H2
  iexact H1

theorem overs_join : iprop((bigSep (Finset.range 31) fun k => q4 fun i => over i k c) ∗ q4 (fun i => over i 31 c)
      ∗ bigSep (Finset.range 30) fun k => q4 fun i => over i (31 + (1 + k)) c)
    ⊢ (bigSep (Finset.range 62) fun k => q4 fun i => over i k c : sProp 𝕄) := by
  refine via ?_ (Entails.of_eq (range_add 31 (fun k => (q4 fun i => over i k c : sProp 𝕄)) 31).symm)
  exact onRight (Entails.of_eq (range_bot 30 fun k => (q4 fun i => over i (31 + k) c : sProp 𝕄)).symm)

/-! ## The whole -/

/-- The reduction's last tiles hold the sums over all devices. -/
theorem sums : q4 (fun i => oReg c (tileSet i (tileOf i 31 c)) (part A B 31 c))
    ⊢ iprop(oReg c (halfSet 0 (tileOf (strm 0) 31 c)) (total A B) ∗ oReg c (halfSet 1 (tileOf (strm 1) 31 c)) (total A B)) := by
  rw [halves_tiles]
  exact q4_mono fun i => turn (total_eq A B c i)

theorem run_gelus : q4 (fun i => oReg c (tileSet i (tileOf i 31 c)) (part A B 31 c))
    ⊢ run c (gelu args (places c) 0 >>= fun _ => gelu args (places c) 1) (q4 fun i => sent A B i 31 c) := by
  iintro H
  ihave H := (sums A B c) $$ H
  icases H with ⟨H0, H1⟩
  iapply (run_step (run_gelu A B c 0)) $$ H0
  iintro H0
  iapply (run_last (run_gelu A B c 1)) $$ H1
  iintro H1
  iapply (q4_mono (fun i => Entails.of_eq (sent_ag A B c i (k := 31) (by omega)).symm))
  iapply (Entails.of_eq (halves_tiles c 31 (done A B)))
  isplitl [H0]; · iexact H0
  iexact H1

theorem agLoop_cut : agLoop (F := F) args (places c) 0 31 (by decide)
    = agStep (F := F) args (places c) 0 >>= fun _ => agLoop (F := F) args (places c) 1 30 (by decide) := by
  have h := agLoop_add (F := F) args (places c) 0 1 30 (by decide)
  rw [agLoop_one] at h
  exact h

attribute [local irreducible] agLoop rsLoop

/-- All the gathering. -/
theorem run_gather :
    iprop(known A B ∗ q4 (fun i => sent A B i 30 c) ∗ q4 (fun i => sent A B i 31 c)
        ∗ (bigSep (Finset.range 30) fun k => q4 fun i => tileAt i (31 + k) c)
        ∗ (q4 (fun i => pend i 31 c) ∗ bigSep (Finset.range 30) fun k => q4 fun i => pend i (31 + (1 + k)) c)
        ∗ owing c (4 * 31))
      ⊢ run c (agLoop args (places c) 0 31 (by decide)) iprop(oReg c Finset.univ (done A B) ∗ owing c 248
        ∗ q4 (fun i => over i 31 c) ∗ bigSep (Finset.range 30) fun k => q4 fun i => over i (31 + (1 + k)) c) := by
  rw [agLoop_cut]
  iintro ⟨#HJ, Hs, Ht, Htiles, ⟨Hp, Hps⟩, HO⟩
  ihave He := (q4_mono (fun i => extra_of_sent A B c i (k := 30) (by omega))) $$ [Hs]
  · iapply (Entails.of_eq (q4_mir fun i => sent A B i 30 c).symm)
    iexact Hs
  ihave Htiles := (Entails.of_eq (range_bot 29 fun k => (q4 fun i => tileAt i (31 + k) c : sProp 𝕄))) $$ Htiles
  icases Htiles with ⟨Ht0, Htiles⟩
  iapply (run_step (run_agStep A B c (0 : Fin 31))) $$ [He Ht Ht0 Hp HO]
  · isplitr; · iexact HJ
    isplitl [Ht]; · iexact Ht
    isplitl [He Ht0 Hp]
    · iapply (Entails.of_eq (q4_sep _ _).symm)
      isplitl [Ht0]; · iexact Ht0
      iapply (Entails.of_eq (q4_sep _ _).symm)
      isplitl [He]; · iexact He
      iexact Hp
    iexact HO
  iintro ⟨Hs, Hout, HO⟩
  ihave Hout := (Entails.of_eq (agOut_eq A B c 31)) $$ Hout
  icases Hout with ⟨Hov, H31, He⟩
  ihave He := (extra_last c) $$ He
  iapply (run_last (run_agLoop A B c 30 _)) $$ [Hs He Htiles Hps HO]
  · isplitr; · iexact HJ
    isplitl [Hs]; · iexact Hs
    isplitl [HO]; · iexact HO
    iapply (ag_supply c 30 fun k => 31 + (1 + k))
    isplitl [He Htiles]
    · iapply (Entails.of_eq (bigSep_range_succ 29 fun k => (q4 fun i => tileAt i (31 + (1 + k)) c : sProp 𝕄)).symm)
      isplitl [He]; · iexact He
      iexact Htiles
    iexact Hps
  iintro ⟨H62, HO, Houts⟩
  ihave Houts := (agOuts_split A B c) $$ Houts
  icases Houts with ⟨Hovs, Hss⟩
  isplitl [H31 H62 Hss]
  · iapply (sents_join A B c)
    isplitl [H31]; · iexact H31
    isplitl [Hss]; · iexact Hss
    iexact H62
  isplitl [HO]; · iexact HO
  isplitl [Hov]; · iexact Hov
  iexact Hovs

/-- The body after it has read its device. -/
theorem run_prog (W : Waits sig Unit) :
    iprop(known A B ∗ meeting c ∗ owes (tcOf c) (O₀ c) W ∗ (q4 fun i => iprop(∃ X, bufReg c i Finset.univ X)) ∗ factors A B c
        ∗ (∃ X, oReg c Finset.univ X) ∗ bigSep (Finset.range 62) fun k => q4 fun i => pend i k c)
      ⊢ run c (prog args (places c)) iprop(semVal (barCell c) 0 ∗ (bigSep (Finset.range 62) fun k => q4 fun i => over i k c)
        ∗ factors A B c ∗ oReg c Finset.univ (done A B) ∗ (q4 fun i => iprop(∃ X, bufReg c i Finset.univ X))
        ∗ owing c 248) := by
  unfold prog
  iintro ⟨#HJ, Hm, HO, Hb, Hab, ⟨%X, Ho⟩, Hp⟩
  ihave Hb := (show (q4 fun i => iprop(∃ X, bufReg c i Finset.univ X) : sProp 𝕄) ⊢ iprop((∃ X, bufReg c 0 Finset.univ X)
    ∗ (∃ X, bufReg c 1 Finset.univ X) ∗ (∃ X, bufReg c 2 Finset.univ X) ∗ (∃ X, bufReg c 3 Finset.univ X)) from Entails.of_eq rfl) $$ Hb
  icases Hb with ⟨⟨%X0, H0⟩, ⟨%X1, H1⟩, ⟨%X2, H2⟩, ⟨%X3, H3⟩⟩
  iapply (run_step (run_meet A B c W X0 X1 X2 X3)) $$ [Hm HO H0 H1 H2 H3]
  · ihave HK := (show known A B ⊢ iprop(recs A B ∗ levAts L lv) from by unfold known; exact .rfl) $$ HJ
    icases HK with ⟨#Hr, #Hl⟩
    isplitr; · iexact Hr
    isplitr; · iexact Hl
    isplitl [Hm]; · iexact Hm
    isplitl [HO]; · iexact HO
    isplitl [H0]; · iexact H0
    isplitl [H1]; · iexact H1
    isplitl [H2]; · iexact H2
    iexact H3
  iintro ⟨Hbar, H0, H1, H2, H3, HO⟩
  ihave Hsl := (slots_all c) $$ [H0 H1 H2 H3]
  · isplitl [H0]; · iexact H0
    isplitl [H1]; · iexact H1
    isplitl [H2]; · iexact H2
    iexact H3
  icases Hsl with ⟨Hs0, Hss⟩
  ihave Hr := (rows_split c X) $$ Ho
  icases Hr with ⟨Hrow, ⟨Hh0, Hh1⟩, Hhs⟩
  ihave Hp := (pends_split c) $$ Hp
  icases Hp with ⟨⟨Hp0, Hps⟩, Hpg⟩
  ihave Hab := (show factors A B c ⊢ iprop(aReg c (A c) ∗ bReg c (B c)) from by unfold factors; exact .rfl) $$ Hab
  icases Hab with ⟨Ha, Hb⟩
  iapply (run_step (run_dot₀ A B c X)) $$ [Ha Hb Hrow]
  · isplitl [Ha]; · iexact Ha
    isplitl [Hb]; · iexact Hb
    iexact Hrow
  iintro ⟨Ha, Hb, Hrow⟩
  have hz : ∀ i, tileOf i 0 c = pos c := fun i => tile_zero i (pos c)
  have hr : oReg c (rowSet (pos c)) (part A B 0 c) ⊢ q4 fun i => sent A B i 0 c := by
    refine via ?_ (q4_mono fun i => Entails.of_eq (sent_rs A B c i (by omega)).symm)
    rw [← halves_tiles, hz, hz, rowSet_halves]
    exact Entails.of_eq (reg_union (tcOf c) whole_o (halves_disjoint _ _) _)
  ihave Ht0 := hr $$ Hrow
  iapply (run_step (run_starts A B c (0 : Fin 31))) $$ [Ht0 Hs0 Hp0 Hh0 Hh1 Ha Hb HO]
  · isplitr; · iexact HJ
    isplitl [Ht0 Hs0 Hp0]
    · iapply (Entails.of_eq (q4_sep _ _).symm)
      isplitl [Ht0]; · iexact Ht0
      iapply (Entails.of_eq (q4_sep _ _).symm)
      isplitl [Hs0]; · iexact Hs0
      iapply (q4_mono (P := fun i => pend i 0 c) (fun i => by
        rw [show ((0 : Fin 31).val) = 0 from rfl, extra_emp i 0 (by omega)]
        iintro H
        isplitr [H]; · iempintro
        iexact H))
      iexact Hp0
    isplitl [Hh0]; · iexact Hh0
    isplitl [Hh1]; · iexact Hh1
    isplitl [Ha Hb]
    · unfold factors
      isplitl [Ha]; · iexact Ha
      iexact Hb
    iexact HO
  iintro Hmid
  iapply (run_step (run_rsLoop A B c 30 _)) $$ [Hmid Hss Hhs Hps]
  · isplitr; · iexact HJ
    isplitl [Hmid]; · iexact Hmid
    iapply (rs_supply c)
    isplitl [Hps]; · iexact Hps
    isplitl [Hss]; · iexact Hss
    iexact Hhs
  iintro ⟨Hmid, Houts⟩
  have hf : iprop(known A B ∗ mid A B 30 c) ⊢ run c (four fun i => rsFin args (places c) i 30) iprop(rsOut 30 c
      ∗ q4 (fun i => sent A B i 30 c) ∗ q4 (fun i => oReg c (tileSet i (tileOf i 31 c)) (part A B 31 c)) ∗ factors A B c
      ∗ owing c (4 * 31)) := run_rsFins A B c (30 : Fin 31)
  iapply (run_step hf) $$ [Hmid]
  · isplitr; · iexact HJ
    iexact Hmid
  iintro ⟨Hout, Hs30, Ht31, Hab, HO⟩
  ihave Houts := (rsOut_split c) $$ [Hout Houts]
  · iapply (Entails.of_eq (bigSep_range_succ 30 fun k => (rsOut k c : sProp 𝕄)).symm)
    isplitl [Hout]; · iexact Hout
    iexact Houts
  icases Houts with ⟨Hov, Hbufs, Htiles⟩
  rw [← bind_assoc]
  iapply (run_step (run_gelus A B c)) $$ Ht31
  iintro Ht31
  iapply (run_last (run_gather A B c)) $$ [Hs30 Ht31 Htiles Hpg HO]
  · isplitr; · iexact HJ
    isplitl [Hs30]; · iexact Hs30
    isplitl [Ht31]; · iexact Ht31
    isplitl [Htiles]; · iexact Htiles
    isplitl [Hpg]; · iexact Hpg
    iexact HO
  iintro ⟨Ho, HO, Hov31, Hovs⟩
  isplitl [Hbar]; · iexact Hbar
  isplitl [Hov Hov31 Hovs]
  · iapply (overs_join c)
    isplitl [Hov]; · iexact Hov
    isplitl [Hov31]; · iexact Hov31
    iexact Hovs
  isplitl [Hab]; · iexact Hab
  isplitl [Ho]; · iexact Ho
  isplitl [Hbufs]; · iexact Hbufs
  iexact HO

end Whole

end Cert.Proof.Ideal

end
-- ==== Proof.IdealBody.lean ====
/-
  The body of the kernel, with the staging buffers as the launch hands them to it, and what it leaves behind.
-/
module

public import proofs.«01_k».proof.Proof.IdealWhole
public import proofs.«01_k».proof.Proof.IdealPlaces

@[expose] public section

noncomputable section

namespace Cert.Proof.Ideal

open Cert.KernelIdeal Cert.KernelIdeal.Gen
open Idealize.ShloMosaic Idealize.ShloMosaic.TcCoe
open Idealize.ShloMosaic.Pipeline (Cfg)
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Cert.Proof.Ring Cert.Proof.Region Cert.Proof.Fold

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The memory a run starts from. -/
def s₀ : MemSt nD τ sig (Elt F) := ⟨m, fun _ => 0, ρ⟩

/-- The left factor's columns held by device `c`. -/
def inA (c : Dev nD) : S2048x1024.Idx → Elt F .f32 :=
  (win0_0.blk (0 : Fin 1)).view.read (Elt F) (m ((tcOf c).loc main_arg0))
/-- The right factor's rows held by device `c`. -/
def inB (c : Dev nD) : S1024x2048.Idx → Elt F .f32 :=
  (win0_1.blk (0 : Fin 1)).view.read (Elt F) (m ((tcOf c).loc main_arg1))

/-! ## Whole buffers -/

theorem pt_whole (b : Ref sig .tc) (h : (Memref.whole b : Memref sig .tc _ _ _).IsWhole) (f : Buf (Elt F) ((tcOf c).loc b)) :
    (((tcOf c).loc b) ↦{fullShare} f : sProp 𝕄) = reg (tcOf c) (m := Memref.whole b) h Finset.univ f := by
  have e := reg_univ (Val := Elt F) (Ix := Unit) (Name := ℕ) (U := UU) (Lvl := ℕ) (tcOf c) h f
  simp only [Memref.view_whole, View.read_whole, View.set_whole] at e
  exact e

theorem a_pt (f : Buf (Elt F) ((tcOf c).loc cc0_stg0_0)) : (((tcOf c).loc cc0_stg0_0) ↦{fullShare} f : sProp 𝕄) = aReg c f :=
  pt_whole c cc0_stg0_0 _ f
theorem b_pt (f : Buf (Elt F) ((tcOf c).loc cc0_stg1_0)) : (((tcOf c).loc cc0_stg1_0) ↦{fullShare} f : sProp 𝕄) = bReg c f :=
  pt_whole c cc0_stg1_0 _ f
theorem o_pt (f : Buf (Elt F) ((tcOf c).loc cc0_stg2_0)) :
    (((tcOf c).loc cc0_stg2_0) ↦{fullShare} f : sProp 𝕄) = oReg c Finset.univ f :=
  pt_whole c cc0_stg2_0 _ f
theorem buf_pt0 (f : Buf (Elt F) ((tcOf c).loc cc0_scratch0)) :
    (((tcOf c).loc cc0_scratch0) ↦{fullShare} f : sProp 𝕄) = bufReg c 0 Finset.univ f := pt_whole c cc0_scratch0 _ f
theorem buf_pt1 (f : Buf (Elt F) ((tcOf c).loc cc0_scratch1)) :
    (((tcOf c).loc cc0_scratch1) ↦{fullShare} f : sProp 𝕄) = bufReg c 1 Finset.univ f := pt_whole c cc0_scratch1 _ f
theorem buf_pt2 (f : Buf (Elt F) ((tcOf c).loc cc0_scratch2)) :
    (((tcOf c).loc cc0_scratch2) ↦{fullShare} f : sProp 𝕄) = bufReg c 2 Finset.univ f := pt_whole c cc0_scratch2 _ f
theorem buf_pt3 (f : Buf (Elt F) ((tcOf c).loc cc0_scratch3)) :
    (((tcOf c).loc cc0_scratch3) ↦{fullShare} f : sProp 𝕄) = bufReg c 3 Finset.univ f := pt_whole c cc0_scratch3 _ f

/-- The four landing buffers at some contents. -/
def landings : sProp 𝕄 := q4 fun i => iprop(∃ X, bufReg c i Finset.univ X)

theorem landings_eq : (Pipeline.scopedRest (Ix := Unit) (Name := ℕ) (U := UU) (Lvl := ℕ) (Val := Elt F) spec0 c : sProp 𝕄)
    = landings c := by
  rw [scopedRest0_eq]
  unfold landings
  unfold q4
  simp only [buf_pt0, buf_pt1, buf_pt2, buf_pt3]
  rfl

/-! ## Before and after -/

/-- What the body starts from, the buffers apart. -/
def start : sProp 𝕄 :=
  iprop(known (inA m) (inB m) ∗ meeting c ∗ bigSep (Finset.range 62) fun k => q4 fun i => pend i k c)

def Φ₀ : sProp 𝕄 := iprop(start m c ∗ landings c)
def Φ₁ : sProp 𝕄 :=
  iprop(semVal (barCell c) 0 ∗ (bigSep (Finset.range 62) fun k => q4 fun i => over i k c) ∗ landings c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m c
    | ⟨1, _⟩ => inB m c
    | ⟨2, _⟩ => done (inA m) (inB m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_a (t : Fin cfg0.N) : (cfg0.win (0 : Fin 3)).fetch t = true := by rw [fin_N0 t]; rfl
theorem fetch_b (t : Fin cfg0.N) : (cfg0.win (1 : Fin 3)).fetch t = true := by rw [fin_N0 t]; rfl

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer holding `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost : sProp 𝕄 :=
  iprop(Φ₁ c ∗ (dats m ρ 0 c).owesAt () t0_0.succ ∗ stg c cc0_stg0_0 (inA m c) ∗ stg c cc0_stg1_0 (inB m c)
    ∗ stg c cc0_stg2_0 (done (inA m) (inB m)))

/-- Everything the program ends with, as the launch wants it back. -/
theorem body_after : iprop(semVal (barCell c) 0 ∗ (bigSep (Finset.range 62) fun k => q4 fun i => over i k c)
      ∗ factors (inA m) (inB m) c ∗ oReg c Finset.univ (done (inA m) (inB m)) ∗ landings c ∗ owing c 248)
    ⊢ bodyPost m ρ c := by
  unfold bodyPost Φ₁ factors owing
  iintro ⟨Hb, Hv, ⟨HA, HB⟩, Ho, Hl, ⟨%W, HO⟩⟩
  isplitl [Hb Hv Hl]
  · isplitl [Hb]; · iexact Hb
    isplitl [Hv]; · iexact Hv
    iexact Hl
  isplitl [HO]
  · unfold Dat.owesAt Pipeline.owesWithin
    iexists W
    isplitr; · ipureintro; exact fun _ _ => Or.inl trivial
    rw [show (dats m ρ 0 c).owed t0_0.succ = 0 from rfl, ← Ow_end c]
    iexact HO
  isplitl [HA]
  · iexists _
    isplitr; · ipureintro; rfl
    rw [a_pt]; iexact HA
  isplitl [HB]
  · iexists _
    isplitr; · ipureintro; rfl
    rw [b_pt]; iexact HB
  iexists _
  isplitr; · ipureintro; rfl
  rw [o_pt]; iexact Ho

/-- The body runs. -/
theorem sound_body : bodyPre m ρ c ⊢ wp frame (wpE (defs₀ (F := F)) 𝒱₀ (tcOf c) none) Set.univ body
    (fun _ => bodyPost m ρ c) := by
  rw [body_eq]
  simp only [Prog.lift, Prog.bind_op, Prog.bind_ret, wp_deviceId]
  rw [printed_eq]
  unfold bodyPre Φ₀ start
  iintro ⟨⟨⟨Hk, Hm, Hp⟩, Hl⟩, Ho, ⟨%d0, %g0, %h0, HA⟩, ⟨%d1, %g1, %h1, HB⟩, ⟨%d2, %g2, %h2, HC⟩⟩
  have e0 : g0 = inA m c := by rw [h0]; unfold Dat.before; rw [if_pos (fetch_a t0_0)]; rfl
  have e1 : g1 = inB m c := by rw [h1]; unfold Dat.before; rw [if_pos (fetch_b t0_0)]; rfl
  subst e0
  subst e1
  unfold Dat.owesAt Pipeline.owesWithin
  icases Ho with ⟨%W, %hW, HO⟩
  rw [show (dats m ρ 0 c).owed t0_0.castSucc = O₀ c from rfl]
  ihave HA := (Entails.of_eq (a_pt c _)) $$ HA
  ihave HB := (Entails.of_eq (b_pt c _)) $$ HB
  ihave HC := (Entails.of_eq (o_pt c _)) $$ HC
  iapply (via (run_prog (inA m) (inB m) c W) (wp_mono _ _ _ fun _ => body_after m ρ c))
  unfold landings factors
  isplitl [Hk]; · iexact Hk
  isplitl [Hm]; · iexact Hm
  isplitl [HO]; · iexact HO
  isplitl [Hl]; · iexact Hl
  isplitl [HA HB]
  · isplitl [HA]; · iexact HA
    iexact HB
  isplitl [HC]; · iexists g2; iexact HC
  iexact Hp

attribute [local irreducible] cc0_body in
/-- What the launch asks of the body. -/
theorem body_obligation : BodyObligation (dats (F := F) m ρ 0 c) (defs₀ (F := F)) 𝒱₀ () Set.univ := fun t => by
  rw [fin_N0 t]
  rw [bigSep_W0, bigSep_W0]
  simp only [owns_whole_eq]
  have e : defs₀ (F := F) Proc.tc cfg0.body (t0_0, cfg0.slots t0_0) = body := rfl
  rw [e]
  show bodyPre m ρ c ⊢ wp frame (wpE (defs₀ (F := F)) 𝒱₀ (tcOf c) none) Set.univ body (fun _ => bodyPost m ρ c)
  exact sound_body m ρ c

end Cert.Proof.Ideal

end
-- ==== Proof.IdealDeal.lean ====
/-
  What the launch deals the devices: every cell with its record, the duty tokens handed around the ring to the devices
  that pay them, and the credit each device waits with.
-/
module

public import proofs.«01_k».proof.Proof.IdealBody
public import proofs.«01_k».proof.Proof.Shares

@[expose] public section

noncomputable section

namespace Cert.Proof.Ideal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Cert.Proof.Ring Cert.Proof.Region Cert.Proof.Fold Cert.Proof.Shares

variable {F : FTy → Type} [FloatOps F]

local notation "𝕄" => MT nD τ sig Unit (Elt F) ℕ UU ℕ

variable (A : Dev nD → S2048x1024.Idx → Elt F .f32) (B : Dev nD → S1024x2048.Idx → Elt F .f32) (c : Dev nD)

/-! ## The cells -/

/-- The transfer cells of a device among its semaphores. -/
def osem (x : CI) : SemLoc sig := .dma (sem x.1 x.2.1 x.2.2.val)
abbrev xcell (c : Dev nD) (x : CI) : GSem nD τ sig := cell x.1 c x.2.1 x.2.2.val

theorem sem_idx_inj {x y : CI} (h : sem x.1 x.2.1 x.2.2.val = sem y.1 y.2.1 y.2.2.val) : x = y := by
  obtain ⟨d, i, k⟩ := x
  obtain ⟨d', i', k'⟩ := y
  obtain ⟨h1, h2, h3⟩ := sem_inj k.isLt k'.isLt h
  have h4 : k = k' := Fin.ext h3
  subst h1; subst h2; subst h4
  rfl

theorem osem_inj : Function.Injective osem := fun _ _ h => sem_idx_inj (SemLoc.dma.inj h)

theorem xcell_inj {c c' : Dev nD} {x y : CI} (h : xcell c x = xcell c' y) : c = c' ∧ x = y :=
  ⟨congrArg (fun g : GSem nD τ sig => g.1.1) h, sem_idx_inj (SemLoc.dma.inj (congrArg Prod.snd h))⟩

theorem barCell_inj {c c' : Dev nD} (h : barCell c = barCell c') : c = c' :=
  congrArg (fun g : GSem nD τ sig => g.1.1) h

theorem xcell_ne_bar (c c' : Dev nD) (x : CI) : xcell c x ≠ barCell c' := fun h => by
  have h' : (SemLoc.dma (sem x.1 x.2.1 x.2.2.val) : SemLoc sig) = .reg barS := congrArg Prod.snd h
  cases h'

/-- Every cell of every device. -/
def kcell : (Dev nD × CI) ⊕ Dev nD → GSem nD τ sig
  | .inl x => xcell x.1 x.2
  | .inr c => barCell c

theorem kcell_inj : Function.Injective kcell := by
  rintro (⟨c, x⟩ | c) (⟨c', y⟩ | c') h
  · obtain ⟨rfl, rfl⟩ := xcell_inj (show xcell c x = xcell c' y from h); rfl
  · exact absurd h (xcell_ne_bar c c' x)
  · exact absurd h.symm (xcell_ne_bar c' c y)
  · obtain rfl := barCell_inj (show barCell c = barCell c' from h); rfl

/-- Every duty of every cell. -/
def tokOf : (Dev nD × CI) ⊕ (Dev nD × Bool) → GSem nD τ sig × ℕ × Bool
  | .inl x => (xcell x.1 x.2, 0, false)
  | .inr x => (barCell x.1, 0, x.2)

theorem tokOf_inj : Function.Injective tokOf := by
  rintro (⟨c, x⟩ | ⟨c, b⟩) (⟨c', y⟩ | ⟨c', b'⟩) h
  · obtain ⟨rfl, rfl⟩ := xcell_inj (show xcell c x = xcell c' y from congrArg Prod.fst h); rfl
  · exact absurd (congrArg Prod.fst h) (xcell_ne_bar c c' x)
  · exact absurd (congrArg Prod.fst h).symm (xcell_ne_bar c' c y)
  · obtain rfl := barCell_inj (show barCell c = barCell c' from congrArg Prod.fst h)
    obtain rfl : b = b' := congrArg (fun t : GSem nD τ sig × ℕ × Bool => t.2.2) h
    rfl

def allCells : Finset (GSem nD τ sig) := Finset.univ.map ⟨kcell, kcell_inj⟩
def allToks : Finset (GSem nD τ sig × ℕ × Bool) := Finset.univ.map ⟨tokOf, tokOf_inj⟩

def u₀ : UU := (initOf (Pipeline.cells cfgs cellOf_inj) (Pipeline.launchToks cfgs cellOf_inj), initOf allCells allToks)

theorem cells_eq (Φ : GSem nD τ sig → sProp 𝕄) : bigSep allCells Φ
    = bigSep Finset.univ fun c : Dev nD => iprop((bigSep Finset.univ fun x : CI => Φ (xcell c x)) ∗ Φ (barCell c)) := by
  unfold allCells
  rw [bigSep_map, bigSep_univ_sum, bigSep_univ_prod, zip]
  rfl

theorem toks_eq (Φ : GSem nD τ sig × ℕ × Bool → sProp 𝕄) : bigSep allToks Φ
    = bigSep Finset.univ fun c : Dev nD => iprop((bigSep Finset.univ fun x : CI => Φ (xcell c x, 0, false))
        ∗ Φ (barCell c, 0, false) ∗ Φ (barCell c, 0, true)) := by
  unfold allToks
  rw [bigSep_map, bigSep_univ_sum, bigSep_univ_prod, bigSep_univ_prod, zip]
  have h (c : Dev nD) : (bigSep Finset.univ fun b : Bool => Φ (barCell c, 0, b))
      = iprop(Φ (barCell c, 0, false) ∗ Φ (barCell c, 0, true)) := by
    rw [bigSep_univ_eq_bigSepL [false, true] (by decide) (by decide)]
    simp only [bigSepL_cons_cons, bigSepL_singleton]
    rfl
  exact congrArg _ (bigSep_congr fun c _ => h c)

/-! ## What a device gets first -/

def marks : sProp 𝕄 :=
  iprop((bigSep Finset.univ fun x : CI => reached ER (xcell c x) 0) ∗ reached ER (barCell c) 0)
def places₀ : sProp 𝕄 :=
  iprop((bigSep Finset.univ fun x : CI => atPos ER (xcell c x) 0 ∅ 0) ∗ atPos ER (barCell c) 0 ∅ 0)
def toks : sProp 𝕄 :=
  iprop((bigSep Finset.univ fun x : CI => dutyTok ER (xcell c x) 0 false)
    ∗ dutyTok ER (barCell c) 0 false ∗ dutyTok ER (barCell c) 0 true)
def states : sProp 𝕄 :=
  iprop((bigSep Finset.univ fun x : CI => roundState ER (sched A B) (xcell c x) 0)
    ∗ roundState ER (sched A B) (barCell c) 0)

def G : sProp 𝕄 := iprop(states A B c ∗ marks c ∗ places₀ c ∗ toks c)

theorem fund_ring : BI.own (ER (initOf allCells allToks)) ⊢ (|==> bigSep Finset.univ (G A B) : sProp 𝕄) := by
  iintro HX
  imod (Rounds.fund ER (sched A B) allCells allToks) $$ HX with ⟨Hs, Hr, Ha, Ht⟩
  imodintro
  ihave Hs := (Entails.of_eq (cells_eq fun g => roundState ER (sched A B) g 0)) $$ Hs
  ihave Ha := (Entails.of_eq (cells_eq fun g => atPos ER g 0 ∅ 0)) $$ Ha
  ihave Hr := (Entails.of_eq (cells_eq fun g => reached ER g 0)) $$ Hr
  ihave Ht := (Entails.of_eq (toks_eq fun x => dutyTok ER x.1 x.2.1 x.2.2)) $$ Ht
  unfold G states marks places₀ toks
  simp only [bigSep_sep']
  isplitl [Hs]
  · iexact Hs
  isplitl [Hr]
  · iexact Hr
  isplitl [Ha]
  · iexact Ha
  iexact Ht

/-! ## The records -/

theorem unscoped_eq : (unscopedSems0 c : sProp 𝕄) = semVal (barCell c) 0 := by
  unfold unscopedSems0
  rw [bigSep_eq_bigSepL_of_eq [SemLoc.reg barS] (by decide) (by decide)]
  rfl

theorem own_eq : (Pipeline.ownSems0 (Ix := Unit) (Name := ℕ) (U := UU) (Lvl := ℕ) (Val := Elt F) (τ := τ) osem c : sProp 𝕄)
    = bigSep Finset.univ fun x : CI => semVal (xcell c x) 0 := rfl

theorem open_cell (g : GSem nD τ sig) : iprop(semVal g 0 ∗ roundState ER (sched A B) g 0)
    ⊢ (|={Set.univ}=> iprop(∃ κ : ℕ, cellInv ER (sched A B) κ g) : sProp 𝕄) :=
  via (Rounds.body_intro ER (sched A B) g) inv_alloc

theorem open_cells : iprop((bigSep Finset.univ fun x : CI => semVal (xcell c x) 0)
      ∗ bigSep Finset.univ fun x : CI => roundState ER (sched A B) (xcell c x) 0)
    ⊢ (|={Set.univ}=> bigSep Finset.univ fun x : CI => iprop(∃ κ : ℕ, cellInv ER (sched A B) κ (xcell c x)) : sProp 𝕄) :=
  via (Entails.of_eq (zip _ _ _).symm) (via (each fun x _ => open_cell A B (xcell c x)) (bigSep_fupd _ _))

/-- The records of one device's cells. -/
def myRecs : sProp 𝕄 :=
  iprop((bigSep Finset.univ fun x : CI => iprop((∃ κ : ℕ, cellInv ER (sched A B) κ (xcell c x)) ∗ reached ER (xcell c x) 0))
    ∗ ((∃ κ : ℕ, cellInv ER (sched A B) κ (barCell c)) ∗ reached ER (barCell c) 0))

theorem recs_eq : (bigSep Finset.univ fun c : Dev nD => myRecs A B c) = recs A B := by
  unfold myRecs recs
  rw [zip, bigSep_univ_prod]

theorem core_alloc :
    iprop(Pipeline.ownSems0 (Ix := Unit) (Name := ℕ) (U := UU) (Lvl := ℕ) (Val := Elt F) (τ := τ) osem c ∗ unscopedSems0 c ∗ G A B c)
      ⊢ |={Set.univ}=> iprop(myRecs A B c ∗ places₀ c ∗ toks c) := by
  rw [own_eq, unscoped_eq]
  unfold G states marks myRecs
  iintro ⟨Hv, Hb, ⟨Hs, Hsb⟩, ⟨Hr, Hrb⟩, Ha, Ht⟩
  imod (open_cells A B c) $$ [Hv Hs] with HI
  · isplitl [Hv] <;> iassumption
  imod (open_cell A B (barCell c)) $$ [Hb Hsb] with HJ
  · isplitl [Hb] <;> iassumption
  imodintro
  isplitr [Ha Ht]
  · isplitl [HI Hr]
    · rw [bigSep_sep']
      isplitl [HI] <;> iassumption
    isplitl [HJ] <;> iassumption
  isplitl [Ha] <;> iassumption

/-! ## The tokens go to those who pay -/

/-- Stage `k` of stream `i` before its transfer starts, its credit apart. -/
def early (i : Fin 4) (k : ℕ) (c : Dev nD) : sProp 𝕄 :=
  iprop(dutyTok ER (cell 0 c i k) 0 false ∗ dutyTok ER (cell 1 (peer i c) i k) 0 false
    ∗ atPos ER (cell 0 c i k) 0 ∅ 0 ∗ atPos ER (cell 1 c i k) 0 ∅ 0)

def paying : sProp 𝕄 :=
  iprop(((bigSep (Finset.range 62) fun k => q4 fun i => dutyTok ER (cell 0 c i k) 0 false)
      ∗ bigSep (Finset.range 62) fun k => q4 fun i => dutyTok ER (cell 1 (peer i c) i k) 0 false)
    ∗ dutyTok ER (barCell (left c)) 0 false ∗ dutyTok ER (barCell (right c)) 0 true)

theorem toks_spread : (toks c : sProp 𝕄)
    = iprop(((bigSep (Finset.range 62) fun k => q4 fun i => dutyTok ER (cell 0 c i k) 0 false)
      ∗ bigSep (Finset.range 62) fun k => q4 fun i => dutyTok ER (cell 1 c i k) 0 false)
    ∗ dutyTok ER (barCell c) 0 false ∗ dutyTok ER (barCell c) 0 true) := by
  unfold toks
  rw [spread fun d i k => dutyTok ER (cell d c i k) 0 false]
  simp only [q4_sep]
  rw [zip]

theorem toks_around : (bigSep Finset.univ fun c : Dev nD => toks c : sProp 𝕄) = bigSep Finset.univ fun c : Dev nD => paying c := by
  unfold paying
  simp only [toks_spread]
  rw [zip, zip, zip, zip, zip, zip,
    Shares.turn 62 fun i k c => (dutyTok ER (cell 1 c i k) 0 false : sProp 𝕄),
    bigSep_univ_equiv (around 2) fun c : Dev nD => (dutyTok ER (barCell c) 0 false : sProp 𝕄),
    bigSep_univ_equiv (around 0) fun c : Dev nD => (dutyTok ER (barCell c) 0 true : sProp 𝕄)]
  rfl

/-- What a device is dealt. -/
def dealt : sProp 𝕄 :=
  iprop((dutyTok ER (barCell (left c)) 0 false ∗ dutyTok ER (barCell (right c)) 0 true ∗ atPos ER (barCell c) 0 ∅ 0)
    ∗ bigSep (Finset.range 62) fun k => q4 fun i => early i k c)

theorem dealt_intro : iprop(places₀ c ∗ paying c) ⊢ (dealt c : sProp 𝕄) := by
  unfold places₀ paying dealt early
  rw [spread fun d i k => atPos ER (cell d c i k) 0 ∅ 0]
  simp only [q4_sep, bigSep_sep']
  iintro ⟨⟨⟨Ha, Hb⟩, Hp⟩, ⟨Ht, Hu⟩, Hl, Hr⟩
  isplitl [Hl Hr Hp]
  · isplitl [Hl]; · iexact Hl
    isplitl [Hr] <;> iassumption
  isplitl [Ht]; · iexact Ht
  isplitl [Hu]; · iexact Hu
  isplitl [Ha] <;> iassumption

def G' : sProp 𝕄 := iprop(recs A B ∗ dealt c)

theorem regroup : (bigSep Finset.univ fun c : Dev nD => iprop(myRecs A B c ∗ places₀ c ∗ toks c))
    ⊢ bigSep Finset.univ (G' A B) := by
  rw [zip, recs_eq, zip, toks_around]
  iintro ⟨#HR, Ha, Ht⟩
  iapply (beside (R := recs A B) (Φ := fun c : Dev nD => iprop(places₀ c ∗ paying c)) fun c _ =>
    show _ ⊢ G' A B c from onRight (dealt_intro c))
  isplitr; · iexact HR
  rw [bigSep_sep']
  isplitl [Ha] <;> iassumption

theorem glob : (bigSep Finset.univ fun c : Dev nD =>
      iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  via (via (each fun c _ => core_alloc A B c) (bigSep_fupd _ _)) (BI.fupd_mono (regroup A B))

/-! ## The credit -/

/-- What a device waits for altogether. -/
def due (c : Dev nD) : CellTallies nD τ sig Unit :=
  tallyAt (barCell c) () 2 + ∑ k ∈ Finset.range 62, ∑ i : Fin 4, tallyAt (cell 1 c i k) () N

theorem Ow_stages (c : Dev nD) : Ow c 0 = ∑ k ∈ Finset.range 62, ∑ i : Fin 4, tallyAt (cell 1 (peer i c) i k) () N := by
  unfold Ow
  rw [show 248 = 4 * 62 from rfl, sum_stages]
  refine Finset.sum_congr rfl fun k _ => Finset.sum_congr rfl fun i _ => ?_
  have hi := i.isLt
  have h1 : nth (4 * k + i.val) = i := Fin.ext (by show (4 * k + i.val) % 4 = i.val; omega)
  have h2 : (4 * k + i.val) / 4 = k := by omega
  rw [h1, h2]

theorem sum_around (i : Fin 4) (f : Dev nD → CellTallies nD τ sig Unit) : ∑ c, f (peer i c) = ∑ c, f c :=
  Equiv.sum_comp (around i) f

theorem sum_due : (∑ c : Dev nD, O₀ c) = ∑ c : Dev nD, due c := by
  have hr : ∑ c : Dev nD, (tallyAt (barCell (right c)) () 1 : CellTallies nD τ sig Unit) = ∑ c : Dev nD, tallyAt (barCell c) () 1 :=
    sum_around 0 fun c => tallyAt (barCell c) () 1
  have hl : ∑ c : Dev nD, (tallyAt (barCell (left c)) () 1 : CellTallies nD τ sig Unit) = ∑ c : Dev nD, tallyAt (barCell c) () 1 :=
    sum_around 2 fun c => tallyAt (barCell c) () 1
  have hw : ∑ c : Dev nD, Ow c 0 = ∑ c : Dev nD, ∑ k ∈ Finset.range 62, ∑ i : Fin 4, tallyAt (cell 1 c i k) () N := by
    simp only [Ow_stages]
    rw [Finset.sum_comm, Finset.sum_comm (s := (Finset.univ : Finset (Dev nD))) (t := Finset.range 62)]
    refine Finset.sum_congr rfl fun k _ => ?_
    rw [Finset.sum_comm, Finset.sum_comm (s := (Finset.univ : Finset (Dev nD)))]
    exact Finset.sum_congr rfl fun i _ => sum_around i fun c => tallyAt (cell 1 c i k) () N
  have h2 (c : Dev nD) : (tallyAt (barCell c) () 2 : CellTallies nD τ sig Unit) = tallyAt (barCell c) () 1 + tallyAt (barCell c) () 1 := by
    rw [tallyAt_add]
  unfold O₀ O₁ due
  simp only [h2]
  rw [Finset.sum_add_distrib, Finset.sum_add_distrib, Finset.sum_add_distrib, Finset.sum_add_distrib, hr, hl, hw]
  exact (add_assoc _ _ _).trans (add_comm _ _)

theorem due_own (c : Dev nD) (g : GSem nD τ sig) (h : due c g ≠ 0) : g.1 = tcOf c := by
  by_contra hn
  refine h ?_
  unfold due
  rw [Pi.add_apply, tallyAt_ne_cell (fun e => hn (congrArg Prod.fst e)), zero_add, Finset.sum_apply]
  refine Finset.sum_eq_zero fun k _ => ?_
  rw [Finset.sum_apply]
  exact Finset.sum_eq_zero fun i _ => tallyAt_ne_cell (fun e => hn (congrArg Prod.fst e)) _ _

theorem creds : (Pipeline.launchCred O₀ c : sProp 𝕄) ⊢ iprop(cred (tallyAt (barCell c) () 2)
    ∗ bigSep (Finset.range 62) fun k => q4 fun i => cred (tallyAt (cell 1 c i k) () N)) := by
  rw [Pipeline.launchCred_of_sum O₀ due sum_due due_own c]
  unfold due
  refine via (cred_add _ _).1 (onRight ?_)
  rw [Pipeline.cred_finsetSum]
  refine each fun k _ => ?_
  rw [Pipeline.cred_finsetSum, q4_eq]

end Cert.Proof.Ideal

end
-- ==== Proof.IdealRun.lean ====
/-
  The launch: from any memory with all counters at zero, every run ends with the arrays at their final contents and all
  counters at zero again.
-/
module

public import proofs.«01_k».proof.Proof.IdealDeal
public import Idealize.ShloMosaic.Lib.Pipeline.CollectiveSegs

@[expose] public section

noncomputable section

namespace Cert.Proof.Ideal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Cert.Proof.Ring Cert.Proof.Region Cert.Proof.Fold Cert.Proof.Shares

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem stage_small : ∀ (w : Fin 3) (s : Fin (spec0 w).nbuf), ((spec0 w).sem s).val < 3 := by decide

theorem scoped_dma : ∀ s : DmaSem sig, (SemLoc.dma s : SemLoc sig).isScoped .tc = true := by decide +kernel

theorem ownSemFacts : Pipeline.OwnSemFacts cfg0.spec osem where
  isScoped x := scoped_dma _
  inj := osem_inj
  disj x w s h := by
    have h1 : sem x.1 x.2.1 x.2.2.val = (spec0 w).sem s := SemLoc.dma.inj h
    have h2 := sem_ge x.1 x.2.1 x.2.2.isLt
    have h3 := stage_small w s
    rw [h1] at h2
    exact absurd h3 (Nat.not_lt.2 h2)

theorem share_eq (w : Fin cfg0.W) : (dats m ρ 0 c).share w = fullShare := by unfold Dat.share; split <;> rfl

theorem pend_intro (i : Fin 4) (k : ℕ) : iprop(early i k c ∗ cred (tallyAt (cell 1 c i k) () N)) ⊢ (pend i k c : sProp 𝕄) := by
  unfold early pend
  iintro ⟨⟨H0, H1, H2, H3⟩, H4⟩
  isplitl [H0]; · iexact H0
  isplitl [H1]; · iexact H1
  isplitl [H2]; · iexact H2
  isplitl [H3] <;> iassumption

theorem pends_intro : iprop((bigSep (Finset.range 62) fun k => q4 fun i => early i k c)
      ∗ bigSep (Finset.range 62) fun k => q4 fun i => cred (tallyAt (cell 1 c i k) () N))
    ⊢ (bigSep (Finset.range 62) fun k => q4 fun i => pend i k c : sProp 𝕄) :=
  via (Entails.of_eq (zip _ _ _).symm) (each fun k _ =>
    via (Entails.of_eq (q4_sep _ _).symm) (q4_mono fun i => pend_intro c i k))

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (inA m) (inB m) c)
      ⊢ |={Set.univ}=> iprop(start m c ∗ emp) := by
  unfold G' dealt
  iintro ⟨-, Hlev, Hcr, -, HR, ⟨Hl, Hr, Hb⟩, He⟩
  ihave Hc := (creds (F := F) c) $$ Hcr
  icases Hc with ⟨H2, HN⟩
  imodintro
  isplitl
  · unfold start known meeting
    isplitl [HR Hlev]
    · isplitl [HR] <;> iassumption
    isplitl [Hl Hr Hb H2]
    · isplitl [Hl]; · iexact Hl
      isplitl [Hr]; · iexact Hr
      isplitl [Hb] <;> iassumption
    iapply (pends_intro c)
    isplitl [He] <;> iassumption
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, landings_eq]
  unfold Φ₀
  iintro ⟨Hs, -, Hl⟩
  isplitl [Hs] <;> iassumption

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, landings_eq, own_eq, unscoped_eq,
    spread fun d i k => semVal (cell d c i k) 0]
  unfold Φ₁ over
  exact .rfl

theorem waits : (levAts L lv : sProp 𝕄) ⊢ Pipeline.cellsWaits cfgs (dats m ρ) () 0 c :=
  Pipeline.cellsWaits_intro cfgs (dats m ρ) () 0 c fun w s t =>
    mayWait_stage F c _ (stage_small w s) _ (by
      rcases t with ⟨_ | _, ht⟩
      · exact Or.inl rfl
      · exact Or.inr rfl)

/-! ## The run -/

/-- What the arrays hold at the end. -/
def finalA (c : Dev nD) (w : Fin cfg0.W) : Buf (Elt F) ((cfg0.win w).arr.view.loc (c : Thread nD τ)) :=
  (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body in
set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inA m) (inB m)) (G' := G' (inA m) (inB m)) (u₀ := u₀)
    (hu₀ := by
      unfold u₀
      iintro Hu
      ihave H := (ownU_pair _ _) $$ Hu
      icases H with ⟨HP, HX⟩
      imod (fund_ring (inA m) (inB m)) $$ HX with HG
      imodintro
      isplitl [HP] <;> iassumption)
    (hglob := glob (inA m) (inB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The left factor's columns are as they were, -/
theorem finalA_a : finalA m ρ c (0 : Fin 3) = (s₀ m ρ).mem (win0_0.arr.view.loc (c : Thread nD τ)) :=
  (dats (F := F) m ρ 0 c).arrAt_in (0 : Fin 3) rfl _
/-- and the right factor's rows. -/
theorem finalA_b : finalA m ρ c (1 : Fin 3) = (s₀ m ρ).mem (win0_1.arr.view.loc (c : Thread nD τ)) :=
  (dats (F := F) m ρ 0 c).arrAt_in (1 : Fin 3) rfl _

end Cert.Proof.Ideal

end
-- ==== Proof.IdealResult.lean ====
/-
  The memory at the start and at the end: each device's inputs are its whole argument arrays, and the result array ends
  holding the finished result.
-/
module

public import proofs.«01_k».proof.Proof.IdealRun
public import Idealize.ShloMosaic.Lib.Pipeline.Value

@[expose] public section

noncomputable section

namespace Cert.Proof.Ideal

open Cert.KernelIdeal Cert.KernelIdeal.Gen
open Idealize.ShloMosaic Idealize.ShloMosaic.TcCoe Idealize.SL.Sem
open Idealize.ShloMosaic.Pipeline

variable {F : FTy → Type} [FloatOps F]

variable (m : (ℓ : Loc nD τ sig) → Buf (Elt F) ℓ) (ρ : Dev nD → PrngReg) (c : Dev nD)

/-- The one block of each array is the array. -/
theorem read_out (f : S2048x2048.Idx → Elt F .f32) (t : Fin cfg0.N) : ((cfg0.win 2).blk t).view.read (Elt F) f = f := by
  obtain rfl := fin_N0 t
  funext y
  refine congrArg f (funext fun a => Fin.ext ?_)
  fin_cases a
  · show 0 + 1 * (y 0).val = (y 0).val; omega
  · show 0 + 1 * (y 1).val = (y 1).val; omega

theorem inA_eq : inA m c = m ((c.tc : Thread nD τ).loc main_arg0) := by
  funext y
  refine congrArg (m ((c.tc : Thread nD τ).loc main_arg0)) (funext fun a => Fin.ext ?_)
  fin_cases a
  · show 0 + 1 * (y 0).val = (y 0).val; omega
  · show 0 + 1 * (y 1).val = (y 1).val; omega

theorem inB_eq : inB m c = m ((c.tc : Thread nD τ).loc main_arg1) := by
  funext y
  refine congrArg (m ((c.tc : Thread nD τ).loc main_arg1)) (funext fun a => Fin.ext ?_)
  fin_cases a
  · show 0 + 1 * (y 0).val = (y 0).val; omega
  · show 0 + 1 * (y 1).val = (y 1).val; omega

theorem flushed_out (t : Fin cfg0.N) :
    (dats m ρ 0 c).flushed 2 t = ((cfg0.win 2).blk t).view.read (Elt F) (done (inA m) (inB m)) := by
  rw [read_out]
  obtain rfl := fin_N0 t
  rfl

theorem out_cover (i : S2048x2048.Idx) : ∃ t : Fin cfg0.N, (cfg0.win 2).flush t = true ∧ i ∈ ((cfg0.win 2).blk t).view.set := by
  refine ⟨t0_0, by decide, ?_⟩
  have e : ((cfg0.win 2).blk t0_0).view.emb i = i := by
    funext a
    apply Fin.ext
    fin_cases a
    · show 0 + 1 * (i 0).val = (i 0).val; omega
    · show 0 + 1 * (i 1).val = (i 1).val; omega
  have h := ((cfg0.win 2).blk t0_0).view.emb_mem_set i
  rw [e] at h
  exact h

/-- The result array ends holding the finished result. -/
theorem finalA_o : finalA m ρ c (2 : Fin 3) = done (inA m) (inB m) :=
  (dats m ρ 0 c).arrAt_eq_of_cover 2 (done (inA m) (inB m)) (fun t _ => flushed_out m ρ c t) out_cover

/-- Every run ends with the result array at the finished result, the arguments unchanged and all counters at zero. -/
theorem run_out : θ_run defs (onTc (τ := τ) (main (F := F))) (s₀ m ρ) (fun r => (∀ c : Dev nD,
    r.2.mem ((c.tc : Thread nD τ).loc main_v1) = done (inA m) (inB m)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (finalA_o m ρ c),
    (h.1 c (0 : Fin 3)).trans (finalA_a m ρ c), (h.1 c (1 : Fin 3)).trans (finalA_b m ρ c)⟩, h.2⟩) (run_main m ρ)

end Cert.Proof.Ideal

end
-- ==== Proof.Around.lean ====
/-
  Sums around the ring. A sum that gathers one more device at each step to a neighbour has, after thirty-two devices, gathered
  every device once.
-/
module

public import proofs.«01_k».proof.Proof.Ring
public import Mathlib.Algebra.BigOperators.Fin
public import Mathlib.Data.Fintype.BigOperators

@[expose] public section

namespace Cert.Proof.Around

open Cert.Proof.Ring

/-- Thirty-two steps to a neighbour visit every device once. -/
theorem visits (i : Fin 4) (c : Fin 32) : Function.Bijective fun n : Fin 32 => (peer i)^[n.val] c := by
  revert i c; decide +kernel

variable {M : Type} [AddCommMonoid M]

theorem sum_around (i : Fin 4) (c : Fin 32) (f : Fin 32 → M) :
    (∑ n ∈ Finset.range 32, f ((peer i)^[n] c)) = ∑ d, f d := by
  rw [Finset.sum_range]
  exact (visits i c).sum_comp f

/-- The sum a device has gathered after some steps. -/
theorem sum_steps (i : Fin 4) (f : Fin 32 → M) (g : ℕ → Fin 32 → M) (h0 : ∀ c, g 0 c = f c)
    (hs : ∀ k c, g (k + 1) c = f c + g k (peer i c)) (k : ℕ) :
    ∀ c, g k c = ∑ n ∈ Finset.range (k + 1), f ((peer i)^[n] c) := by
  induction k with
  | zero => intro c; rw [Finset.sum_range_one]; exact h0 c
  | succ k ih =>
    intro c
    rw [hs, ih, Finset.sum_range_succ' _ (k + 1), add_comm]
    rfl

theorem sum_all (i : Fin 4) (f : Fin 32 → M) (g : ℕ → Fin 32 → M) (h0 : ∀ c, g 0 c = f c)
    (hs : ∀ k c, g (k + 1) c = f c + g k (peer i c)) (c : Fin 32) : g 31 c = ∑ d, f d :=
  (sum_steps i f g h0 hs 31 c).trans (sum_around i c f)

/-- A sum over a long range, cut in thirty-two. -/
theorem sum_cut (f : Fin 32768 → M) :
    (∑ k, f k) = ∑ c : Fin 32, ∑ k : Fin 1024, f ⟨c.val * 1024 + k.val, by have h := c.isLt; have h' := k.isLt; omega⟩ := by
  have e := (finProdFinEquiv (m := 32) (n := 1024)).sum_comp f
  rw [Fintype.sum_prod_type] at e
  rw [← e]
  refine Finset.sum_congr rfl fun c _ => Finset.sum_congr rfl fun k _ => congrArg f (Fin.ext ?_)
  show k.val + 1024 * c.val = c.val * 1024 + k.val
  omega

end Cert.Proof.Around
-- ==== Proof.Equation.lean ====
/-
  The equation. At the ideal values a product of two blocks is a sum over the contracted positions of one device, the sum
  around the ring adds these over all devices, and the reference's product is the same sum taken at once. The activation is
  the same function of each element on both sides.
-/
module

public import proofs.«01_k».proof.Proof.IdealValues
public import proofs.«01_k».proof.Proof.Around
public import proofs.«01_k».proof.Proof.Gen.ReferenceIdeal.Run
public import Idealize.ShloMosaic.PureOps.Ideal.Laws
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.Proof.Equation

open Idealize.ShloMosaic Idealize.ShloMosaic.ValueIdx
open Cert.Proof.Ring Cert.Proof.Around Cert.Proof.Ideal

/-- The activation of one element. -/
def gelu (z : EReal) : EReal :=
  (Ideal.ofBits .f32 0x3F000000#32 * z) * (Ideal.ofBits .f32 0x3F800000#32
    + Ideal.tanh (Ideal.ofBits .f32 0x3F4C422A#32 * (z + Ideal.ofBits .f32 0x3D372713#32 * z * z * z)))

section Kernel

open Cert.KernelIdeal Cert.KernelIdeal.Gen

variable (A : Fin 32 → S2048x1024.Idx → EReal) (B : Fin 32 → S1024x2048.Idx → EReal)

/-- What one device adds to an element. -/
def dot (c : Fin 32) (x : S2048x2048.Idx) : EReal :=
  ∑ k : Fin 1024, A c (ix2 (n0 := 2048) (n1 := 1024) (x 0) k) * B c (ix2 (n0 := 1024) (n1 := 2048) k (x 1))

theorem arow_at (x : S2048x2048.Idx) (k : Fin 1024) :
    (arowRect (rowOf x)).emb (ix2 (n0 := 64) (n1 := 1024) ⟨(x 0).val % 64, Nat.mod_lt _ (by decide)⟩ k)
      = ix2 (n0 := 2048) (n1 := 1024) (x 0) k := by
  funext a
  apply Fin.ext
  fin_cases a
  · show 64 * ((x 0).val / 64) + 1 * ((x 0).val % 64) = (x 0).val; omega
  · show 0 + 1 * k.val = k.val; omega

theorem prod₀_apply (c : Fin 32) (x : S2048x2048.Idx) : prod₀ (F := Ideal) A B c x = dot A B c x := by
  unfold prod₀ dotFull
  rw [shapeCast_self, shapeCast_self]
  refine (Ideal.matmul_plain_apply (M := 64) (K := 1024) (N := 2048) none _ _ _ _ _).trans ?_
  show Ideal.ofBits .f32 0x00000000#32 + _ = _
  rw [Ideal.ofBits_zero_f32, zero_add]
  refine Finset.sum_congr rfl fun k _ => ?_
  rw [arow_at]
  refine congrArg (_ * B c ·) (funext fun a => Fin.ext ?_)
  fin_cases a
  · show 0 + 1 * k.val = k.val; omega
  · show 0 + 1 * (x 1).val = (x 1).val; omega

theorem prod_apply (c : Fin 32) (x : S2048x2048.Idx) : prod (F := Ideal) A B c x = dot A B c x := by
  unfold prod dotHalf
  rw [shapeCast_self, shapeCast_self]
  refine (Ideal.matmul_plain_apply (M := 64) (K := 1024) (N := 1024) none _ _ _ _ _).trans ?_
  show Ideal.ofBits .f32 0x00000000#32 + _ = _
  rw [Ideal.ofBits_zero_f32, zero_add]
  refine Finset.sum_congr rfl fun k _ => ?_
  rw [arow_at]
  refine congrArg (_ * B c ·) (funext fun a => Fin.ext ?_)
  fin_cases a
  · show 0 + 1 * k.val = k.val; omega
  · show 1024 * ((x 1).val / 512 / 2) + 1 * ((x 1).val % 1024) = (x 1).val; omega

/-- The sums over all devices. -/
theorem total_apply (x : S2048x2048.Idx) : total (F := Ideal) A B x = ∑ d, dot A B d x := by
  refine sum_all (mir (strmOf x)) (fun d => dot A B d x) (fun k c => part (F := Ideal) A B k c x) (fun c => prod₀_apply A B c x)
    (fun k c => ?_) _
  show prod (F := Ideal) A B c x + _ = _
  rw [prod_apply]

theorem half_at (x : S2048x2048.Idx) : (halfRect (halfOf x) (rowOf x)).emb (inHalf x) = x := by
  funext a
  apply Fin.ext
  fin_cases a
  · show 64 * ((x 0).val / 64) + 1 * ((x 0).val % 64) = (x 0).val; omega
  · show 1024 * ((x 1).val / 512 / 2) + 1 * ((x 1).val % 1024) = (x 1).val; omega

theorem act_apply (v : S64x1024.Idx → EReal) (y : S64x1024.Idx) : act (F := Ideal) v y = gelu (v y) := by
  unfold act
  rw [shapeCast_self]
  rfl

theorem done_apply (x : S2048x2048.Idx) : done (F := Ideal) A B x = gelu (∑ d, dot A B d x) := by
  unfold done
  rw [act_apply, half_at, total_apply]

end Kernel

section Reference

open Cert.ReferenceIdeal Cert.ReferenceIdeal.Gen

variable (X : S2048x32768.Idx → EReal) (Y : S32768x2048.Idx → EReal)

/-- The reference's result. -/
def refOut : S2048x2048.Idx → EReal := fun x =>
  gelu (∑ k : Fin 32768, X (ix2 (n0 := 2048) (n1 := 32768) (x 0) k) * Y (ix2 (n0 := 32768) (n1 := 2048) k (x 1)))

theorem ref_dot (x : S2048x2048.Idx) :
    Host.dotGeneral (F := Ideal) (φ₁ := .f32) (φ₂ := .f32) dot_S2048x32768_S32768x2048_S2048x2048_1_0_0_1_n_n none X Y x
      = ∑ k : Fin 32768, X (ix2 (n0 := 2048) (n1 := 32768) (x 0) k) * Y (ix2 (n0 := 32768) (n1 := 2048) k (x 1)) := by
  conv_lhs => rw [eq_ix2 (n0 := 2048) (n1 := 2048) x]
  exact Idealize.ShloMosaic.StackMember.dotGeneral_plain_apply (m := 2048) (k := 32768) (n := 2048) none X Y (x 0) (x 1)

/-- The reference's operations on its product, read at an element. -/
theorem gelu_apply (z : S2048x2048.Idx → EReal) (x : S2048x2048.Idx) :
    (mulf (mulf (broadcastInDim S2048x2048 ![] bcast_S_S2048x2048 (constant S_ .f32 0x3F000000#32)) z) (addf
      (broadcastInDim S2048x2048 ![] bcast_S_S2048x2048 (constant S_ .f32 0x3F800000#32)) (Host.tanh (mulf
      (broadcastInDim S2048x2048 ![] bcast_S_S2048x2048 (constant S_ .f32 0x3F4C422A#32)) (addf z (mulf (mulf (mulf
      (broadcastInDim S2048x2048 ![] bcast_S_S2048x2048 (constant S_ .f32 0x3D372713#32)) z) z) z)))))
      : FVec Ideal S2048x2048 .f32) x = gelu (z x) := rfl

theorem refOut_eq :
    mulf (mulf (broadcastInDim S2048x2048 ![] bcast_S_S2048x2048 (constant S_ .f32 0x3F000000#32)) (Host.dotGeneral (F
      := Ideal) (φ₁ := .f32) (φ₂ := .f32) dot_S2048x32768_S32768x2048_S2048x2048_1_0_0_1_n_n none X Y)) (addf
      (broadcastInDim S2048x2048 ![] bcast_S_S2048x2048 (constant S_ .f32 0x3F800000#32)) (Host.tanh (mulf
      (broadcastInDim S2048x2048 ![] bcast_S_S2048x2048 (constant S_ .f32 0x3F4C422A#32)) (addf (Host.dotGeneral (F :=
      Ideal) (φ₁ := .f32) (φ₂ := .f32) dot_S2048x32768_S32768x2048_S2048x2048_1_0_0_1_n_n none X Y) (mulf (mulf (mulf
      (broadcastInDim S2048x2048 ![] bcast_S_S2048x2048 (constant S_ .f32 0x3D372713#32)) (Host.dotGeneral (F := Ideal)
      (φ₁ := .f32) (φ₂ := .f32) dot_S2048x32768_S32768x2048_S2048x2048_1_0_0_1_n_n none X Y)) (Host.dotGeneral (F :=
      Ideal) (φ₁ := .f32) (φ₂ := .f32) dot_S2048x32768_S32768x2048_S2048x2048_1_0_0_1_n_n none X Y)) (Host.dotGeneral (F
      := Ideal) (φ₁ := .f32) (φ₂ := .f32) dot_S2048x32768_S32768x2048_S2048x2048_1_0_0_1_n_n none X Y))))))
      = refOut X Y :=
  funext fun x => (gelu_apply _ x).trans (congrArg gelu (ref_dot X Y x))

/-- With the factors cut in blocks, the kernel's result is the reference's. -/
theorem done_eq (A : Fin 32 → Cert.KernelIdeal.S2048x1024.Idx → EReal) (B : Fin 32 → Cert.KernelIdeal.S1024x2048.Idx → EReal)
    (hA : ∀ c, A c = Layout.block ⟨2, ![2048, 1024]⟩ ⟨2, ![2048, 32768]⟩ 1 32 c X)
    (hB : ∀ c, B c = Layout.block ⟨2, ![1024, 2048]⟩ ⟨2, ![32768, 2048]⟩ 0 32 c Y) : done (F := Ideal) A B = refOut X Y := by
  funext x
  rw [done_apply, refOut, sum_cut]
  refine congrArg gelu (Finset.sum_congr rfl fun c _ => Finset.sum_congr rfl fun k _ => ?_)
  rw [hA, hB, Layout.block_apply, Layout.block_apply]
  refine congrArg₂ (X · * Y ·) (funext fun a => Fin.ext ?_) (funext fun a => Fin.ext ?_)
  · fin_cases a <;> rfl
  · fin_cases a <;> rfl

end Reference

end Cert.Proof.Equation

end
-- ==== Proof.lean ====
/-
  The five claims: the kernel, the kernel at the ideal values and the reference run to an end with their arguments unchanged
  and all counters at zero; the kernel at the ideal values is the kernel's own text; and from equal arguments, the left factor
  cut by columns and the right one by rows over the thirty-two devices, the kernel leaves on every device the whole of what
  the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RealResult
public import proofs.«01_k».proof.Proof.IdealResult
public import proofs.«01_k».proof.Proof.Equation
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).2, h.2⟩) (Real.run_out (F := Bits) m g)

theorem frame_ideal : Cert.quiescent_KernelIdeal := fun m g _ =>
  (θ_run Cert.KernelIdeal.defs _ _).mono (fun _ h => ⟨fun c => (h.1 c).2, h.2⟩) (Ideal.run_out (F := Ideal) m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's operations, read at an element. -/
theorem reference_eq (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread _ _).loc Cert.ReferenceIdeal.main_v13)
          = Equation.refOut (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run Cert.ReferenceIdeal.defs _ _).mono (fun _ h c => ⟨(h c).1.trans (Equation.refOut_eq _ _), (h c).2⟩)
    (Cert.ReferenceIdeal.Value.run (F := Ideal) m g)

theorem value : Cert.algebraic_KernelIdeal_ReferenceIdeal := fun m g m' g' _ hm =>
  ⟨Equation.refOut (m' (((0 : Dev Cert.ReferenceIdeal.nD).tc : Thread _ _).loc Cert.ReferenceIdeal.main_arg0))
      (m' (((0 : Dev Cert.ReferenceIdeal.nD).tc : Thread _ _).loc Cert.ReferenceIdeal.main_arg1)),
    (θ_run Cert.KernelIdeal.defs _ _).mono (fun _ h c => ⟨(h.1 c).1.trans (Equation.done_eq _ _ _ _
        (fun d => (Ideal.inA_eq m d).trans (hm d).1) (fun d => (Ideal.inB_eq m d).trans (hm d).2)), (h.1 c).2⟩)
      (Ideal.run_out (F := Ideal) m g),
    (θ_run Cert.ReferenceIdeal.defs _ _).mono (fun _ h => h 0) (reference_eq m' g')⟩

theorem claim : Cert.Claim :=
  ⟨Cert.Kernel.Gen.facts, Cert.KernelIdeal.Gen.facts, Cert.ReferenceIdeal.Gen.facts, frame_kernel, frame_ideal, frame_reference,
    trivial, value⟩

end Cert.Proof

end
